-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Kernel2_Kernel2Ideal
    ∧ algebraic_Kernel2Ideal_Reference2Ideal (hKernel2Ideal := hKernel2Ideal) (hReference2Ideal := hReference2Ideal)
-- ==== Pre_finite_router.lean ====
abbrev S32768x1024 : Shape := ⟨2, ![32768, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32768x1024 .f32) (main_arg1 : FVec F S1024x4 .f32) (main_arg2 : FVec F S4 .f32) (main_arg3 : FVec F S1024x16 .f32) (main_arg4 : FVec F S16 .f32) (main_arg5 : FVec F S16x1024x512 .f32) (main_arg6 : FVec F S16x1024x512 .f32) (main_arg7 : FVec F S16x512x1024 .f32) (main_arg8 : FVec F S1024 .f32) (main_arg9 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_v13 main_v16
-- ==== Kernel.lean ====
abbrev S32768x1024 : Shape := ⟨2, ![32768, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S128 : Shape := ⟨1, ![128]⟩
abbrev S1x128 : Shape := ⟨2, ![1, 128]⟩
abbrev S1x1024 : Shape := ⟨2, ![1, 1024]⟩
abbrev S1024x1024 : Shape := ⟨2, ![1024, 1024]⟩
abbrev S2x1024x512 : Shape := ⟨3, ![2, 1024, 512]⟩
abbrev S2x512x1024 : Shape := ⟨3, ![2, 512, 1024]⟩
abbrev S1024x1 : Shape := ⟨2, ![1024, 1]⟩
abbrev S1536x1024 : Shape := ⟨2, ![1536, 1024]⟩
abbrev S1536x128 : Shape := ⟨2, ![1536, 128]⟩
abbrev S8 : Shape := ⟨1, ![8]⟩
abbrev S1024x256 : Shape := ⟨2, ![1024, 256]⟩
abbrev S1x1x128 : Shape := ⟨3, ![1, 1, 128]⟩
abbrev S1 : Shape := ⟨1, ![1]⟩
abbrev S1x1x1 : Shape := ⟨3, ![1, 1, 1]⟩
abbrev S128x1024 : Shape := ⟨2, ![128, 1024]⟩
abbrev S1536x256 : Shape := ⟨2, ![1536, 256]⟩
abbrev S384x1024 : Shape := ⟨2, ![384, 1024]⟩
abbrev S384x128 : Shape := ⟨2, ![384, 128]⟩
abbrev S1x1024x512 : Shape := ⟨3, ![1, 1024, 512]⟩
abbrev S1024x512 : Shape := ⟨2, ![1024, 512]⟩
abbrev S384x512 : Shape := ⟨2, ![384, 512]⟩
abbrev S384 : Shape := ⟨1, ![384]⟩
abbrev S384x1 : Shape := ⟨2, ![384, 1]⟩
abbrev S1x512x1024 : Shape := ⟨3, ![1, 512, 1024]⟩
abbrev S512x1024 : Shape := ⟨2, ![512, 1024]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S128x128 : Shape := ⟨2, ![128, 128]⟩
abbrev S128x512 : Shape := ⟨2, ![128, 512]⟩
abbrev S128x1 : Shape := ⟨2, ![128, 1]⟩
abbrev S1024x1536 : Shape := ⟨2, ![1024, 1536]⟩

abbrev nBuf : Space → Nat
  | .hbm => 25
  | .vmem => 19
  | .smem => 1
  | _ => 0

abbrev bufTy : (tb : Table) → Fin (tcTables nBuf tb) → BufTy
  | .hbm, ⟨0, _⟩ => ⟨S32768x1024, .f32⟩
  | .hbm, ⟨1, _⟩ => ⟨S1024x4, .f32⟩
  | .hbm, ⟨2, _⟩ => ⟨S4, .f32⟩
  | .hbm, ⟨3, _⟩ => ⟨S1024x16, .f32⟩
  | .hbm, ⟨4, _⟩ => ⟨S16, .f32⟩
  | .hbm, ⟨5, _⟩ => ⟨S16x1024x512, .f32⟩
  | .hbm, ⟨6, _⟩ => ⟨S16x1024x512, .f32⟩
  | .hbm, ⟨7, _⟩ => ⟨S16x512x1024, .f32⟩
  | .hbm, ⟨8, _⟩ => ⟨S1024, .f32⟩
  | .hbm, ⟨9, _⟩ => ⟨S1024, .f32⟩
  | .hbm, ⟨10, _⟩ => ⟨S1024x20, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S20, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16x1024x512, .bf16⟩
  | .hbm, ⟨20, _⟩ => ⟨S16x1024x512, .bf16⟩
  | .hbm, ⟨21, _⟩ => ⟨S16x512x1024, .bf16⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1x128, .f32⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x512x1024, .bf16⟩
  | .local _ .vmem, ⟨9, _⟩ => ⟨S2x512x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1, .f32⟩
  | .local _ .vmem, ⟨16, _⟩ => ⟨S1536x1024, .bf16⟩
  | .local _ .vmem, ⟨17, _⟩ => ⟨S1536x128, .f32⟩
  | .local _ .vmem, ⟨18, _⟩ => ⟨S1536x1024, .f32⟩
  | .local _ .smem, ⟨0, _⟩ => ⟨S8, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 8], ![false, false]⟩

def k0_off1 (i : grid0.Coords) : Fin 1 → Nat :=
  let arg1 : BitVec 32 := BitVec.ofNat 32 (i 1).val
  let c2_i32 : BitVec 32 := 2#32
  let v9 : BitVec 32 := Scalar.muli arg1 c2_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c4_i32 : BitVec 32 := 4#32
  let c0_i32_6 : BitVec 32 := 0#32
  let v16 : BitVec 1 := Scalar.cmpi .sgt c4_i32 c0_i32_6
  let v17 : BitVec 32 := Scalar.extui v16
  let c0_i32_7 : BitVec 32 := 0#32
  let v18 : BitVec 1 := Scalar.cmpi .slt c4_i32 c0_i32_7
  let v19 : BitVec 32 := Scalar.extui v18
  let v20 : BitVec 32 := Scalar.subi v17 v19
  let v21 : BitVec 1 := Scalar.cmpi .ne v15 v20
  let v22 : BitVec 32 := Scalar.remsi v9 c4_i32
  let c0_i32_8 : BitVec 32 := 0#32
  let v23 : BitVec 1 := Scalar.cmpi .ne v22 c0_i32_8
  let v24 : BitVec 1 := Scalar.andi v21 v23
  let v10 : BitVec 32 := Scalar.divsi v9 c4_i32
  let c1_i32 : BitVec 32 := 1#32
  let v25 : BitVec 32 := Scalar.subi v10 c1_i32
  let v26 : BitVec 32 := Scalar.select v24 v25 v10
  let v27 : Index := Scalar.indexCast v26
  ![v27.toNat]
def k0_off2 (i : grid0.Coords) : Fin 1 → Nat :=
  let c4_i32_9 : BitVec 32 := 4#32
  let arg1 : BitVec 32 := BitVec.ofNat 32 (i 1).val
  let c2_i32 : BitVec 32 := 2#32
  let v9 : BitVec 32 := Scalar.muli arg1 c2_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c4_i32 : BitVec 32 := 4#32
  let c0_i32_6 : BitVec 32 := 0#32
  let v16 : BitVec 1 := Scalar.cmpi .sgt c4_i32 c0_i32_6
  let v17 : BitVec 32 := Scalar.extui v16
  let c0_i32_7 : BitVec 32 := 0#32
  let v18 : BitVec 1 := Scalar.cmpi .slt c4_i32 c0_i32_7
  let v19 : BitVec 32 := Scalar.extui v18
  let v20 : BitVec 32 := Scalar.subi v17 v19
  let v21 : BitVec 1 := Scalar.cmpi .ne v15 v20
  let v22 : BitVec 32 := Scalar.remsi v9 c4_i32
  let c0_i32_8 : BitVec 32 := 0#32
  let v23 : BitVec 1 := Scalar.cmpi .ne v22 c0_i32_8
  let v24 : BitVec 1 := Scalar.andi v21 v23
  let v10 : BitVec 32 := Scalar.divsi v9 c4_i32
  let c1_i32 : BitVec 32 := 1#32
  let v25 : BitVec 32 := Scalar.subi v10 c1_i32
  let v26 : BitVec 32 := Scalar.select v24 v25 v10
  let v29 : BitVec 32 := Scalar.addi c4_i32_9 v26
  let v30 : Index := Scalar.indexCast v29
  ![v30.toNat]
def k0_mult1 (v28 : BitVec 32) : BitVec 32 :=
  let c128_i32 : BitVec 32 := 128#32
  let v41 : BitVec 32 := Scalar.muli v28 c128_i32
  v41
def k0_cond3 (v31 : BitVec 32) : BitVec 1 :=
  let c3_i32 : BitVec 32 := 3#32
  let v32 : BitVec 1 := Scalar.cmpi .eq v31 c3_i32
  let v33 : BitVec 32 := Scalar.extui v32
  let c0_i32_10 : BitVec 32 := 0#32
  let v34 : BitVec 1 := Scalar.cmpi .ne v33 c0_i32_10
  v34

def k0_off3 (v28 : BitVec 32) : Fin 2 → Nat :=
  let c128_i32 : BitVec 32 := 128#32
  let v41 : BitVec 32 := Scalar.muli v28 c128_i32
  let v42 : BitVec 32 := v41
  let v43 : Index := Scalar.indexCast v42
  let c0 : Index := 0#32
  ![v43.toNat, 0]
def k0_off4 (v28 : BitVec 32) : Fin 2 → Nat :=
  let c128_i32 : BitVec 32 := 128#32
  let v41 : BitVec 32 := Scalar.muli v28 c128_i32
  let v42 : BitVec 32 := v41
  let v64 : Index := Scalar.indexCast v42
  let c0_25 : Index := 0#32
  ![v64.toNat, 0]
@[reducible] def k0_t1_loop (v31 : BitVec 32) : Scf.Loop 32 :=
  let c0_i32_22 : BitVec 32 := 0#32
  let c0_i32_15 : BitVec 32 := 0#32
  let v42 : BitVec 1 := Scalar.cmpi .sgt v31 c0_i32_15
  let v43 : BitVec 32 := Scalar.extui v42
  let c0_i32_16 : BitVec 32 := 0#32
  let v44 : BitVec 1 := Scalar.cmpi .slt v31 c0_i32_16
  let v45 : BitVec 32 := Scalar.extui v44
  let v46 : BitVec 32 := Scalar.subi v43 v45
  let c2_i32_14 : BitVec 32 := 2#32
  let c0_i32_17 : BitVec 32 := 0#32
  let v47 : BitVec 1 := Scalar.cmpi .sgt c2_i32_14 c0_i32_17
  let v48 : BitVec 32 := Scalar.extui v47
  let c0_i32_18 : BitVec 32 := 0#32
  let v49 : BitVec 1 := Scalar.cmpi .slt c2_i32_14 c0_i32_18
  let v50 : BitVec 32 := Scalar.extui v49
  let v51 : BitVec 32 := Scalar.subi v48 v50
  let v52 : BitVec 1 := Scalar.cmpi .ne v46 v51
  let v53 : BitVec 32 := Scalar.remsi v31 c2_i32_14
  let c0_i32_19 : BitVec 32 := 0#32
  let v54 : BitVec 1 := Scalar.cmpi .ne v53 c0_i32_19
  let v55 : BitVec 1 := Scalar.andi v52 v54
  let v41 : BitVec 32 := Scalar.divsi v31 c2_i32_14
  let c1_i32_20 : BitVec 32 := 1#32
  let v56 : BitVec 32 := Scalar.subi v41 c1_i32_20
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_24 : BitVec 32 := 1#32
  ⟨c0_i32_22, v62, c1_i32_24⟩
def k0_cond4 (v31 : BitVec 32) : BitVec 1 :=
  let c3_i32_11 : BitVec 32 := 3#32
  let v35 : BitVec 1 := Scalar.cmpi .ne v31 c3_i32_11
  let v36 : BitVec 32 := Scalar.extui v35
  let c0_i32_12 : BitVec 32 := 0#32
  let v37 : BitVec 1 := Scalar.cmpi .ne v36 c0_i32_12
  v37

def k0_mult2 (v28 : BitVec 32) (v31 : BitVec 32) (k0_t1 : Fin (k0_t1_loop v31).trips) : BitVec 32 :=
  let c2_i32_34 : BitVec 32 := 2#32
  let c0_i32_22 : BitVec 32 := 0#32
  let c1_i32_24 : BitVec 32 := 1#32
  let arg17 : BitVec 32 := Scf.iv c0_i32_22 c1_i32_24 k0_t1
  let v76 : BitVec 32 := Scalar.muli c2_i32_34 arg17
  let v77 : BitVec 32 := Scalar.addi v28 v76
  let c128_i32 : BitVec 32 := 128#32
  let v78 : BitVec 32 := Scalar.muli v77 c128_i32
  v78
def k0_off5 (v28 : BitVec 32) (v31 : BitVec 32) (k0_t1 : Fin (k0_t1_loop v31).trips) : Fin 2 → Nat :=
  let c2_i32_34 : BitVec 32 := 2#32
  let c0_i32_22 : BitVec 32 := 0#32
  let c1_i32_24 : BitVec 32 := 1#32
  let arg17 : BitVec 32 := Scf.iv c0_i32_22 c1_i32_24 k0_t1
  let v76 : BitVec 32 := Scalar.muli c2_i32_34 arg17
  let v77 : BitVec 32 := Scalar.addi v28 v76
  let c128_i32 : BitVec 32 := 128#32
  let v78 : BitVec 32 := Scalar.muli v77 c128_i32
  let v79 : BitVec 32 := v78
  let v80 : Index := Scalar.indexCast v79
  let c0 : Index := 0#32
  ![v80.toNat, 0]
def k0_off6 (v28 : BitVec 32) (v31 : BitVec 32) (k0_t1 : Fin (k0_t1_loop v31).trips) : Fin 2 → Nat :=
  let c2_i32_34 : BitVec 32 := 2#32
  let c0_i32_22 : BitVec 32 := 0#32
  let c1_i32_24 : BitVec 32 := 1#32
  let arg17 : BitVec 32 := Scf.iv c0_i32_22 c1_i32_24 k0_t1
  let v76 : BitVec 32 := Scalar.muli c2_i32_34 arg17
  let v77 : BitVec 32 := Scalar.addi v28 v76
  let c128_i32 : BitVec 32 := 128#32
  let v78 : BitVec 32 := Scalar.muli v77 c128_i32
  let v79 : BitVec 32 := v78
  let v101 : Index := Scalar.indexCast v79
  let c0_46 : Index := 0#32
  ![v101.toNat, 0]
@[reducible] def k0_t2_loop (v31 : BitVec 32) : Scf.Loop 32 :=
  let c0_i32_22 : BitVec 32 := 0#32
  let c0_i32_15 : BitVec 32 := 0#32
  let v42 : BitVec 1 := Scalar.cmpi .sgt v31 c0_i32_15
  let v43 : BitVec 32 := Scalar.extui v42
  let c0_i32_16 : BitVec 32 := 0#32
  let v44 : BitVec 1 := Scalar.cmpi .slt v31 c0_i32_16
  let v45 : BitVec 32 := Scalar.extui v44
  let v46 : BitVec 32 := Scalar.subi v43 v45
  let c2_i32_14 : BitVec 32 := 2#32
  let c0_i32_17 : BitVec 32 := 0#32
  let v47 : BitVec 1 := Scalar.cmpi .sgt c2_i32_14 c0_i32_17
  let v48 : BitVec 32 := Scalar.extui v47
  let c0_i32_18 : BitVec 32 := 0#32
  let v49 : BitVec 1 := Scalar.cmpi .slt c2_i32_14 c0_i32_18
  let v50 : BitVec 32 := Scalar.extui v49
  let v51 : BitVec 32 := Scalar.subi v48 v50
  let v52 : BitVec 1 := Scalar.cmpi .ne v46 v51
  let v53 : BitVec 32 := Scalar.remsi v31 c2_i32_14
  let c0_i32_19 : BitVec 32 := 0#32
  let v54 : BitVec 1 := Scalar.cmpi .ne v53 c0_i32_19
  let v55 : BitVec 1 := Scalar.andi v52 v54
  let v41 : BitVec 32 := Scalar.divsi v31 c2_i32_14
  let c1_i32_20 : BitVec 32 := 1#32
  let v56 : BitVec 32 := Scalar.subi v41 c1_i32_20
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let v59 : BitVec 32 := Scalar.addi c0_i32_22 v58
  let c1_i32_25 : BitVec 32 := 1#32
  ⟨v62, v59, c1_i32_25⟩
def k0_mult3 (v28 : BitVec 32) (v31 : BitVec 32) (k0_t2 : Fin (k0_t2_loop v31).trips) : BitVec 32 :=
  let c2_i32_34 : BitVec 32 := 2#32
  let c0_i32_22 : BitVec 32 := 0#32
  let c0_i32_15 : BitVec 32 := 0#32
  let v42 : BitVec 1 := Scalar.cmpi .sgt v31 c0_i32_15
  let v43 : BitVec 32 := Scalar.extui v42
  let c0_i32_16 : BitVec 32 := 0#32
  let v44 : BitVec 1 := Scalar.cmpi .slt v31 c0_i32_16
  let v45 : BitVec 32 := Scalar.extui v44
  let v46 : BitVec 32 := Scalar.subi v43 v45
  let c2_i32_14 : BitVec 32 := 2#32
  let c0_i32_17 : BitVec 32 := 0#32
  let v47 : BitVec 1 := Scalar.cmpi .sgt c2_i32_14 c0_i32_17
  let v48 : BitVec 32 := Scalar.extui v47
  let c0_i32_18 : BitVec 32 := 0#32
  let v49 : BitVec 1 := Scalar.cmpi .slt c2_i32_14 c0_i32_18
  let v50 : BitVec 32 := Scalar.extui v49
  let v51 : BitVec 32 := Scalar.subi v48 v50
  let v52 : BitVec 1 := Scalar.cmpi .ne v46 v51
  let v53 : BitVec 32 := Scalar.remsi v31 c2_i32_14
  let c0_i32_19 : BitVec 32 := 0#32
  let v54 : BitVec 1 := Scalar.cmpi .ne v53 c0_i32_19
  let v55 : BitVec 1 := Scalar.andi v52 v54
  let v41 : BitVec 32 := Scalar.divsi v31 c2_i32_14
  let c1_i32_20 : BitVec 32 := 1#32
  let v56 : BitVec 32 := Scalar.subi v41 c1_i32_20
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg17 : BitVec 32 := Scf.iv v62 c1_i32_25 k0_t2
  let v76 : BitVec 32 := Scalar.muli c2_i32_34 arg17
  let v77 : BitVec 32 := Scalar.addi v28 v76
  let c128_i32 : BitVec 32 := 128#32
  let v78 : BitVec 32 := Scalar.muli v77 c128_i32
  v78
def k0_off7 (v28 : BitVec 32) (v31 : BitVec 32) (k0_t2 : Fin (k0_t2_loop v31).trips) : Fin 2 → Nat :=
  let c2_i32_34 : BitVec 32 := 2#32
  let c0_i32_22 : BitVec 32 := 0#32
  let c0_i32_15 : BitVec 32 := 0#32
  let v42 : BitVec 1 := Scalar.cmpi .sgt v31 c0_i32_15
  let v43 : BitVec 32 := Scalar.extui v42
  let c0_i32_16 : BitVec 32 := 0#32
  let v44 : BitVec 1 := Scalar.cmpi .slt v31 c0_i32_16
  let v45 : BitVec 32 := Scalar.extui v44
  let v46 : BitVec 32 := Scalar.subi v43 v45
  let c2_i32_14 : BitVec 32 := 2#32
  let c0_i32_17 : BitVec 32 := 0#32
  let v47 : BitVec 1 := Scalar.cmpi .sgt c2_i32_14 c0_i32_17
  let v48 : BitVec 32 := Scalar.extui v47
  let c0_i32_18 : BitVec 32 := 0#32
  let v49 : BitVec 1 := Scalar.cmpi .slt c2_i32_14 c0_i32_18
  let v50 : BitVec 32 := Scalar.extui v49
  let v51 : BitVec 32 := Scalar.subi v48 v50
  let v52 : BitVec 1 := Scalar.cmpi .ne v46 v51
  let v53 : BitVec 32 := Scalar.remsi v31 c2_i32_14
  let c0_i32_19 : BitVec 32 := 0#32
  let v54 : BitVec 1 := Scalar.cmpi .ne v53 c0_i32_19
  let v55 : BitVec 1 := Scalar.andi v52 v54
  let v41 : BitVec 32 := Scalar.divsi v31 c2_i32_14
  let c1_i32_20 : BitVec 32 := 1#32
  let v56 : BitVec 32 := Scalar.subi v41 c1_i32_20
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg17 : BitVec 32 := Scf.iv v62 c1_i32_25 k0_t2
  let v76 : BitVec 32 := Scalar.muli c2_i32_34 arg17
  let v77 : BitVec 32 := Scalar.addi v28 v76
  let c128_i32 : BitVec 32 := 128#32
  let v78 : BitVec 32 := Scalar.muli v77 c128_i32
  let v79 : BitVec 32 := v78
  let v80 : Index := Scalar.indexCast v79
  let c0 : Index := 0#32
  ![v80.toNat, 0]
def k0_off8 (v28 : BitVec 32) (v31 : BitVec 32) (k0_t2 : Fin (k0_t2_loop v31).trips) : Fin 2 → Nat :=
  let c2_i32_34 : BitVec 32 := 2#32
  let c0_i32_22 : BitVec 32 := 0#32
  let c0_i32_15 : BitVec 32 := 0#32
  let v42 : BitVec 1 := Scalar.cmpi .sgt v31 c0_i32_15
  let v43 : BitVec 32 := Scalar.extui v42
  let c0_i32_16 : BitVec 32 := 0#32
  let v44 : BitVec 1 := Scalar.cmpi .slt v31 c0_i32_16
  let v45 : BitVec 32 := Scalar.extui v44
  let v46 : BitVec 32 := Scalar.subi v43 v45
  let c2_i32_14 : BitVec 32 := 2#32
  let c0_i32_17 : BitVec 32 := 0#32
  let v47 : BitVec 1 := Scalar.cmpi .sgt c2_i32_14 c0_i32_17
  let v48 : BitVec 32 := Scalar.extui v47
  let c0_i32_18 : BitVec 32 := 0#32
  let v49 : BitVec 1 := Scalar.cmpi .slt c2_i32_14 c0_i32_18
  let v50 : BitVec 32 := Scalar.extui v49
  let v51 : BitVec 32 := Scalar.subi v48 v50
  let v52 : BitVec 1 := Scalar.cmpi .ne v46 v51
  let v53 : BitVec 32 := Scalar.remsi v31 c2_i32_14
  let c0_i32_19 : BitVec 32 := 0#32
  let v54 : BitVec 1 := Scalar.cmpi .ne v53 c0_i32_19
  let v55 : BitVec 1 := Scalar.andi v52 v54
  let v41 : BitVec 32 := Scalar.divsi v31 c2_i32_14
  let c1_i32_20 : BitVec 32 := 1#32
  let v56 : BitVec 32 := Scalar.subi v41 c1_i32_20
  let v57 : BitVec 32 := Scalar.select v55 v56 v41
  let v58 : BitVec 32 := Scalar.subi v57 c0_i32_22
  let c1_i32_23 : BitVec 32 := 1#32
  let v60 : BitVec 32 := Scalar.divsi v58 c1_i32_23
  let v61 : BitVec 32 := Scalar.muli v60 c1_i32_23
  let v62 : BitVec 32 := Scalar.addi c0_i32_22 v61
  let c1_i32_25 : BitVec 32 := 1#32
  let arg17 : BitVec 32 := Scf.iv v62 c1_i32_25 k0_t2
  let v76 : BitVec 32 := Scalar.muli c2_i32_34 arg17
  let v77 : BitVec 32 := Scalar.addi v28 v76
  let c128_i32 : BitVec 32 := 128#32
  let v78 : BitVec 32 := Scalar.muli v77 c128_i32
  let v79 : BitVec 32 := v78
  let v101 : Index := Scalar.indexCast v79
  let c0_46 : Index := 0#32
  ![v101.toNat, 0]
def k0_mult4 (v28 : BitVec 32) (v31 : BitVec 32) : BitVec 32 :=
  let v76 : BitVec 32 := Scalar.addi v28 v31
  let c1_i32_34 : BitVec 32 := 1#32
  let v77 : BitVec 32 := Scalar.subi v76 c1_i32_34
  let c128_i32 : BitVec 32 := 128#32
  let v78 : BitVec 32 := Scalar.muli v77 c128_i32
  v78
def k0_cond5 (v31 : BitVec 32) : BitVec 1 :=
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v31 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let c1_i32_32 : BitVec 32 := 1#32
  let v73 : BitVec 1 := Scalar.cmpi .eq v72 c1_i32_32
  let v74 : BitVec 32 := Scalar.extui v73
  let c0_i32_33 : BitVec 32 := 0#32
  let v75 : BitVec 1 := Scalar.cmpi .ne v74 c0_i32_33
  v75

def k0_off9 (v28 : BitVec 32) (v31 : BitVec 32) : Fin 2 → Nat :=
  let v76 : BitVec 32 := Scalar.addi v28 v31
  let c1_i32_34 : BitVec 32 := 1#32
  let v77 : BitVec 32 := Scalar.subi v76 c1_i32_34
  let c128_i32 : BitVec 32 := 128#32
  let v78 : BitVec 32 := Scalar.muli v77 c128_i32
  let v79 : BitVec 32 := v78
  let v80 : Index := Scalar.indexCast v79
  let c0 : Index := 0#32
  ![v80.toNat, 0]
def k0_off10 (v28 : BitVec 32) (v31 : BitVec 32) : Fin 2 → Nat :=
  let v76 : BitVec 32 := Scalar.addi v28 v31
  let c1_i32_34 : BitVec 32 := 1#32
  let v77 : BitVec 32 := Scalar.subi v76 c1_i32_34
  let c128_i32 : BitVec 32 := 128#32
  let v78 : BitVec 32 := Scalar.muli v77 c128_i32
  let v79 : BitVec 32 := v78
  let v101 : Index := Scalar.indexCast v79
  let c0_46 : Index := 0#32
  ![v101.toNat, 0]

def k0_chk1 (v28 : BitVec 32) (v31 : BitVec 32) : Prop :=
  (∀ (k0_h3 : k0_cond3 v31 = 1#1), 128 ∣ (k0_mult1 v28).toNat) ∧
  (∀ (k0_h3 : k0_cond3 v31 = 1#1), ∀ a, (k0_off3 v28) a + S384x1024.size a ≤ S1536x1024.size a) ∧
  (∀ (k0_h3 : k0_cond3 v31 = 1#1), ∀ a, (k0_off4 v28) a + S384x128.size a ≤ S1536x128.size a) ∧
  (∀ (k0_h4 : k0_cond4 v31 = 1#1), (k0_t1_loop v31).OK) ∧
  (∀ k0_t1 : Fin (k0_t1_loop v31).trips, ∀ (k0_h4 : k0_cond4 v31 = 1#1), 128 ∣ (k0_mult2 v28 v31 k0_t1).toNat) ∧
  (∀ k0_t1 : Fin (k0_t1_loop v31).trips, ∀ (k0_h4 : k0_cond4 v31 = 1#1), ∀ a, (k0_off5 v28 v31 k0_t1) a + S256x1024.size a ≤ S1536x1024.size a) ∧
  (∀ k0_t1 : Fin (k0_t1_loop v31).trips, ∀ (k0_h4 : k0_cond4 v31 = 1#1), ∀ a, (k0_off6 v28 v31 k0_t1) a + S256x128.size a ≤ S1536x128.size a) ∧
  (∀ (k0_h4 : k0_cond4 v31 = 1#1), (k0_t2_loop v31).OK) ∧
  (∀ k0_t2 : Fin (k0_t2_loop v31).trips, ∀ (k0_h4 : k0_cond4 v31 = 1#1), 128 ∣ (k0_mult3 v28 v31 k0_t2).toNat) ∧
  (∀ k0_t2 : Fin (k0_t2_loop v31).trips, ∀ (k0_h4 : k0_cond4 v31 = 1#1), ∀ a, (k0_off7 v28 v31 k0_t2) a + S256x1024.size a ≤ S1536x1024.size a) ∧
  (∀ k0_t2 : Fin (k0_t2_loop v31).trips, ∀ (k0_h4 : k0_cond4 v31 = 1#1), ∀ a, (k0_off8 v28 v31 k0_t2) a + S256x128.size a ≤ S1536x128.size a) ∧
  (∀ (k0_h4 : k0_cond4 v31 = 1#1), ∀ (k0_h5 : k0_cond5 v31 = 1#1), 128 ∣ (k0_mult4 v28 v31).toNat) ∧
  (∀ (k0_h4 : k0_cond4 v31 = 1#1), ∀ (k0_h5 : k0_cond5 v31 = 1#1), ∀ a, (k0_off9 v28 v31) a + S128x1024.size a ≤ S1536x1024.size a) ∧
  (∀ (k0_h4 : k0_cond4 v31 = 1#1), ∀ (k0_h5 : k0_cond5 v31 = 1#1), ∀ a, (k0_off10 v28 v31) a + S128x128.size a ≤ S1536x128.size a)
theorem k0_mult1_dvd : ∀ (v28 : BitVec 32) (v31 : BitVec 32) (k0_hw1 : k0_chk1 v28 v31), ∀ (k0_h3 : k0_cond3 v31 = 1#1), 128 ∣ (k0_mult1 v28).toNat := fun v28 v31 k0_hw1 k0_h3 => k0_hw1.1 k0_h3
theorem k0_off3_inb : ∀ (v28 : BitVec 32) (v31 : BitVec 32) (k0_hw1 : k0_chk1 v28 v31), ∀ (k0_h3 : k0_cond3 v31 = 1#1), ∀ a, (k0_off3 v28) a + S384x1024.size a ≤ S1536x1024.size a := fun v28 v31 k0_hw1 k0_h3 => k0_hw1.2.1 k0_h3
theorem k0_off4_inb : ∀ (v28 : BitVec 32) (v31 : BitVec 32) (k0_hw1 : k0_chk1 v28 v31), ∀ (k0_h3 : k0_cond3 v31 = 1#1), ∀ a, (k0_off4 v28) a + S384x128.size a ≤ S1536x128.size a := fun v28 v31 k0_hw1 k0_h3 => k0_hw1.2.2.1 k0_h3
theorem k0_t1_ok : ∀ (v28 : BitVec 32) (v31 : BitVec 32) (k0_hw1 : k0_chk1 v28 v31), ∀ (k0_h4 : k0_cond4 v31 = 1#1), (k0_t1_loop v31).OK := fun v28 v31 k0_hw1 k0_h4 => k0_hw1.2.2.2.1 k0_h4
theorem k0_mult2_dvd : ∀ (v28 : BitVec 32) (v31 : BitVec 32) (k0_hw1 : k0_chk1 v28 v31) (k0_t1 : Fin (k0_t1_loop v31).trips), ∀ (k0_h4 : k0_cond4 v31 = 1#1), 128 ∣ (k0_mult2 v28 v31 k0_t1).toNat := fun v28 v31 k0_hw1 k0_t1 k0_h4 => k0_hw1.2.2.2.2.1 k0_t1 k0_h4
theorem k0_off5_inb : ∀ (v28 : BitVec 32) (v31 : BitVec 32) (k0_hw1 : k0_chk1 v28 v31) (k0_t1 : Fin (k0_t1_loop v31).trips), ∀ (k0_h4 : k0_cond4 v31 = 1#1), ∀ a, (k0_off5 v28 v31 k0_t1) a + S256x1024.size a ≤ S1536x1024.size a := fun v28 v31 k0_hw1 k0_t1 k0_h4 => k0_hw1.2.2.2.2.2.1 k0_t1 k0_h4
theorem k0_off6_inb : ∀ (v28 : BitVec 32) (v31 : BitVec 32) (k0_hw1 : k0_chk1 v28 v31) (k0_t1 : Fin (k0_t1_loop v31).trips), ∀ (k0_h4 : k0_cond4 v31 = 1#1), ∀ a, (k0_off6 v28 v31 k0_t1) a + S256x128.size a ≤ S1536x128.size a := fun v28 v31 k0_hw1 k0_t1 k0_h4 => k0_hw1.2.2.2.2.2.2.1 k0_t1 k0_h4
theorem k0_t2_ok : ∀ (v28 : BitVec 32) (v31 : BitVec 32) (k0_hw1 : k0_chk1 v28 v31), ∀ (k0_h4 : k0_cond4 v31 = 1#1), (k0_t2_loop v31).OK := fun v28 v31 k0_hw1 k0_h4 => k0_hw1.2.2.2.2.2.2.2.1 k0_h4
theorem k0_mult3_dvd : ∀ (v28 : BitVec 32) (v31 : BitVec 32) (k0_hw1 : k0_chk1 v28 v31) (k0_t2 : Fin (k0_t2_loop v31).trips), ∀ (k0_h4 : k0_cond4 v31 = 1#1), 128 ∣ (k0_mult3 v28 v31 k0_t2).toNat := fun v28 v31 k0_hw1 k0_t2 k0_h4 => k0_hw1.2.2.2.2.2.2.2.2.1 k0_t2 k0_h4
theorem k0_off7_inb : ∀ (v28 : BitVec 32) (v31 : BitVec 32) (k0_hw1 : k0_chk1 v28 v31) (k0_t2 : Fin (k0_t2_loop v31).trips), ∀ (k0_h4 : k0_cond4 v31 = 1#1), ∀ a, (k0_off7 v28 v31 k0_t2) a + S256x1024.size a ≤ S1536x1024.size a := fun v28 v31 k0_hw1 k0_t2 k0_h4 => k0_hw1.2.2.2.2.2.2.2.2.2.1 k0_t2 k0_h4
theorem k0_off8_inb : ∀ (v28 : BitVec 32) (v31 : BitVec 32) (k0_hw1 : k0_chk1 v28 v31) (k0_t2 : Fin (k0_t2_loop v31).trips), ∀ (k0_h4 : k0_cond4 v31 = 1#1), ∀ a, (k0_off8 v28 v31 k0_t2) a + S256x128.size a ≤ S1536x128.size a := fun v28 v31 k0_hw1 k0_t2 k0_h4 => k0_hw1.2.2.2.2.2.2.2.2.2.2.1 k0_t2 k0_h4
theorem k0_mult4_dvd : ∀ (v28 : BitVec 32) (v31 : BitVec 32) (k0_hw1 : k0_chk1 v28 v31), ∀ (k0_h4 : k0_cond4 v31 = 1#1), ∀ (k0_h5 : k0_cond5 v31 = 1#1), 128 ∣ (k0_mult4 v28 v31).toNat := fun v28 v31 k0_hw1 k0_h4 k0_h5 => k0_hw1.2.2.2.2.2.2.2.2.2.2.2.1 k0_h4 k0_h5
theorem k0_off9_inb : ∀ (v28 : BitVec 32) (v31 : BitVec 32) (k0_hw1 : k0_chk1 v28 v31), ∀ (k0_h4 : k0_cond4 v31 = 1#1), ∀ (k0_h5 : k0_cond5 v31 = 1#1), ∀ a, (k0_off9 v28 v31) a + S128x1024.size a ≤ S1536x1024.size a := fun v28 v31 k0_hw1 k0_h4 k0_h5 => k0_hw1.2.2.2.2.2.2.2.2.2.2.2.2.1 k0_h4 k0_h5
theorem k0_off10_inb : ∀ (v28 : BitVec 32) (v31 : BitVec 32) (k0_hw1 : k0_chk1 v28 v31), ∀ (k0_h4 : k0_cond4 v31 = 1#1), ∀ (k0_h5 : k0_cond5 v31 = 1#1), ∀ a, (k0_off10 v28 v31) a + S128x128.size a ≤ S1536x128.size a := fun v28 v31 k0_hw1 k0_h4 k0_h5 => k0_hw1.2.2.2.2.2.2.2.2.2.2.2.2.2 k0_h4 k0_h5

def k0_cond6 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_13 : BitVec 32 := 0#32
  let v40 : BitVec 1 := Scalar.cmpi .ne v39 c0_i32_13
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32768x1024 : Shape := ⟨2, ![32768, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S1024 : Shape := ⟨1, ![1024]⟩
abbrev S32768x4 : Shape := ⟨2, ![32768, 4]⟩
abbrev S1x4 : Shape := ⟨2, ![1, 4]⟩
abbrev S_ : Shape := ⟨0, ![]⟩
abbrev S32768 : Shape := ⟨1, ![32768]⟩
abbrev S32768x1 : Shape := ⟨2, ![32768, 1]⟩
abbrev S32768x16 : Shape := ⟨2, ![32768, 16]⟩
abbrev S1x16 : Shape := ⟨2, ![1, 16]⟩
abbrev S32768x4x4 : Shape := ⟨3, ![32768, 4, 4]⟩
abbrev S32768x1x1 : Shape := ⟨3, ![32768, 1, 1]⟩
abbrev S1 : Shape := ⟨1, ![1]⟩
abbrev S1x1x1 : Shape := ⟨3, ![1, 1, 1]⟩
abbrev S32768x1x4 : Shape := ⟨3, ![32768, 1, 4]⟩
abbrev S32768x2 : Shape := ⟨2, ![32768, 2]⟩
abbrev S32768x2x1 : Shape := ⟨3, ![32768, 2, 1]⟩
abbrev S1x1x16 : Shape := ⟨3, ![1, 1, 16]⟩
abbrev S32768x2x16 : Shape := ⟨3, ![32768, 2, 16]⟩
abbrev S1x1024x512 : Shape := ⟨3, ![1, 1024, 512]⟩
abbrev S1024x512 : Shape := ⟨2, ![1024, 512]⟩
abbrev S32768x512 : Shape := ⟨2, ![32768, 512]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 492
  | .vmem => 0
  | .smem => 0
  | _ => 0

abbrev hbmTy0_0 (i : Nat) : BufTy := match i % 128 with
  | 0 => ⟨S32768x1024, .f32⟩
  | 1 => ⟨S1024x4, .f32⟩
  | 2 => ⟨S4, .f32⟩
  | 3 => ⟨S1024x16, .f32⟩
  | 4 => ⟨S16, .f32⟩
  | 5 => ⟨S16x1024x512, .f32⟩
  | 6 => ⟨S16x1024x512, .f32⟩
  | 7 => ⟨S16x512x1024, .f32⟩
  | 8 => ⟨S1024, .f32⟩
  | 9 => ⟨S1024, .f32⟩
  | 10 => ⟨S32768x4, .f32⟩
  | 11 => ⟨S1x4, .f32⟩
  | 12 => ⟨S32768x4, .f32⟩
  | 13 => ⟨S32768x4, .f32⟩
  | 14 => ⟨S_, .f32⟩
  | 15 => ⟨S32768, .f32⟩
  | 16 => ⟨S_, .f32⟩
  | 17 => ⟨S32768, .f32⟩
  | 18 => ⟨S32768, .f32⟩
  | 19 => ⟨S32768x1, .f32⟩
  | 20 => ⟨S32768x4, .f32⟩
  | 21 => ⟨S32768x4, .f32⟩
  | 22 => ⟨S32768x4, .f32⟩
  | 23 => ⟨S_, .f32⟩
  | 24 => ⟨S32768, .f32⟩
  | 25 => ⟨S32768x1, .f32⟩
  | 26 => ⟨S32768x4, .f32⟩
  | 27 => ⟨S32768x4, .f32⟩
  | 28 => ⟨S32768x1, .f32⟩
  | 29 => ⟨S32768x1, .i32⟩
  | 30 => ⟨S32768x16, .f32⟩
  | 31 => ⟨S1x16, .f32⟩
  | 32 => ⟨S32768x16, .f32⟩
  | 33 => ⟨S32768x16, .f32⟩
  | 34 => ⟨S32768x4x4, .f32⟩
  | 35 => ⟨S32768x1x1, .i32⟩
  | 36 => ⟨S_, .i32⟩
  | 37 => ⟨S32768x1x1, .i32⟩
  | 38 => ⟨S32768x1x1, .i1⟩
  | 39 => ⟨S_, .i32⟩
  | 40 => ⟨S32768x1x1, .i32⟩
  | 41 => ⟨S32768x1x1, .i32⟩
  | 42 => ⟨S32768x1x1, .i32⟩
  | 43 => ⟨S1, .i32⟩
  | 44 => ⟨S_, .i32⟩
  | 45 => ⟨S32768x1x1, .i32⟩
  | 46 => ⟨S32768x1x1, .i1⟩
  | 47 => ⟨S1x1x1, .i32⟩
  | 48 => ⟨S32768x1x1, .i32⟩
  | 49 => ⟨S32768x1x1, .i1⟩
  | 50 => ⟨S32768x1x1, .i1⟩
  | 51 => ⟨S_, .i1⟩
  | 52 => ⟨S32768x1, .i1⟩
  | 53 => ⟨S32768x1x4, .f32⟩
  | 54 => ⟨S32768x1x4, .i1⟩
  | 55 => ⟨S_, .f32⟩
  | 56 => ⟨S32768x1x4, .f32⟩
  | 57 => ⟨S32768x1x4, .f32⟩
  | 58 => ⟨S32768x4, .f32⟩
  | 59 => ⟨S32768x2, .f32⟩
  | 60 => ⟨S32768x2, .i32⟩
  | 61 => ⟨S_, .f32⟩
  | 62 => ⟨S32768, .f32⟩
  | 63 => ⟨S_, .f32⟩
  | 64 => ⟨S32768, .f32⟩
  | 65 => ⟨S32768, .f32⟩
  | 66 => ⟨S32768x1, .f32⟩
  | 67 => ⟨S32768x2, .f32⟩
  | 68 => ⟨S32768x2, .f32⟩
  | 69 => ⟨S32768x2, .f32⟩
  | 70 => ⟨S_, .f32⟩
  | 71 => ⟨S32768, .f32⟩
  | 72 => ⟨S32768x1, .f32⟩
  | 73 => ⟨S32768x2, .f32⟩
  | 74 => ⟨S32768x2, .f32⟩
  | 75 => ⟨S32768x2, .f32⟩
  | 76 => ⟨S32768x2, .f32⟩
  | 77 => ⟨S_, .i32⟩
  | 78 => ⟨S32768x1, .i32⟩
  | 79 => ⟨S32768x1, .i32⟩
  | 80 => ⟨S32768x2, .i32⟩
  | 81 => ⟨S32768x2, .i32⟩
  | 82 => ⟨S32768x2x1, .i32⟩
  | 83 => ⟨S1x1x16, .i32⟩
  | 84 => ⟨S32768x2x16, .i32⟩
  | 85 => ⟨S32768x2x16, .i32⟩
  | 86 => ⟨S32768x2x16, .i1⟩
  | 87 => ⟨S32768x2x16, .f32⟩
  | 88 => ⟨S32768x16, .f32⟩
  | 89 => ⟨S_, .f32⟩
  | 90 => ⟨S32768x1024, .f32⟩
  | 91 => ⟨S1x1024x512, .f32⟩
  | 92 => ⟨S1024x512, .f32⟩
  | 93 => ⟨S32768x512, .f32⟩
  | 94 => ⟨S32768x512, .f32⟩
  | 95 => ⟨S32768x512, .f32⟩
  | 96 => ⟨S_, .f32⟩
  | 97 => ⟨S32768x512, .f32⟩
  | 98 => ⟨S32768x512, .f32⟩
  | 99 => ⟨S_, .f32⟩
  | 100 => ⟨S32768x512, .f32⟩
  | 101 => ⟨S32768x512, .f32⟩
  | 102 => ⟨S32768x512, .f32⟩
  | 103 => ⟨S1x1024x512, .f32⟩
  | 104 => ⟨S1024x512, .f32⟩
  | 105 => ⟨S32768x512, .f32⟩
  | 106 => ⟨S32768x512, .f32⟩
  | 107 => ⟨S32768x1, .f32⟩
  | 108 => ⟨S1x512x1024, .f32⟩
  | 109 => ⟨S512x1024, .f32⟩
  | 110 => ⟨S32768x1024, .f32⟩
  | 111 => ⟨S32768x1024, .f32⟩
  | 112 => ⟨S32768x1024, .f32⟩
  | 113 => ⟨S32768x1024, .f32⟩
  | 114 => ⟨S1x1024x512, .f32⟩
  | 115 => ⟨S1024x512, .f32⟩
  | 116 => ⟨S32768x512, .f32⟩
  | 117 => ⟨S32768x512, .f32⟩
  | 118 => ⟨S32768x512, .f32⟩
  | 119 => ⟨S_, .f32⟩
  | 120 => ⟨S32768x512, .f32⟩
  | 121 => ⟨S32768x512, .f32⟩
  | 122 => ⟨S_, .f32⟩
  | 123 => ⟨S32768x512, .f32⟩
  | 124 => ⟨S32768x512, .f32⟩
  | 125 => ⟨S32768x512, .f32⟩
  | 126 => ⟨S1x1024x512, .f32⟩
  | 127 => ⟨S1024x512, .f32⟩
  | _ => ⟨S32768x1024, .f32⟩

abbrev hbmTy0_1 (i : Nat) : BufTy := match i % 128 with
  | 0 => ⟨S32768x512, .f32⟩
  | 1 => ⟨S32768x512, .f32⟩
  | 2 => ⟨S32768x1, .f32⟩
  | 3 => ⟨S1x512x1024, .f32⟩
  | 4 => ⟨S512x1024, .f32⟩
  | 5 => ⟨S32768x1024, .f32⟩
  | 6 => ⟨S32768x1024, .f32⟩
  | 7 => ⟨S32768x1024, .f32⟩
  | 8 => ⟨S32768x1024, .f32⟩
  | 9 => ⟨S1x1024x512, .f32⟩
  | 10 => ⟨S1024x512, .f32⟩
  | 11 => ⟨S32768x512, .f32⟩
  | 12 => ⟨S32768x512, .f32⟩
  | 13 => ⟨S32768x512, .f32⟩
  | 14 => ⟨S_, .f32⟩
  | 15 => ⟨S32768x512, .f32⟩
  | 16 => ⟨S32768x512, .f32⟩
  | 17 => ⟨S_, .f32⟩
  | 18 => ⟨S32768x512, .f32⟩
  | 19 => ⟨S32768x512, .f32⟩
  | 20 => ⟨S32768x512, .f32⟩
  | 21 => ⟨S1x1024x512, .f32⟩
  | 22 => ⟨S1024x512, .f32⟩
  | 23 => ⟨S32768x512, .f32⟩
  | 24 => ⟨S32768x512, .f32⟩
  | 25 => ⟨S32768x1, .f32⟩
  | 26 => ⟨S1x512x1024, .f32⟩
  | 27 => ⟨S512x1024, .f32⟩
  | 28 => ⟨S32768x1024, .f32⟩
  | 29 => ⟨S32768x1024, .f32⟩
  | 30 => ⟨S32768x1024, .f32⟩
  | 31 => ⟨S32768x1024, .f32⟩
  | 32 => ⟨S1x1024x512, .f32⟩
  | 33 => ⟨S1024x512, .f32⟩
  | 34 => ⟨S32768x512, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S_, .f32⟩
  | 41 => ⟨S32768x512, .f32⟩
  | 42 => ⟨S32768x512, .f32⟩
  | 43 => ⟨S32768x512, .f32⟩
  | 44 => ⟨S1x1024x512, .f32⟩
  | 45 => ⟨S1024x512, .f32⟩
  | 46 => ⟨S32768x512, .f32⟩
  | 47 => ⟨S32768x512, .f32⟩
  | 48 => ⟨S32768x1, .f32⟩
  | 49 => ⟨S1x512x1024, .f32⟩
  | 50 => ⟨S512x1024, .f32⟩
  | 51 => ⟨S32768x1024, .f32⟩
  | 52 => ⟨S32768x1024, .f32⟩
  | 53 => ⟨S32768x1024, .f32⟩
  | 54 => ⟨S32768x1024, .f32⟩
  | 55 => ⟨S1x1024x512, .f32⟩
  | 56 => ⟨S1024x512, .f32⟩
  | 57 => ⟨S32768x512, .f32⟩
  | 58 => ⟨S32768x512, .f32⟩
  | 59 => ⟨S32768x512, .f32⟩
  | 60 => ⟨S_, .f32⟩
  | 61 => ⟨S32768x512, .f32⟩
  | 62 => ⟨S32768x512, .f32⟩
  | 63 => ⟨S_, .f32⟩
  | 64 => ⟨S32768x512, .f32⟩
  | 65 => ⟨S32768x512, .f32⟩
  | 66 => ⟨S32768x512, .f32⟩
  | 67 => ⟨S1x1024x512, .f32⟩
  | 68 => ⟨S1024x512, .f32⟩
  | 69 => ⟨S32768x512, .f32⟩
  | 70 => ⟨S32768x512, .f32⟩
  | 71 => ⟨S32768x1, .f32⟩
  | 72 => ⟨S1x512x1024, .f32⟩
  | 73 => ⟨S512x1024, .f32⟩
  | 74 => ⟨S32768x1024, .f32⟩
  | 75 => ⟨S32768x1024, .f32⟩
  | 76 => ⟨S32768x1024, .f32⟩
  | 77 => ⟨S32768x1024, .f32⟩
  | 78 => ⟨S1x1024x512, .f32⟩
  | 79 => ⟨S1024x512, .f32⟩
  | 80 => ⟨S32768x512, .f32⟩
  | 81 => ⟨S32768x512, .f32⟩
  | 82 => ⟨S32768x512, .f32⟩
  | 83 => ⟨S_, .f32⟩
  | 84 => ⟨S32768x512, .f32⟩
  | 85 => ⟨S32768x512, .f32⟩
  | 86 => ⟨S_, .f32⟩
  | 87 => ⟨S32768x512, .f32⟩
  | 88 => ⟨S32768x512, .f32⟩
  | 89 => ⟨S32768x512, .f32⟩
  | 90 => ⟨S1x1024x512, .f32⟩
  | 91 => ⟨S1024x512, .f32⟩
  | 92 => ⟨S32768x512, .f32⟩
  | 93 => ⟨S32768x512, .f32⟩
  | 94 => ⟨S32768x1, .f32⟩
  | 95 => ⟨S1x512x1024, .f32⟩
  | 96 => ⟨S512x1024, .f32⟩
  | 97 => ⟨S32768x1024, .f32⟩
  | 98 => ⟨S32768x1024, .f32⟩
  | 99 => ⟨S32768x1024, .f32⟩
  | 100 => ⟨S32768x1024, .f32⟩
  | 101 => ⟨S1x1024x512, .f32⟩
  | 102 => ⟨S1024x512, .f32⟩
  | 103 => ⟨S32768x512, .f32⟩
  | 104 => ⟨S32768x512, .f32⟩
  | 105 => ⟨S32768x512, .f32⟩
  | 106 => ⟨S_, .f32⟩
  | 107 => ⟨S32768x512, .f32⟩
  | 108 => ⟨S32768x512, .f32⟩
  | 109 => ⟨S_, .f32⟩
  | 110 => ⟨S32768x512, .f32⟩
  | 111 => ⟨S32768x512, .f32⟩
  | 112 => ⟨S32768x512, .f32⟩
  | 113 => ⟨S1x1024x512, .f32⟩
  | 114 => ⟨S1024x512, .f32⟩
  | 115 => ⟨S32768x512, .f32⟩
  | 116 => ⟨S32768x512, .f32⟩
  | 117 => ⟨S32768x1, .f32⟩
  | 118 => ⟨S1x512x1024, .f32⟩
  | 119 => ⟨S512x1024, .f32⟩
  | 120 => ⟨S32768x1024, .f32⟩
  | 121 => ⟨S32768x1024, .f32⟩
  | 122 => ⟨S32768x1024, .f32⟩
  | 123 => ⟨S32768x1024, .f32⟩
  | 124 => ⟨S1x1024x512, .f32⟩
  | 125 => ⟨S1024x512, .f32⟩
  | 126 => ⟨S32768x512, .f32⟩
  | 127 => ⟨S32768x512, .f32⟩
  | _ => ⟨S32768x1024, .f32⟩

abbrev hbmTy0_2 (i : Nat) : BufTy := match i % 128 with
  | 0 => ⟨S32768x512, .f32⟩
  | 1 => ⟨S_, .f32⟩
  | 2 => ⟨S32768x512, .f32⟩
  | 3 => ⟨S32768x512, .f32⟩
  | 4 => ⟨S_, .f32⟩
  | 5 => ⟨S32768x512, .f32⟩
  | 6 => ⟨S32768x512, .f32⟩
  | 7 => ⟨S32768x512, .f32⟩
  | 8 => ⟨S1x1024x512, .f32⟩
  | 9 => ⟨S1024x512, .f32⟩
  | 10 => ⟨S32768x512, .f32⟩
  | 11 => ⟨S32768x512, .f32⟩
  | 12 => ⟨S32768x1, .f32⟩
  | 13 => ⟨S1x512x1024, .f32⟩
  | 14 => ⟨S512x1024, .f32⟩
  | 15 => ⟨S32768x1024, .f32⟩
  | 16 => ⟨S32768x1024, .f32⟩
  | 17 => ⟨S32768x1024, .f32⟩
  | 18 => ⟨S32768x1024, .f32⟩
  | 19 => ⟨S1x1024x512, .f32⟩
  | 20 => ⟨S1024x512, .f32⟩
  | 21 => ⟨S32768x512, .f32⟩
  | 22 => ⟨S32768x512, .f32⟩
  | 23 => ⟨S32768x512, .f32⟩
  | 24 => ⟨S_, .f32⟩
  | 25 => ⟨S32768x512, .f32⟩
  | 26 => ⟨S32768x512, .f32⟩
  | 27 => ⟨S_, .f32⟩
  | 28 => ⟨S32768x512, .f32⟩
  | 29 => ⟨S32768x512, .f32⟩
  | 30 => ⟨S32768x512, .f32⟩
  | 31 => ⟨S1x1024x512, .f32⟩
  | 32 => ⟨S1024x512, .f32⟩
  | 33 => ⟨S32768x512, .f32⟩
  | 34 => ⟨S32768x512, .f32⟩
  | 35 => ⟨S32768x1, .f32⟩
  | 36 => ⟨S1x512x1024, .f32⟩
  | 37 => ⟨S512x1024, .f32⟩
  | 38 => ⟨S32768x1024, .f32⟩
  | 39 => ⟨S32768x1024, .f32⟩
  | 40 => ⟨S32768x1024, .f32⟩
  | 41 => ⟨S32768x1024, .f32⟩
  | 42 => ⟨S1x1024x512, .f32⟩
  | 43 => ⟨S1024x512, .f32⟩
  | 44 => ⟨S32768x512, .f32⟩
  | 45 => ⟨S32768x512, .f32⟩
  | 46 => ⟨S32768x512, .f32⟩
  | 47 => ⟨S_, .f32⟩
  | 48 => ⟨S32768x512, .f32⟩
  | 49 => ⟨S32768x512, .f32⟩
  | 50 => ⟨S_, .f32⟩
  | 51 => ⟨S32768x512, .f32⟩
  | 52 => ⟨S32768x512, .f32⟩
  | 53 => ⟨S32768x512, .f32⟩
  | 54 => ⟨S1x1024x512, .f32⟩
  | 55 => ⟨S1024x512, .f32⟩
  | 56 => ⟨S32768x512, .f32⟩
  | 57 => ⟨S32768x512, .f32⟩
  | 58 => ⟨S32768x1, .f32⟩
  | 59 => ⟨S1x512x1024, .f32⟩
  | 60 => ⟨S512x1024, .f32⟩
  | 61 => ⟨S32768x1024, .f32⟩
  | 62 => ⟨S32768x1024, .f32⟩
  | 63 => ⟨S32768x1024, .f32⟩
  | 64 => ⟨S32768x1024, .f32⟩
  | 65 => ⟨S1x1024x512, .f32⟩
  | 66 => ⟨S1024x512, .f32⟩
  | 67 => ⟨S32768x512, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S_, .f32⟩
  | 74 => ⟨S32768x512, .f32⟩
  | 75 => ⟨S32768x512, .f32⟩
  | 76 => ⟨S32768x512, .f32⟩
  | 77 => ⟨S1x1024x512, .f32⟩
  | 78 => ⟨S1024x512, .f32⟩
  | 79 => ⟨S32768x512, .f32⟩
  | 80 => ⟨S32768x512, .f32⟩
  | 81 => ⟨S32768x1, .f32⟩
  | 82 => ⟨S1x512x1024, .f32⟩
  | 83 => ⟨S512x1024, .f32⟩
  | 84 => ⟨S32768x1024, .f32⟩
  | 85 => ⟨S32768x1024, .f32⟩
  | 86 => ⟨S32768x1024, .f32⟩
  | 87 => ⟨S32768x1024, .f32⟩
  | 88 => ⟨S1x1024x512, .f32⟩
  | 89 => ⟨S1024x512, .f32⟩
  | 90 => ⟨S32768x512, .f32⟩
  | 91 => ⟨S32768x512, .f32⟩
  | 92 => ⟨S32768x512, .f32⟩
  | 93 => ⟨S_, .f32⟩
  | 94 => ⟨S32768x512, .f32⟩
  | 95 => ⟨S32768x512, .f32⟩
  | 96 => ⟨S_, .f32⟩
  | 97 => ⟨S32768x512, .f32⟩
  | 98 => ⟨S32768x512, .f32⟩
  | 99 => ⟨S32768x512, .f32⟩
  | 100 => ⟨S1x1024x512, .f32⟩
  | 101 => ⟨S1024x512, .f32⟩
  | 102 => ⟨S32768x512, .f32⟩
  | 103 => ⟨S32768x512, .f32⟩
  | 104 => ⟨S32768x1, .f32⟩
  | 105 => ⟨S1x512x1024, .f32⟩
  | 106 => ⟨S512x1024, .f32⟩
  | 107 => ⟨S32768x1024, .f32⟩
  | 108 => ⟨S32768x1024, .f32⟩
  | 109 => ⟨S32768x1024, .f32⟩
  | 110 => ⟨S32768x1024, .f32⟩
  | 111 => ⟨S1x1024x512, .f32⟩
  | 112 => ⟨S1024x512, .f32⟩
  | 113 => ⟨S32768x512, .f32⟩
  | 114 => ⟨S32768x512, .f32⟩
  | 115 => ⟨S32768x512, .f32⟩
  | 116 => ⟨S_, .f32⟩
  | 117 => ⟨S32768x512, .f32⟩
  | 118 => ⟨S32768x512, .f32⟩
  | 119 => ⟨S_, .f32⟩
  | 120 => ⟨S32768x512, .f32⟩
  | 121 => ⟨S32768x512, .f32⟩
  | 122 => ⟨S32768x512, .f32⟩
  | 123 => ⟨S1x1024x512, .f32⟩
  | 124 => ⟨S1024x512, .f32⟩
  | 125 => ⟨S32768x512, .f32⟩
  | 126 => ⟨S32768x512, .f32⟩
  | 127 => ⟨S32768x1, .f32⟩
  | _ => ⟨S32768x1024, .f32⟩

abbrev hbmTy0_3 (i : Nat) : BufTy := match i % 128 with
  | 0 => ⟨S1x512x1024, .f32⟩
  | 1 => ⟨S512x1024, .f32⟩
  | 2 => ⟨S32768x1024, .f32⟩
  | 3 => ⟨S32768x1024, .f32⟩
  | 4 => ⟨S32768x1024, .f32⟩
  | 5 => ⟨S32768x1024, .f32⟩
  | 6 => ⟨S1x1024x512, .f32⟩
  | 7 => ⟨S1024x512, .f32⟩
  | 8 => ⟨S32768x512, .f32⟩
  | 9 => ⟨S32768x512, .f32⟩
  | 10 => ⟨S32768x512, .f32⟩
  | 11 => ⟨S_, .f32⟩
  | 12 => ⟨S32768x512, .f32⟩
  | 13 => ⟨S32768x512, .f32⟩
  | 14 => ⟨S_, .f32⟩
  | 15 => ⟨S32768x512, .f32⟩
  | 16 => ⟨S32768x512, .f32⟩
  | 17 => ⟨S32768x512, .f32⟩
  | 18 => ⟨S1x1024x512, .f32⟩
  | 19 => ⟨S1024x512, .f32⟩
  | 20 => ⟨S32768x512, .f32⟩
  | 21 => ⟨S32768x512, .f32⟩
  | 22 => ⟨S32768x1, .f32⟩
  | 23 => ⟨S1x512x1024, .f32⟩
  | 24 => ⟨S512x1024, .f32⟩
  | 25 => ⟨S32768x1024, .f32⟩
  | 26 => ⟨S32768x1024, .f32⟩
  | 27 => ⟨S32768x1024, .f32⟩
  | 28 => ⟨S32768x1024, .f32⟩
  | 29 => ⟨S1x1024x512, .f32⟩
  | 30 => ⟨S1024x512, .f32⟩
  | 31 => ⟨S32768x512, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S32768x512, .f32⟩
  | 41 => ⟨S1x1024x512, .f32⟩
  | 42 => ⟨S1024x512, .f32⟩
  | 43 => ⟨S32768x512, .f32⟩
  | 44 => ⟨S32768x512, .f32⟩
  | 45 => ⟨S32768x1, .f32⟩
  | 46 => ⟨S1x512x1024, .f32⟩
  | 47 => ⟨S512x1024, .f32⟩
  | 48 => ⟨S32768x1024, .f32⟩
  | 49 => ⟨S32768x1024, .f32⟩
  | 50 => ⟨S32768x1024, .f32⟩
  | 51 => ⟨S32768x1024, .f32⟩
  | 52 => ⟨S1x1024x512, .f32⟩
  | 53 => ⟨S1024x512, .f32⟩
  | 54 => ⟨S32768x512, .f32⟩
  | 55 => ⟨S32768x512, .f32⟩
  | 56 => ⟨S32768x512, .f32⟩
  | 57 => ⟨S_, .f32⟩
  | 58 => ⟨S32768x512, .f32⟩
  | 59 => ⟨S32768x512, .f32⟩
  | 60 => ⟨S_, .f32⟩
  | 61 => ⟨S32768x512, .f32⟩
  | 62 => ⟨S32768x512, .f32⟩
  | 63 => ⟨S32768x512, .f32⟩
  | 64 => ⟨S1x1024x512, .f32⟩
  | 65 => ⟨S1024x512, .f32⟩
  | 66 => ⟨S32768x512, .f32⟩
  | 67 => ⟨S32768x512, .f32⟩
  | 68 => ⟨S32768x1, .f32⟩
  | 69 => ⟨S1x512x1024, .f32⟩
  | 70 => ⟨S512x1024, .f32⟩
  | 71 => ⟨S32768x1024, .f32⟩
  | 72 => ⟨S32768x1024, .f32⟩
  | 73 => ⟨S32768x1024, .f32⟩
  | 74 => ⟨S32768x1024, .f32⟩
  | 75 => ⟨S_, .f32⟩
  | 76 => ⟨S32768x1024, .f32⟩
  | 77 => ⟨S32768x1024, .f32⟩
  | 78 => ⟨S32768x1024, .f32⟩
  | 79 => ⟨S_, .f32⟩
  | 80 => ⟨S32768, .f32⟩
  | 81 => ⟨S32768x1, .f32⟩
  | 82 => ⟨S_, .f32⟩
  | 83 => ⟨S32768x1, .f32⟩
  | 84 => ⟨S32768x1, .f32⟩
  | 85 => ⟨S32768x1024, .f32⟩
  | 86 => ⟨S32768x1024, .f32⟩
  | 87 => ⟨S32768x1024, .f32⟩
  | 88 => ⟨S_, .f32⟩
  | 89 => ⟨S32768, .f32⟩
  | 90 => ⟨S32768x1, .f32⟩
  | 91 => ⟨S_, .f32⟩
  | 92 => ⟨S32768x1, .f32⟩
  | 93 => ⟨S32768x1, .f32⟩
  | 94 => ⟨S32768x1024, .f32⟩
  | 95 => ⟨S32768x1024, .f32⟩
  | 96 => ⟨S_, .f32⟩
  | 97 => ⟨S32768x1, .f32⟩
  | 98 => ⟨S32768x1, .f32⟩
  | 99 => ⟨S32768x1, .f32⟩
  | 100 => ⟨S32768x1024, .f32⟩
  | 101 => ⟨S32768x1024, .f32⟩
  | 102 => ⟨S1x1024, .f32⟩
  | 103 => ⟨S32768x1024, .f32⟩
  | 104 => ⟨S32768x1024, .f32⟩
  | 105 => ⟨S1x1024, .f32⟩
  | 106 => ⟨S32768x1024, .f32⟩
  | 107 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_values : Ref sig .tc := ⟨.hbm, 28, rfl⟩
abbrev main_indices : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_c_2 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_c_3 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v21 : Ref sig .tc := ⟨.hbm, 57, rfl⟩
abbrev main_v22 : Ref sig .tc := ⟨.hbm, 58, rfl⟩
abbrev main_values_2 : Ref sig .tc := ⟨.hbm, 59, rfl⟩
abbrev main_indices_3 : Ref sig .tc := ⟨.hbm, 60, rfl⟩
abbrev main_cst_4 : Ref sig .tc := ⟨.hbm, 61, rfl⟩
abbrev main_v23 : Ref sig .tc := ⟨.hbm, 62, rfl⟩
abbrev main_cst_5 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_6 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_c : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v40 : Ref sig .tc := ⟨.hbm, 87, rfl⟩
abbrev main_v41 : Ref sig .tc := ⟨.hbm, 88, rfl⟩
abbrev main_cst_7 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_call3_v0 : Ref sig .tc := ⟨.hbm, 117, rfl⟩
abbrev main_call3_v1 : Ref sig .tc := ⟨.hbm, 118, rfl⟩
abbrev main_call3_cst : Ref sig .tc := ⟨.hbm, 119, rfl⟩
abbrev main_call3_v2 : Ref sig .tc := ⟨.hbm, 120, rfl⟩
abbrev main_call3_v3 : Ref sig .tc := ⟨.hbm, 121, rfl⟩
abbrev main_call3_cst_0 : Ref sig .tc := ⟨.hbm, 122, rfl⟩
abbrev main_call3_v4 : Ref sig .tc := ⟨.hbm, 123, rfl⟩
abbrev main_call3_v5 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_call4_v0 : Ref sig .tc := ⟨.hbm, 140, rfl⟩
abbrev main_call4_v1 : Ref sig .tc := ⟨.hbm, 141, rfl⟩
abbrev main_call4_cst : Ref sig .tc := ⟨.hbm, 142, rfl⟩
abbrev main_call4_v2 : Ref sig .tc := ⟨.hbm, 143, rfl⟩
abbrev main_call4_v3 : Ref sig .tc := ⟨.hbm, 144, rfl⟩
abbrev main_call4_cst_0 : Ref sig .tc := ⟨.hbm, 145, rfl⟩
abbrev main_call4_v4 : Ref sig .tc := ⟨.hbm, 146, rfl⟩
abbrev main_call4_v5 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_call5_v0 : Ref sig .tc := ⟨.hbm, 163, rfl⟩
abbrev main_call5_v1 : Ref sig .tc := ⟨.hbm, 164, rfl⟩
abbrev main_call5_cst : Ref sig .tc := ⟨.hbm, 165, rfl⟩
abbrev main_call5_v2 : Ref sig .tc := ⟨.hbm, 166, rfl⟩
abbrev main_call5_v3 : Ref sig .tc := ⟨.hbm, 167, rfl⟩
abbrev main_call5_cst_0 : Ref sig .tc := ⟨.hbm, 168, rfl⟩
abbrev main_call5_v4 : Ref sig .tc := ⟨.hbm, 169, rfl⟩
abbrev main_call5_v5 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_call6_v0 : Ref sig .tc := ⟨.hbm, 186, rfl⟩
abbrev main_call6_v1 : Ref sig .tc := ⟨.hbm, 187, rfl⟩
abbrev main_call6_cst : Ref sig .tc := ⟨.hbm, 188, rfl⟩
abbrev main_call6_v2 : Ref sig .tc := ⟨.hbm, 189, rfl⟩
abbrev main_call6_v3 : Ref sig .tc := ⟨.hbm, 190, rfl⟩
abbrev main_call6_cst_0 : Ref sig .tc := ⟨.hbm, 191, rfl⟩
abbrev main_call6_v4 : Ref sig .tc := ⟨.hbm, 192, rfl⟩
abbrev main_call6_v5 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_call7_v0 : Ref sig .tc := ⟨.hbm, 209, rfl⟩
abbrev main_call7_v1 : Ref sig .tc := ⟨.hbm, 210, rfl⟩
abbrev main_call7_cst : Ref sig .tc := ⟨.hbm, 211, rfl⟩
abbrev main_call7_v2 : Ref sig .tc := ⟨.hbm, 212, rfl⟩
abbrev main_call7_v3 : Ref sig .tc := ⟨.hbm, 213, rfl⟩
abbrev main_call7_cst_0 : Ref sig .tc := ⟨.hbm, 214, rfl⟩
abbrev main_call7_v4 : Ref sig .tc := ⟨.hbm, 215, rfl⟩
abbrev main_call7_v5 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_call8_v0 : Ref sig .tc := ⟨.hbm, 232, rfl⟩
abbrev main_call8_v1 : Ref sig .tc := ⟨.hbm, 233, rfl⟩
abbrev main_call8_cst : Ref sig .tc := ⟨.hbm, 234, rfl⟩
abbrev main_call8_v2 : Ref sig .tc := ⟨.hbm, 235, rfl⟩
abbrev main_call8_v3 : Ref sig .tc := ⟨.hbm, 236, rfl⟩
abbrev main_call8_cst_0 : Ref sig .tc := ⟨.hbm, 237, rfl⟩
abbrev main_call8_v4 : Ref sig .tc := ⟨.hbm, 238, rfl⟩
abbrev main_call8_v5 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_call9_v0 : Ref sig .tc := ⟨.hbm, 255, rfl⟩
abbrev main_call9_v1 : Ref sig .tc := ⟨.hbm, 256, rfl⟩
abbrev main_call9_cst : Ref sig .tc := ⟨.hbm, 257, rfl⟩
abbrev main_call9_v2 : Ref sig .tc := ⟨.hbm, 258, rfl⟩
abbrev main_call9_v3 : Ref sig .tc := ⟨.hbm, 259, rfl⟩
abbrev main_call9_cst_0 : Ref sig .tc := ⟨.hbm, 260, rfl⟩
abbrev main_call9_v4 : Ref sig .tc := ⟨.hbm, 261, rfl⟩
abbrev main_call9_v5 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_call10_v0 : Ref sig .tc := ⟨.hbm, 278, rfl⟩
abbrev main_call10_v1 : Ref sig .tc := ⟨.hbm, 279, rfl⟩
abbrev main_call10_cst : Ref sig .tc := ⟨.hbm, 280, rfl⟩
abbrev main_call10_v2 : Ref sig .tc := ⟨.hbm, 281, rfl⟩
abbrev main_call10_v3 : Ref sig .tc := ⟨.hbm, 282, rfl⟩
abbrev main_call10_cst_0 : Ref sig .tc := ⟨.hbm, 283, rfl⟩
abbrev main_call10_v4 : Ref sig .tc := ⟨.hbm, 284, rfl⟩
abbrev main_call10_v5 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_call11_v0 : Ref sig .tc := ⟨.hbm, 301, rfl⟩
abbrev main_call11_v1 : Ref sig .tc := ⟨.hbm, 302, rfl⟩
abbrev main_call11_cst : Ref sig .tc := ⟨.hbm, 303, rfl⟩
abbrev main_call11_v2 : Ref sig .tc := ⟨.hbm, 304, rfl⟩
abbrev main_call11_v3 : Ref sig .tc := ⟨.hbm, 305, rfl⟩
abbrev main_call11_cst_0 : Ref sig .tc := ⟨.hbm, 306, rfl⟩
abbrev main_call11_v4 : Ref sig .tc := ⟨.hbm, 307, rfl⟩
abbrev main_call11_v5 : Ref sig .tc := ⟨.hbm, 308, rfl⟩
abbrev main_v181 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_call12_v0 : Ref sig .tc := ⟨.hbm, 324, rfl⟩
abbrev main_call12_v1 : Ref sig .tc := ⟨.hbm, 325, rfl⟩
abbrev main_call12_cst : Ref sig .tc := ⟨.hbm, 326, rfl⟩
abbrev main_call12_v2 : Ref sig .tc := ⟨.hbm, 327, rfl⟩
abbrev main_call12_v3 : Ref sig .tc := ⟨.hbm, 328, rfl⟩
abbrev main_call12_cst_0 : Ref sig .tc := ⟨.hbm, 329, rfl⟩
abbrev main_call12_v4 : Ref sig .tc := ⟨.hbm, 330, rfl⟩
abbrev main_call12_v5 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_call13_v0 : Ref sig .tc := ⟨.hbm, 347, rfl⟩
abbrev main_call13_v1 : Ref sig .tc := ⟨.hbm, 348, rfl⟩
abbrev main_call13_cst : Ref sig .tc := ⟨.hbm, 349, rfl⟩
abbrev main_call13_v2 : Ref sig .tc := ⟨.hbm, 350, rfl⟩
abbrev main_call13_v3 : Ref sig .tc := ⟨.hbm, 351, rfl⟩
abbrev main_call13_cst_0 : Ref sig .tc := ⟨.hbm, 352, rfl⟩
abbrev main_call13_v4 : Ref sig .tc := ⟨.hbm, 353, rfl⟩
abbrev main_call13_v5 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_v217 : Ref sig .tc := ⟨.hbm, 361, rfl⟩
abbrev main_v218 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_call14_v0 : Ref sig .tc := ⟨.hbm, 370, rfl⟩
abbrev main_call14_v1 : Ref sig .tc := ⟨.hbm, 371, rfl⟩
abbrev main_call14_cst : Ref sig .tc := ⟨.hbm, 372, rfl⟩
abbrev main_call14_v2 : Ref sig .tc := ⟨.hbm, 373, rfl⟩
abbrev main_call14_v3 : Ref sig .tc := ⟨.hbm, 374, rfl⟩
abbrev main_call14_cst_0 : Ref sig .tc := ⟨.hbm, 375, rfl⟩
abbrev main_call14_v4 : Ref sig .tc := ⟨.hbm, 376, rfl⟩
abbrev main_call14_v5 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_v240 : Ref sig .tc := ⟨.hbm, 392, rfl⟩
abbrev main_call15_v0 : Ref sig .tc := ⟨.hbm, 393, rfl⟩
abbrev main_call15_v1 : Ref sig .tc := ⟨.hbm, 394, rfl⟩
abbrev main_call15_cst : Ref sig .tc := ⟨.hbm, 395, rfl⟩
abbrev main_call15_v2 : Ref sig .tc := ⟨.hbm, 396, rfl⟩
abbrev main_call15_v3 : Ref sig .tc := ⟨.hbm, 397, rfl⟩
abbrev main_call15_cst_0 : Ref sig .tc := ⟨.hbm, 398, rfl⟩
abbrev main_call15_v4 : Ref sig .tc := ⟨.hbm, 399, rfl⟩
abbrev main_call15_v5 : Ref sig .tc := ⟨.hbm, 400, rfl⟩
abbrev main_v241 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_v245 : Ref sig .tc := ⟨.hbm, 405, rfl⟩
abbrev main_v246 : Ref sig .tc := ⟨.hbm, 406, rfl⟩
abbrev main_v247 : Ref sig .tc := ⟨.hbm, 407, rfl⟩
abbrev main_v248 : Ref sig .tc := ⟨.hbm, 408, rfl⟩
abbrev main_v249 : Ref sig .tc := ⟨.hbm, 409, rfl⟩
abbrev main_v250 : Ref sig .tc := ⟨.hbm, 410, rfl⟩
abbrev main_v251 : Ref sig .tc := ⟨.hbm, 411, rfl⟩
abbrev main_v252 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_call16_v0 : Ref sig .tc := ⟨.hbm, 416, rfl⟩
abbrev main_call16_v1 : Ref sig .tc := ⟨.hbm, 417, rfl⟩
abbrev main_call16_cst : Ref sig .tc := ⟨.hbm, 418, rfl⟩
abbrev main_call16_v2 : Ref sig .tc := ⟨.hbm, 419, rfl⟩
abbrev main_call16_v3 : Ref sig .tc := ⟨.hbm, 420, rfl⟩
abbrev main_call16_cst_0 : Ref sig .tc := ⟨.hbm, 421, rfl⟩
abbrev main_call16_v4 : Ref sig .tc := ⟨.hbm, 422, rfl⟩
abbrev main_call16_v5 : Ref sig .tc := ⟨.hbm, 423, rfl⟩
abbrev main_v256 : Ref sig .tc := ⟨.hbm, 424, rfl⟩
abbrev main_v257 : Ref sig .tc := ⟨.hbm, 425, rfl⟩
abbrev main_v258 : Ref sig .tc := ⟨.hbm, 426, rfl⟩
abbrev main_v259 : Ref sig .tc := ⟨.hbm, 427, rfl⟩
abbrev main_v260 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_v267 : Ref sig .tc := ⟨.hbm, 435, rfl⟩
abbrev main_v268 : Ref sig .tc := ⟨.hbm, 436, rfl⟩
abbrev main_v269 : Ref sig .tc := ⟨.hbm, 437, rfl⟩
abbrev main_v270 : Ref sig .tc := ⟨.hbm, 438, rfl⟩
abbrev main_call17_v0 : Ref sig .tc := ⟨.hbm, 439, rfl⟩
abbrev main_call17_v1 : Ref sig .tc := ⟨.hbm, 440, rfl⟩
abbrev main_call17_cst : Ref sig .tc := ⟨.hbm, 441, rfl⟩
abbrev main_call17_v2 : Ref sig .tc := ⟨.hbm, 442, rfl⟩
abbrev main_call17_v3 : Ref sig .tc := ⟨.hbm, 443, rfl⟩
abbrev main_call17_cst_0 : Ref sig .tc := ⟨.hbm, 444, rfl⟩
abbrev main_call17_v4 : Ref sig .tc := ⟨.hbm, 445, rfl⟩
abbrev main_call17_v5 : Ref sig .tc := ⟨.hbm, 446, rfl⟩
abbrev main_v271 : Ref sig .tc := ⟨.hbm, 447, rfl⟩
abbrev main_v272 : Ref sig .tc := ⟨.hbm, 448, rfl⟩
abbrev main_v273 : Ref sig .tc := ⟨.hbm, 449, rfl⟩
abbrev main_v274 : Ref sig .tc := ⟨.hbm, 450, rfl⟩
abbrev main_v275 : Ref sig .tc := ⟨.hbm, 451, rfl⟩
abbrev main_v276 : Ref sig .tc := ⟨.hbm, 452, rfl⟩
abbrev main_v277 : Ref sig .tc := ⟨.hbm, 453, rfl⟩
abbrev main_v278 : Ref sig .tc := ⟨.hbm, 454, rfl⟩
abbrev main_v279 : Ref sig .tc := ⟨.hbm, 455, rfl⟩
abbrev main_v280 : Ref sig .tc := ⟨.hbm, 456, rfl⟩
abbrev main_v281 : Ref sig .tc := ⟨.hbm, 457, rfl⟩
abbrev main_v282 : Ref sig .tc := ⟨.hbm, 458, rfl⟩
abbrev main_cst_8 : Ref sig .tc := ⟨.hbm, 459, rfl⟩
abbrev main_v283 : Ref sig .tc := ⟨.hbm, 460, rfl⟩
abbrev main_v284 : Ref sig .tc := ⟨.hbm, 461, rfl⟩
abbrev main_v285 : Ref sig .tc := ⟨.hbm, 462, rfl⟩
abbrev main_cst_9 : Ref sig .tc := ⟨.hbm, 463, rfl⟩
abbrev main_v286 : Ref sig .tc := ⟨.hbm, 464, rfl⟩
abbrev main_v287 : Ref sig .tc := ⟨.hbm, 465, rfl⟩
abbrev main_cst_10 : Ref sig .tc := ⟨.hbm, 466, rfl⟩
abbrev main_v288 : Ref sig .tc := ⟨.hbm, 467, rfl⟩
abbrev main_v289 : Ref sig .tc := ⟨.hbm, 468, rfl⟩
abbrev main_v290 : Ref sig .tc := ⟨.hbm, 469, rfl⟩
abbrev main_v291 : Ref sig .tc := ⟨.hbm, 470, rfl⟩
abbrev main_v292 : Ref sig .tc := ⟨.hbm, 471, rfl⟩
abbrev main_cst_11 : Ref sig .tc := ⟨.hbm, 472, rfl⟩
abbrev main_v293 : Ref sig .tc := ⟨.hbm, 473, rfl⟩
abbrev main_v294 : Ref sig .tc := ⟨.hbm, 474, rfl⟩
abbrev main_cst_12 : Ref sig .tc := ⟨.hbm, 475, rfl⟩
abbrev main_v295 : Ref sig .tc := ⟨.hbm, 476, rfl⟩
abbrev main_v296 : Ref sig .tc := ⟨.hbm, 477, rfl⟩
abbrev main_v297 : Ref sig .tc := ⟨.hbm, 478, rfl⟩
abbrev main_v298 : Ref sig .tc := ⟨.hbm, 479, rfl⟩
abbrev main_cst_13 : Ref sig .tc := ⟨.hbm, 480, rfl⟩
abbrev main_v299 : Ref sig .tc := ⟨.hbm, 481, rfl⟩
abbrev main_v300 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_v304 : Ref sig .tc := ⟨.hbm, 486, rfl⟩
abbrev main_v305 : Ref sig .tc := ⟨.hbm, 487, rfl⟩
abbrev main_v306 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1024x6996 : Shape := ⟨2, ![1024, 6996]⟩
abbrev S6996 : Shape := ⟨1, ![6996]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S1x2048 : Shape := ⟨2, ![1, 2048]⟩
abbrev S32768x1024 : Shape := ⟨2, ![32768, 1024]⟩
abbrev S32768x512 : Shape := ⟨2, ![32768, 512]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x1024, .bf16⟩
  | .hbm, ⟨3, _⟩ => ⟨S1024x6996, .f32⟩
  | .hbm, ⟨4, _⟩ => ⟨S6996, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x2048, .f32⟩
  | .hbm, ⟨13, _⟩ => ⟨S1024x2048, .bf16⟩
  | .hbm, ⟨14, _⟩ => ⟨S1024, .f32⟩
  | .hbm, ⟨15, _⟩ => ⟨S1024, .f32⟩
  | .hbm, ⟨16, _⟩ => ⟨S2048, .f32⟩
  | .hbm, ⟨17, _⟩ => ⟨S1x2048, .f32⟩
  | .hbm, ⟨18, _⟩ => ⟨S32768x1024, .f32⟩
  | .hbm, ⟨19, _⟩ => ⟨S32768x512, .bf16⟩
  | .hbm, ⟨20, _⟩ => ⟨S32768x1024, .bf16⟩
  | .hbm, ⟨21, _⟩ => ⟨S512x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x8192x1024 : Shape := ⟨3, ![4, 8192, 1024]⟩
abbrev S4x8192x512 : Shape := ⟨3, ![4, 8192, 512]⟩
abbrev S1024x6996 : Shape := ⟨2, ![1024, 6996]⟩
abbrev S6996 : Shape := ⟨1, ![6996]⟩
abbrev S512x1024 : Shape := ⟨2, ![512, 1024]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x1024, .bf16⟩
  | .hbm, ⟨3, _⟩ => ⟨S1024x6996, .f32⟩
  | .hbm, ⟨4, _⟩ => ⟨S6996, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32768x1024, .f32⟩
  | .hbm, ⟨11, _⟩ => ⟨S4x8192x512, .f32⟩
  | .hbm, ⟨12, _⟩ => ⟨S32768x512, .f32⟩
  | .hbm, ⟨13, _⟩ => ⟨S4x8192x1024, .f32⟩
  | .hbm, ⟨14, _⟩ => ⟨S32768x1024, .f32⟩
  | .hbm, ⟨15, _⟩ => ⟨S1024x1024, .f32⟩
  | .hbm, ⟨16, _⟩ => ⟨S32768x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x1024, .f32⟩
  | .hbm, ⟨22, _⟩ => ⟨S32768x1024, .f32⟩
  | .hbm, ⟨23, _⟩ => ⟨S1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S1x1024, .f32⟩
  | .hbm, ⟨77, _⟩ => ⟨S32768x1024, .f32⟩
  | .hbm, ⟨78, _⟩ => ⟨S32768x1024, .f32⟩
  | .hbm, ⟨79, _⟩ => ⟨S1x1024, .f32⟩
  | .hbm, ⟨80, _⟩ => ⟨S32768x1024, .f32⟩
  | .hbm, ⟨81, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proof.Row.lean ====
/- Rows of the two results, written as plain functions of a row: the sum over a contracted axis, the logistic gate, and the
   layer norm of a row with its gain and bias. -/
module

public import Idealize.ShloMosaic.Lib.Pointwise

@[expose] public section

noncomputable section

namespace Cert.Proof.Row

open Idealize.ShloMosaic

/-- The mean of a row of 1024 entries. -/
def mean (f : Fin 1024 → EReal) : EReal := Ideal.div (∑ k, f k) (Ideal.ofBits .f32 0x44800000#32)

/-- The mean of the squared distances from the row's mean. -/
def var (f : Fin 1024 → EReal) : EReal := mean fun k => (f k - mean f) * (f k - mean f)

/-- The layer norm of the row `f` at column `l`, with that column's gain and bias. -/
def lnorm (f : Fin 1024 → EReal) (g b : EReal) (l : Fin 1024) : EReal :=
  (f l - mean f) * Ideal.rsqrt (var f + Ideal.ofBits .f32 0x3727C5AC#32) * g + b

/-- The residual's factor. -/
abbrev alpha : EReal := Ideal.ofBits .f32 0x3F9837F0#32

/-- The logistic function. -/
def gate (y : EReal) : EReal := Ideal.div 1 (1 + Ideal.exp (-y))

/-- A row against column `l` of a matrix. -/
def dot {n d : Nat} (f : Fin n → EReal) (w : Fin n → Fin d → EReal) (l : Fin d) : EReal := ∑ k, f k * w k l

end Cert.Proof.Row

end
-- ==== Proof.MergeRow.lean ====
/- The gated merge of one token, `row`, as a function of the token's rows of the three inputs and the weights; what the
   kernel stores for a block, row by row; and the host reference, row by row. -/
module

public import proofs.«01_k».proof.Proof.Gen.Kernel2Ideal.Value
public import proofs.«01_k».proof.Proof.Gen.Reference2Ideal.Read
public import proofs.«01_k».proof.Proof.Row

@[expose] public section

noncomputable section

namespace Cert.Proof.Merge

open Idealize.ShloMosaic Cert.Proof.Row

/-- The two gated branches of a token, summed. -/
def mix (x : Fin 1024 → EReal) (ya : Fin 512 → EReal) (ym : Fin 1024 → EReal) (ga gm : Fin 1024 → Fin 1024 → EReal)
    (ba bm : Fin 1024 → EReal) (wa : Fin 512 → Fin 1024 → EReal) (wm : Fin 1024 → Fin 1024 → EReal) (l : Fin 1024) : EReal :=
  gate (dot x ga l + ba l) * dot ya wa l + gate (dot x gm l + bm l) * dot ym wm l

/-- The token's result before the norm: the scaled input plus the projected merge. -/
def pre (x : Fin 1024 → EReal) (ya : Fin 512 → EReal) (ym : Fin 1024 → EReal) (ga gm : Fin 1024 → Fin 1024 → EReal)
    (ba bm : Fin 1024 → EReal) (wa : Fin 512 → Fin 1024 → EReal) (wm wo : Fin 1024 → Fin 1024 → EReal) (l : Fin 1024) : EReal :=
  alpha * x l + dot (mix x ya ym ga gm ba bm wa wm) wo l

/-- The token's result. -/
def row (x : Fin 1024 → EReal) (ya : Fin 512 → EReal) (ym : Fin 1024 → EReal) (ga gm : Fin 1024 → Fin 1024 → EReal)
    (ba bm : Fin 1024 → EReal) (wa : Fin 512 → Fin 1024 → EReal) (wm wo : Fin 1024 → Fin 1024 → EReal) (g b : Fin 1024 → EReal)
    (l : Fin 1024) : EReal :=
  lnorm (pre x ya ym ga gm ba bm wa wm wo) (g l) (b l) l

section Kernel
open Cert.Kernel2Ideal Cert.Kernel2Ideal.Gen

/-- The attention branch under its gate, at an index of the block. -/
theorem branch_apply (v0 : Vec Ideal S512x1024 .f32) (v3 : Vec Ideal S1024x1024 .bf16) (v6 : Vec Ideal S1x1024 .f32)
    (v17 : Vec Ideal S512x512 .bf16) (v19 : Vec Ideal S512x1024 .bf16) (r : Fin 512) (l : Fin 1024) :
    k0_pay3 v0 v3 v6 v17 v19 (ix2 r l)
      = gate (dot (fun k => v0 (ix2 r k)) (fun k l => v3 (ix2 k l)) l + v6 (ix2 0 l))
          * dot (fun k => v17 (ix2 r k)) (fun k l => v19 (ix2 k l)) l := by
  pointwise [k0_pay3, k0_pay2, k0_pay1, gate, dot]
  rw [zero_sub]

/-- The other gate's denominator, at an index of the block. -/
theorem denom_apply (v0 : Vec Ideal S512x1024 .f32) (v23 : Vec Ideal S1024x1024 .bf16) (v26 : Vec Ideal S1x1024 .f32)
    (r : Fin 512) (l : Fin 1024) :
    k0_pay4 v0 v23 v26 (ix2 r l)
      = 1 + Ideal.exp (-(dot (fun k => v0 (ix2 r k)) (fun k l => v23 (ix2 k l)) l + v26 (ix2 0 l))) := by
  pointwise [k0_pay4, k0_pay2, k0_pay1, dot]
  rw [zero_sub]

/-- The stored block, at an index. -/
theorem store_apply (v1 v22 v34 v35 : FVec Ideal S512x1024 .f32) (v37 : Vec Ideal S512x1024 .bf16)
    (v39 v47 : Vec Ideal S1024x1024 .bf16) (v51 v53 : Vec Ideal S1x1024 .f32) (r : Fin 512) (l : Fin 1024) :
    k0_pay6 v1 v22 v34 v35 v37 v39 v47 v51 v53 (ix2 r l)
      = lnorm (fun l => alpha * v1 (ix2 r l)
          + dot (fun k => v22 (ix2 r k)
              + Ideal.div (v35 (ix2 r k)) (v34 (ix2 r k)) * dot (fun k => v37 (ix2 r k)) (fun k l => v39 (ix2 k l)) k)
            (fun k l => v47 (ix2 k l)) l) (v51 (ix2 0 l)) (v53 (ix2 0 l)) l := by
  pointwise [k0_pay6, lnorm, alpha, var, mean, dot]

/-- What the kernel stores for a block, row by row. -/
theorem block_apply (v0 : Vec Ideal S512x1024 .f32) (v3 v23 : Vec Ideal S1024x1024 .bf16) (v6 v26 : Vec Ideal S1x1024 .f32)
    (v17 : Vec Ideal S512x512 .bf16) (v19 : Vec Ideal S512x1024 .bf16) (v37 : Vec Ideal S512x1024 .bf16)
    (v39 v47 : Vec Ideal S1024x1024 .bf16) (v51 v53 : Vec Ideal S1x1024 .f32) (r : Fin 512) (l : Fin 1024) :
    k0_pay6 (k0_pay1 v0) (k0_pay3 v0 v3 v6 v17 v19) (k0_pay4 v0 v23 v26) (k0_pay5 (F := Ideal)) v37 v39 v47 v51 v53 (ix2 r l)
      = row (fun k => v0 (ix2 r k)) (fun k => v17 (ix2 r k)) (fun k => v37 (ix2 r k)) (fun k l => v3 (ix2 k l))
          (fun k l => v23 (ix2 k l)) (fun l => v6 (ix2 0 l)) (fun l => v26 (ix2 0 l)) (fun k l => v19 (ix2 k l))
          (fun k l => v39 (ix2 k l)) (fun k l => v47 (ix2 k l)) (fun l => v51 (ix2 0 l)) (fun l => v53 (ix2 0 l)) l := by
  rw [store_apply]
  have e1 : ∀ k, k0_pay1 v0 (ix2 r k) = v0 (ix2 r k) := fun k => by pointwise [k0_pay1]
  have e5 : ∀ k, k0_pay5 (F := Ideal) (ix2 r k) = 1 := fun k => by pointwise [k0_pay5]
  simp only [e1, e5, branch_apply, denom_apply]
  rfl

end Kernel

section Reference
open Cert.Reference2Ideal Cert.Reference2Ideal.Read

variable (x0 : (⟨S4x8192x1024, .f32⟩ : BufTy).Contents (Elt Ideal)) (x1 : (⟨S4x8192x512, .bf16⟩ : BufTy).Contents (Elt Ideal))
  (x2 : (⟨S4x8192x1024, .bf16⟩ : BufTy).Contents (Elt Ideal)) (x3 : (⟨S1024x6996, .f32⟩ : BufTy).Contents (Elt Ideal))
  (x4 : (⟨S6996, .f32⟩ : BufTy).Contents (Elt Ideal)) (x5 : (⟨S512x1024, .f32⟩ : BufTy).Contents (Elt Ideal))
  (x6 x7 : (⟨S1024x1024, .f32⟩ : BufTy).Contents (Elt Ideal)) (x8 x9 : (⟨S1024, .f32⟩ : BufTy).Contents (Elt Ideal))

/-- The gates' columns of the input projection, and their biases. -/
abbrev gcol (o : Nat) (ho : o + 1024 ≤ 6996) (k l : Fin 1024) : EReal := x3 (ix2 k ⟨o + l.val, by omega⟩)
abbrev gbias (o : Nat) (ho : o + 1024 ≤ 6996) (l : Fin 1024) : EReal := x4 (ix1 ⟨o + l.val, by omega⟩)

/-- The reference's merge of the branches at an index. -/
theorem ref_mix (R : Fin 32768) (l : Fin 1024) :
    val_main_v33 (F := Ideal) x0 x1 x2 x3 x4 x5 x6 (ix2 R l)
      = mix (fun k => val_main_v0 (F := Ideal) x0 (ix2 R k)) (fun k => val_main_v2 (F := Ideal) x1 (ix2 R k))
          (fun k => val_main_v4 (F := Ideal) x2 (ix2 R k)) (gcol x3 4948 (by omega)) (gcol x3 5972 (by omega))
          (gbias x4 4948 (by omega)) (gbias x4 5972 (by omega)) (fun k l => x5 (ix2 k l)) (fun k l => x6 (ix2 k l)) l := by
  unfold val_main_v33 val_main_v32 val_main_v24 val_main_v22 val_main_v30 val_main_v23 val_main_v31 val_main_v20 val_main_v28
    val_main_v18 val_main_v26 val_main_v17 val_main_v25 val_main_v10 val_main_v16 val_main_v6 val_main_v12
  pointwise [val_main_v21, val_main_v29, val_main_v19, val_main_v27, val_main_v9, val_main_v15, val_main_v8, val_main_v14,
    val_main_v7, val_main_v13, val_main_v5, val_main_v11, val_main_cst, val_main_cst_0, val_main_cst_1, val_main_cst_2, mix, gate, dot]

theorem ref_pre (R : Fin 32768) (l : Fin 1024) :
    val_main_v37 (F := Ideal) x0 x1 x2 x3 x4 x5 x6 x7 (ix2 R l)
      = alpha * val_main_v0 (F := Ideal) x0 (ix2 R l)
        + dot (fun l => val_main_v33 (F := Ideal) x0 x1 x2 x3 x4 x5 x6 (ix2 R l)) (fun k l => x7 (ix2 k l)) l := by
  unfold val_main_v37 val_main_v36 val_main_v35 val_main_v34 val_main_cst_3
  generalize val_main_v33 (F := Ideal) x0 x1 x2 x3 x4 x5 x6 = y
  generalize val_main_v0 (F := Ideal) x0 = z
  pointwise [dot, alpha]

theorem ref_norm (R : Fin 32768) (l : Fin 1024) :
    val_main_v61 (F := Ideal) x0 x1 x2 x3 x4 x5 x6 x7 x8 x9 (ix2 R l)
      = lnorm (fun l => val_main_v37 (F := Ideal) x0 x1 x2 x3 x4 x5 x6 x7 (ix2 R l)) (x8 (ix1 l)) (x9 (ix1 l)) l := by
  unfold val_main_v61 val_main_v60 val_main_v59 val_main_v58 val_main_v57 val_main_v56 val_main_v55 val_main_v54 val_main_v53
    val_main_v52 val_main_v51 val_main_v50 val_main_v49 val_main_v48 val_main_v47 val_main_v46 val_main_v45 val_main_v44
    val_main_v43 val_main_v42 val_main_v41 val_main_v40 val_main_v39 val_main_v38 val_main_cst_4 val_main_cst_5 val_main_cst_6
    val_main_cst_7 val_main_cst_8
  generalize val_main_v37 (F := Ideal) x0 x1 x2 x3 x4 x5 x6 x7 = y
  pointwise [lnorm, var, mean]

/-- The reference, row by row. -/
theorem ref_apply (R : Fin 32768) (l : Fin 1024) :
    val_main_v61 (F := Ideal) x0 x1 x2 x3 x4 x5 x6 x7 x8 x9 (ix2 R l)
      = row (fun k => val_main_v0 (F := Ideal) x0 (ix2 R k)) (fun k => val_main_v2 (F := Ideal) x1 (ix2 R k))
          (fun k => val_main_v4 (F := Ideal) x2 (ix2 R k)) (gcol x3 4948 (by omega)) (gcol x3 5972 (by omega))
          (gbias x4 4948 (by omega)) (gbias x4 5972 (by omega)) (fun k l => x5 (ix2 k l)) (fun k l => x6 (ix2 k l))
          (fun k l => x7 (ix2 k l)) (fun l => x8 (ix1 l)) (fun l => x9 (ix1 l)) l := by
  rw [ref_norm]
  simp only [ref_pre, ref_mix]
  rfl

end Reference
end Cert.Proof.Merge
end
-- ==== Proof.Merge.lean ====
/- The merge kernel's result array as one function of its arguments, and its equality with the reference's. -/
module

public import proofs.«01_k».proof.Proof.MergeRow
public import Idealize.ShloMosaic.Lib.Pointwise

@[expose] public section

noncomputable section

namespace Cert.Proof.Merge

open Idealize.ShloMosaic Idealize.ShloMosaic.TcCoe Idealize.SL.Sem Cert.Proof.Row
open Cert.Kernel2Ideal Cert.Kernel2Ideal.Gen Cert.Kernel2Ideal.Value

theorem hz : (![0, 0] : Fin 2 → Nat) = fun _ => 0 := funext fun a => by fin_cases a <;> rfl

variable (m : (ℓ : Loc nD τ sig) → Buf (Elt Ideal) ℓ)

/-! ## The arrays the call finds -/

/-- An argument array of the kernel as launched. -/
abbrev arg (c : Dev nD) (b : Ref sig .tc) := m ((c : Thread nD τ).loc b)

theorem V_v8 (c : Dev nD) : @Eq (FVec Ideal S32768x1024 .f32) (V m c main_v8)
    (shapeCast S32768x1024 (m ((c : Thread nD τ).loc main_arg0) : Vec Ideal S4x8192x1024 .f32) shapeCasts_S4x8192x1024_S32768x1024) := by
  unfold V hostOps0; after_results_simp <;> rfl
theorem V_v9 (c : Dev nD) : @Eq (FVec Ideal S32768x512 .bf16) (V m c main_v9)
    (shapeCast S32768x512 (m ((c : Thread nD τ).loc main_arg1) : Vec Ideal S4x8192x512 .bf16) shapeCasts_S4x8192x512_S32768x512) := by
  unfold V hostOps0; after_results_simp <;> rfl
theorem V_v10 (c : Dev nD) : @Eq (FVec Ideal S32768x1024 .bf16) (V m c main_v10)
    (shapeCast S32768x1024 (m ((c : Thread nD τ).loc main_arg2) : Vec Ideal S4x8192x1024 .bf16) shapeCasts_S4x8192x1024_S32768x1024) := by
  unfold V hostOps0; after_results_simp <;> rfl

/-- The two gates' columns side by side. -/
theorem V_v3 (c : Dev nD) : @Eq (FVec Ideal S1024x2048 .bf16) (V m c main_v3)
    (truncf (F := Ideal) (s := _) .bf16 (concatenate S1024x2048 1
        [⟨S1024x1024, extractStridedSlice S1024x1024 ![0, 4948] (m ((c : Thread nD τ).loc main_arg3) : Vec Ideal S1024x6996 .f32) slices_S1024x6996_S1024x1024_0_4948⟩,
         ⟨S1024x1024, extractStridedSlice S1024x1024 ![0, 5972] (m ((c : Thread nD τ).loc main_arg3) : Vec Ideal S1024x6996 .f32) slices_S1024x6996_S1024x1024_0_5972⟩]
        concatenates_S1024x1024_S1024x1024_S1024x2048_d1) bitsLt_bf16_f32) := by
  unfold V hostOps0; after_results_simp <;> rfl
theorem V_v7 (c : Dev nD) : @Eq (FVec Ideal S1x2048 .f32) (V m c main_v7)
    (broadcastInDim S1x2048 ![1] bcast_S2048_S1x2048_1 (concatenate S2048 0
        [⟨S1024, extractStridedSlice S1024 ![4948] (m ((c : Thread nD τ).loc main_arg4) : Vec Ideal S6996 .f32) slices_S6996_S1024_4948⟩,
         ⟨S1024, extractStridedSlice S1024 ![5972] (m ((c : Thread nD τ).loc main_arg4) : Vec Ideal S6996 .f32) slices_S6996_S1024_5972⟩]
        concatenates_S1024_S1024_S2048_d0)) := by
  unfold V hostOps0; after_results_simp <;> rfl
theorem V_v11 (c : Dev nD) : @Eq (FVec Ideal S512x1024 .bf16) (V m c main_v11)
    (truncf (F := Ideal) (s := _) .bf16 (m ((c : Thread nD τ).loc main_arg5) : Vec Ideal S512x1024 .f32) bitsLt_bf16_f32) := by
  unfold V hostOps0; after_results_simp <;> rfl
theorem V_v12 (c : Dev nD) : @Eq (FVec Ideal S1024x1024 .bf16) (V m c main_v12)
    (truncf (F := Ideal) (s := _) .bf16 (m ((c : Thread nD τ).loc main_arg6) : Vec Ideal S1024x1024 .f32) bitsLt_bf16_f32) := by
  unfold V hostOps0; after_results_simp <;> rfl
theorem V_v13 (c : Dev nD) : @Eq (FVec Ideal S1024x1024 .bf16) (V m c main_v13)
    (truncf (F := Ideal) (s := _) .bf16 (m ((c : Thread nD τ).loc main_arg7) : Vec Ideal S1024x1024 .f32) bitsLt_bf16_f32) := by
  unfold V hostOps0; after_results_simp <;> rfl
theorem V_v14 (c : Dev nD) : @Eq (FVec Ideal S1x1024 .f32) (V m c main_v14)
    (broadcastInDim S1x1024 ![1] bcast_S1024_S1x1024_1 (m ((c : Thread nD τ).loc main_arg8) : Vec Ideal S1024 .f32)) := by
  unfold V hostOps0; after_results_simp <;> rfl
theorem V_v15 (c : Dev nD) : @Eq (FVec Ideal S1x1024 .f32) (V m c main_v15)
    (broadcastInDim S1x1024 ![1] bcast_S1024_S1x1024_1 (m ((c : Thread nD τ).loc main_arg9) : Vec Ideal S1024 .f32)) := by
  unfold V hostOps0; after_results_simp <;> rfl

/-- The gates' columns, read off the concatenation. -/
theorem gate_lo (c : Dev nD) (k l : Fin 1024) :
    (V m c main_v3 : Vec Ideal S1024x2048 .bf16) (ix2 k ⟨l.val, by omega⟩)
      = gcol (m ((c : Thread nD τ).loc main_arg3) : Vec Ideal S1024x6996 .f32) 4948 (by omega) k l := by
  rw [V_v3]
  pointwise [gcol]
theorem gate_hi (c : Dev nD) (k l : Fin 1024) :
    (V m c main_v3 : Vec Ideal S1024x2048 .bf16) (ix2 k ⟨1024 + l.val, by omega⟩)
      = gcol (m ((c : Thread nD τ).loc main_arg3) : Vec Ideal S1024x6996 .f32) 5972 (by omega) k l := by
  rw [V_v3]
  pointwise [gcol]

theorem bias_lo (c : Dev nD) (l : Fin 1024) :
    (V m c main_v7 : Vec Ideal S1x2048 .f32) (ix2 0 ⟨l.val, by omega⟩)
      = gbias (m ((c : Thread nD τ).loc main_arg4) : Vec Ideal S6996 .f32) 4948 (by omega) l := by
  rw [V_v7]
  pointwise [gbias]
theorem bias_hi (c : Dev nD) (l : Fin 1024) :
    (V m c main_v7 : Vec Ideal S1x2048 .f32) (ix2 0 ⟨1024 + l.val, by omega⟩)
      = gbias (m ((c : Thread nD τ).loc main_arg4) : Vec Ideal S6996 .f32) 5972 (by omega) l := by
  rw [V_v7]
  pointwise [gbias]

/-! ## The blocks of a grid point -/

theorem idx_row : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0) :=
  (by decide +kernel : ∀ t : Fin grid0.N, _)
theorem idx_const : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row `r` of block `t`. -/
abbrev rowOf (t : Fin cfg0.N) (r : Fin 512) : Fin 32768 := ⟨t.val * 512 + r.val, by have : t.val < 64 := t.isLt; omega⟩

theorem emb0 (t : Fin cfg0.N) (r : Fin 512) (l : Fin 1024) :
    ((cfg0.win 0).blk t).view.emb (ix2 r l : S512x1024.Idx) = (ix2 (rowOf t r) l : S32768x1024.Idx) := by
  obtain ⟨⟨e0, e1⟩, -⟩ := idx_row t
  funext a; apply Fin.ext
  match a with
  | ⟨0, _⟩ => show win0_0.index t (0 : Fin 2) * 512 + 1 * r.val = t.val * 512 + r.val; omega
  | ⟨1, _⟩ => show win0_0.index t (1 : Fin 2) * 1024 + 1 * l.val = l.val; omega
theorem emb1 (t : Fin cfg0.N) (r : Fin 512) (l : Fin 512) :
    ((cfg0.win 1).blk t).view.emb (ix2 r l : S512x512.Idx) = (ix2 (rowOf t r) l : S32768x512.Idx) := by
  obtain ⟨-, ⟨e0, e1⟩, -⟩ := idx_row t
  funext a; apply Fin.ext
  match a with
  | ⟨0, _⟩ => show win0_1.index t (0 : Fin 2) * 512 + 1 * r.val = t.val * 512 + r.val; omega
  | ⟨1, _⟩ => show win0_1.index t (1 : Fin 2) * 512 + 1 * l.val = l.val; omega
theorem emb2 (t : Fin cfg0.N) (r : Fin 512) (l : Fin 1024) :
    ((cfg0.win 2).blk t).view.emb (ix2 r l : S512x1024.Idx) = (ix2 (rowOf t r) l : S32768x1024.Idx) := by
  obtain ⟨-, -, ⟨e0, e1⟩, -⟩ := idx_row t
  funext a; apply Fin.ext
  match a with
  | ⟨0, _⟩ => show win0_2.index t (0 : Fin 2) * 512 + 1 * r.val = t.val * 512 + r.val; omega
  | ⟨1, _⟩ => show win0_2.index t (1 : Fin 2) * 1024 + 1 * l.val = l.val; omega
theorem emb10 (t : Fin cfg0.N) (r : Fin 512) (l : Fin 1024) :
    ((cfg0.win 10).blk t).view.emb (ix2 r l : S512x1024.Idx) = (ix2 (rowOf t r) l : S32768x1024.Idx) := by
  obtain ⟨-, -, -, e0, e1⟩ := idx_row t
  funext a; apply Fin.ext
  match a with
  | ⟨0, _⟩ => show win0_10.index t (0 : Fin 2) * 512 + 1 * r.val = t.val * 512 + r.val; omega
  | ⟨1, _⟩ => show win0_10.index t (1 : Fin 2) * 1024 + 1 * l.val = l.val; omega
theorem emb3 (t : Fin cfg0.N) (j : S1024x2048.Idx) : ((cfg0.win 3).blk t).view.emb j = j := by
  obtain ⟨⟨e0, e1⟩, -⟩ := idx_const t
  funext a; apply Fin.ext
  match a with
  | ⟨0, _⟩ => show win0_3.index t (0 : Fin 2) * 1024 + 1 * (j 0).val = (j 0).val; omega
  | ⟨1, _⟩ => show win0_3.index t (1 : Fin 2) * 2048 + 1 * (j 1).val = (j 1).val; omega
theorem emb4 (t : Fin cfg0.N) (j : S1x2048.Idx) : ((cfg0.win 4).blk t).view.emb j = j := by
  obtain ⟨-, ⟨e0, e1⟩, -⟩ := idx_const t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem emb5 (t : Fin cfg0.N) (j : S512x1024.Idx) : ((cfg0.win 5).blk t).view.emb j = j := by
  obtain ⟨-, -, ⟨e0, e1⟩, -⟩ := idx_const t
  funext a; apply Fin.ext
  match a with
  | ⟨0, _⟩ => show win0_5.index t (0 : Fin 2) * 512 + 1 * (j 0).val = (j 0).val; omega
  | ⟨1, _⟩ => show win0_5.index t (1 : Fin 2) * 1024 + 1 * (j 1).val = (j 1).val; omega
theorem emb6 (t : Fin cfg0.N) (j : S1024x1024.Idx) : ((cfg0.win 6).blk t).view.emb j = j := by
  obtain ⟨-, -, -, ⟨e0, e1⟩, -⟩ := idx_const t
  funext a; apply Fin.ext
  match a with
  | ⟨0, _⟩ => show win0_6.index t (0 : Fin 2) * 1024 + 1 * (j 0).val = (j 0).val; omega
  | ⟨1, _⟩ => show win0_6.index t (1 : Fin 2) * 1024 + 1 * (j 1).val = (j 1).val; omega
theorem emb7 (t : Fin cfg0.N) (j : S1024x1024.Idx) : ((cfg0.win 7).blk t).view.emb j = j := by
  obtain ⟨-, -, -, -, ⟨e0, e1⟩, -⟩ := idx_const t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega
theorem emb8 (t : Fin cfg0.N) (j : S1x1024.Idx) : ((cfg0.win 8).blk t).view.emb j = j := by
  obtain ⟨-, -, -, -, -, ⟨e0, e1⟩, -⟩ := idx_const t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega
theorem emb9 (t : Fin cfg0.N) (j : S1x1024.Idx) : ((cfg0.win 9).blk t).view.emb j = j := by
  obtain ⟨-, -, -, -, -, -, e0, e1⟩ := idx_const t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

/-- The result array as one function of the argument arrays. -/
def G (c : Dev nD) : Vec Ideal S32768x1024 .f32 :=
  Cert.Reference2Ideal.Read.val_main_v61 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

theorem in0 (c : Dev nD) (t : Fin cfg0.N) (r : Fin 512) (l : Fin 1024) :
    View.ld (iblk m c 0 t) r0_0 (ix2 r l)
      = Cert.Reference2Ideal.Read.val_main_v0 (F := Ideal) (m ((c : Thread nD τ).loc main_arg0)) (ix2 (rowOf t r) l) := by
  refine (congrFun (View.ld_unit_zero hz _ _) _).trans ?_
  show V m c main_v8 (((cfg0.win 0).blk t).view.emb (ix2 r l : S512x1024.Idx)) = _
  rw [emb0, V_v8]; rfl
theorem in1 (c : Dev nD) (t : Fin cfg0.N) (r : Fin 512) (l : Fin 512) :
    View.ld (iblk m c 1 t) r0_3 (ix2 r l)
      = Cert.Reference2Ideal.Read.val_main_v2 (F := Ideal) (m ((c : Thread nD τ).loc main_arg1)) (ix2 (rowOf t r) l) := by
  refine (congrFun (View.ld_unit_zero hz _ _) _).trans ?_
  show V m c main_v9 (((cfg0.win 1).blk t).view.emb (ix2 r l : S512x512.Idx)) = _
  rw [emb1, V_v9]; rfl
theorem in2 (c : Dev nD) (t : Fin cfg0.N) (r : Fin 512) (l : Fin 1024) :
    View.ld (iblk m c 2 t) r0_0 (ix2 r l)
      = Cert.Reference2Ideal.Read.val_main_v4 (F := Ideal) (m ((c : Thread nD τ).loc main_arg2)) (ix2 (rowOf t r) l) := by
  refine (congrFun (View.ld_unit_zero hz _ _) _).trans ?_
  show V m c main_v10 (((cfg0.win 2).blk t).view.emb (ix2 r l : S512x1024.Idx)) = _
  rw [emb2, V_v10]; rfl
theorem in3lo (c : Dev nD) (t : Fin cfg0.N) (k l : Fin 1024) :
    View.ld (iblk m c 3 t) r0_1 (ix2 k l)
      = gcol (m ((c : Thread nD τ).loc main_arg3) : Vec Ideal S1024x6996 .f32) 4948 (by omega) k l := by
  rw [← gate_lo]
  show V m c main_v3 (((cfg0.win 3).blk t).view.emb _) = _
  rw [emb3]
  congr 1; funext a; apply Fin.ext
  match a with
  | ⟨0, _⟩ => show 0 + 1 * k.val = k.val; omega
  | ⟨1, _⟩ => show 0 + 1 * l.val = l.val; omega
theorem in3hi (c : Dev nD) (t : Fin cfg0.N) (k l : Fin 1024) :
    View.ld (iblk m c 3 t) r0_4 (ix2 k l)
      = gcol (m ((c : Thread nD τ).loc main_arg3) : Vec Ideal S1024x6996 .f32) 5972 (by omega) k l := by
  rw [← gate_hi]
  show V m c main_v3 (((cfg0.win 3).blk t).view.emb _) = _
  rw [emb3]
  congr 1; funext a; apply Fin.ext
  match a with
  | ⟨0, _⟩ => show 0 + 1 * k.val = k.val; omega
  | ⟨1, _⟩ => show 1024 + 1 * l.val = 1024 + l.val; omega
theorem in4lo (c : Dev nD) (t : Fin cfg0.N) (l : Fin 1024) :
    View.ld (iblk m c 4 t) r0_2 (ix2 0 l)
      = gbias (m ((c : Thread nD τ).loc main_arg4) : Vec Ideal S6996 .f32) 4948 (by omega) l := by
  rw [← bias_lo]
  show V m c main_v7 (((cfg0.win 4).blk t).view.emb _) = _
  rw [emb4]
  congr 1; funext a; apply Fin.ext
  match a with
  | ⟨0, _⟩ => rfl
  | ⟨1, _⟩ => show 0 + 1 * l.val = l.val; omega
theorem in4hi (c : Dev nD) (t : Fin cfg0.N) (l : Fin 1024) :
    View.ld (iblk m c 4 t) r0_5 (ix2 0 l)
      = gbias (m ((c : Thread nD τ).loc main_arg4) : Vec Ideal S6996 .f32) 5972 (by omega) l := by
  rw [← bias_hi]
  show V m c main_v7 (((cfg0.win 4).blk t).view.emb _) = _
  rw [emb4]
  congr 1; funext a; apply Fin.ext
  match a with
  | ⟨0, _⟩ => rfl
  | ⟨1, _⟩ => show 1024 + 1 * l.val = 1024 + l.val; omega
theorem in5 (c : Dev nD) (t : Fin cfg0.N) (k : Fin 512) (l : Fin 1024) :
    View.ld (iblk m c 5 t) r0_0 (ix2 k l) = (m ((c : Thread nD τ).loc main_arg5) : Vec Ideal S512x1024 .f32) (ix2 k l) := by
  refine (congrFun (View.ld_unit_zero hz _ _) _).trans ?_
  show V m c main_v11 (((cfg0.win 5).blk t).view.emb (ix2 k l : S512x1024.Idx)) = _
  rw [emb5, V_v11]; rfl
theorem in6 (c : Dev nD) (t : Fin cfg0.N) (k l : Fin 1024) :
    View.ld (iblk m c 6 t) r0_6 (ix2 k l) = (m ((c : Thread nD τ).loc main_arg6) : Vec Ideal S1024x1024 .f32) (ix2 k l) := by
  refine (congrFun (View.ld_unit_zero hz _ _) _).trans ?_
  show V m c main_v12 (((cfg0.win 6).blk t).view.emb (ix2 k l : S1024x1024.Idx)) = _
  rw [emb6, V_v12]; rfl
theorem in7 (c : Dev nD) (t : Fin cfg0.N) (k l : Fin 1024) :
    View.ld (iblk m c 7 t) r0_6 (ix2 k l) = (m ((c : Thread nD τ).loc main_arg7) : Vec Ideal S1024x1024 .f32) (ix2 k l) := by
  refine (congrFun (View.ld_unit_zero hz _ _) _).trans ?_
  show V m c main_v13 (((cfg0.win 7).blk t).view.emb (ix2 k l : S1024x1024.Idx)) = _
  rw [emb7, V_v13]; rfl
theorem in8 (c : Dev nD) (t : Fin cfg0.N) (l : Fin 1024) :
    View.ld (iblk m c 8 t) r0_7 (ix2 0 l) = (m ((c : Thread nD τ).loc main_arg8) : Vec Ideal S1024 .f32) (ix1 l) := by
  refine (congrFun (View.ld_unit_zero hz _ _) _).trans ?_
  show V m c main_v14 (((cfg0.win 8).blk t).view.emb (ix2 0 l : S1x1024.Idx)) = _
  rw [emb8, V_v14]; pointwise
theorem in9 (c : Dev nD) (t : Fin cfg0.N) (l : Fin 1024) :
    View.ld (iblk m c 9 t) r0_7 (ix2 0 l) = (m ((c : Thread nD τ).loc main_arg9) : Vec Ideal S1024 .f32) (ix1 l) := by
  refine (congrFun (View.ld_unit_zero hz _ _) _).trans ?_
  show V m c main_v15 (((cfg0.win 9).blk t).view.emb (ix2 0 l : S1x1024.Idx)) = _
  rw [emb9, V_v15]; pointwise

/-- What a grid point writes back is its block of `G`. -/
theorem flushed_eq (c : Dev nD) (t : Fin cfg0.N) :
    (dats m 0 c).flushed 10 t = ((cfg0.win 10).blk t).view.read (Elt Ideal) (G m c) := by
  rw [flushed10]
  funext j
  show out0_10 (iblk m c 0 t) (iblk m c 1 t) (iblk m c 2 t) (iblk m c 3 t) (iblk m c 4 t) (iblk m c 5 t) (iblk m c 6 t) (iblk m c 7 t) (iblk m c 8 t) (iblk m c 9 t) (j : S512x1024.Idx)
    = G m c (((cfg0.win 10).blk t).view.emb (j : S512x1024.Idx))
  obtain ⟨r, l, rfl⟩ : ∃ (r : Fin 512) (l : Fin 1024), (j : S512x1024.Idx) = ix2 r l :=
    ⟨j 0, j 1, funext fun a => match a with | ⟨0, _⟩ => rfl | ⟨1, _⟩ => rfl⟩
  rw [emb10]
  unfold G out0_10
  rw [ref_apply, View.canon_unit_zero hz, block_apply]
  simp only [in0, in1, in2, in3lo, in3hi, in4lo, in4hi, in5, in6, in7, in8, in9]

/-- Every index of the result is in some point's block. -/
theorem covered (i : S32768x1024.Idx) :
    ∃ t : Fin cfg0.N, (cfg0.win 10).flush t = true ∧ i ∈ ((cfg0.win 10).blk t).view.set := by
  have h0 : (i 0).val < 32768 := (i 0).isLt
  have ht : (i 0).val / 512 < 64 := by omega
  obtain ⟨t, htv⟩ : ∃ t : Fin cfg0.N, t.val = (i 0).val / 512 := ⟨⟨(i 0).val / 512, ht⟩, rfl⟩
  have e : ((cfg0.win 10).blk t).view.emb (ix2 (⟨(i 0).val % 512, by omega⟩ : Fin 512) (⟨(i 1).val, (i 1).isLt⟩ : Fin 1024) : S512x1024.Idx) = i := by
    refine (emb10 t _ _).trans ?_
    funext a; apply Fin.ext
    match a with
    | ⟨0, _⟩ => show t.val * 512 + (i 0).val % 512 = (i 0).val; omega
    | ⟨1, _⟩ => rfl
  refine ⟨t, flush0_10 t, ?_⟩
  have h := ((cfg0.win 10).blk t).view.emb_mem_set (ix2 (⟨(i 0).val % 512, by omega⟩ : Fin 512) (⟨(i 1).val, (i 1).isLt⟩ : Fin 1024) : S512x1024.Idx)
  rw [e] at h
  exact h

/-- The result array after the run. -/
theorem final (c : Dev nD) : (dats m 0 c).arrAt 10 cfg0.N = G m c :=
  (dats m 0 c).arrAt_eq_of_cover 10 (G m c) (fun t _ => flushed_eq m c t) covered

end Cert.Proof.Merge

end
-- ==== Proof.MergeClaims.lean ====
/- The merge's claims: its frames, and the equality of its results with the reference's. -/
module

public import proofs.«01_k».proof.Defs
public import proofs.«01_k».proof.Proof.Gen.Kernel2.Frame
public import proofs.«01_k».proof.Proof.Gen.Reference2Ideal.Run
public import proofs.«01_k».proof.Proof.Merge
public import Idealize.ShloMosaic.Adequacy

@[expose] public section

noncomputable section

namespace Cert.Proof.Merge

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both runs end with the result arrays at `G` of the kernel's arguments. -/
theorem algebraic : Cert.algebraic_Kernel2Ideal_Reference2Ideal := by
  intro m ρ m' ρ' _ hagree
  refine ⟨fun c => G m c, ?_, ?_⟩
  · exact (θ_run Cert.Kernel2Ideal.defs _ _).mono (fun r h c => ⟨(h c).1.trans (final m c), (h c).2⟩)
      (Cert.Kernel2Ideal.Value.run_blocks m ρ)
  · refine (θ_run Cert.Reference2Ideal.defs _ _).mono (fun r h c => ⟨(h c).1.trans ?_, (h c).2⟩)
      (Cert.Reference2Ideal.Value.run (F := Ideal) m' ρ')
    obtain ⟨h0, h1, h2, h3, h4, h5, h6, h7, h8, h9⟩ := hagree c
    rw [Cert.Reference2Ideal.Read.val_main_v61_eq, h0, h1, h2, h3, h4, h5, h6, h7, h8, h9]
    rfl

end Cert.Proof.Merge

end
-- ==== Proof.Moe.Step.lean ====
/-
  The mixture-of-experts body as plain functions of vectors: the routing of a block of tokens (taken at the first of its
  eight visits), one pair of experts on the rows of their group, and the last visit's combination.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow

@[expose] public section

noncomputable section

namespace Cert.Proof.Moe

open Cert.KernelIdeal Cert.KernelIdeal.Gen
open Idealize.ShloMosaic

variable {F : FTy → Type} [FloatOps F]

/-- The lane numbers of a block. -/
def lane : IVec S1024x128 32 := iota .tc S1024x128 32 [1] iota_S1024x128_d1_w32
/-- The lane numbers of one row. -/
def lane1 : IVec S1x128 32 := iota .tc S1x128 32 [1] iota_S1x128_d1_w32

variable (x : Vec F S1024x1024 .f32) (wr : Vec F S1024x128 .f32) (br : Vec F S1x128 .f32)
variable (tril : Vec F S1024x1024 .bf16)

/-- The routing logits of a block of tokens. -/
def logits : FVec F S1024x128 .f32 := k0_pay5 x wr wr br
/-- The chosen group's weight. -/
def gw : FVec F S1024x1 .f32 := k0_pay8 lane x wr wr br
/-- The chosen group. -/
def gsel : IVec S1024x1 32 := k0_pay9 lane x wr wr br
/-- The high half of the combine weights. -/
def combHi : FVec F S1024x128 .bf16 :=
  k0_pay21 lane (gw x wr br) (k0_pay15 lane (logits x wr br) (gsel x wr br)) (k0_pay17 lane (logits x wr br) (gsel x wr br))
    (k0_pay18 lane (logits x wr br) (gsel x wr br)) (k0_pay19 lane (logits x wr br) (gw x wr br) (gsel x wr br))
    (Scalar.ofBits .f32 0x00000000#32)
/-- The low half of the combine weights. -/
def combLo : FVec F S1024x128 .bf16 :=
  k0_pay22 lane (gw x wr br) (k0_pay15 lane (logits x wr br) (gsel x wr br)) (k0_pay17 lane (logits x wr br) (gsel x wr br))
    (k0_pay18 lane (logits x wr br) (gsel x wr br)) (k0_pay19 lane (logits x wr br) (gw x wr br) (gsel x wr br))
    (Scalar.ofBits .f32 0x00000000#32)

/-- The place of a token among the block's tokens of its group. -/
def rank (g : IVec S1024x1 32) : FVec F S1024x1 .f32 := k0_pay24 lane g tril
/-- The number of tokens of each group. -/
def totals (g : IVec S1024x1 32) : FVec F S1x128 .f32 := k0_pay25 (F := F) lane g

/-- A count rounded up to tiles of 128 rows: the quotient by 128 of the count plus 127, rounded down. -/
def tiles (w : BitVec 32) : BitVec 32 :=
  let a : BitVec 32 := Scalar.subi (Scalar.addi w 128#32) 1#32
  Scalar.select
    (Scalar.andi
      (Scalar.cmpi .ne (Scalar.subi (Scalar.extui (Scalar.cmpi .sgt a 0#32) : BitVec 32) (Scalar.extui (Scalar.cmpi .slt a 0#32) : BitVec 32))
        (Scalar.subi (Scalar.extui (Scalar.cmpi .sgt 128#32 0#32) : BitVec 32) (Scalar.extui (Scalar.cmpi .slt 128#32 0#32) : BitVec 32)))
      (Scalar.cmpi .ne (Scalar.remsi a 128#32) 0#32))
    (Scalar.subi (Scalar.divsi a 128#32) 1#32) (Scalar.divsi a 128#32)

variable (F)

/-- Tiles of group 0. -/
def n0 (g : IVec S1024x1 32) : BitVec 32 := tiles (Scalar.fptosi 32 (k0_pay27 (F := F) lane g))
/-- Tiles of group 1. -/
def n1 (g : IVec S1024x1 32) : BitVec 32 := tiles (Scalar.fptosi 32 (k0_pay29 (totals (F := F) g) lane1))
/-- Tiles of group 2. -/
def n2 (g : IVec S1024x1 32) : BitVec 32 := tiles (Scalar.fptosi 32 (k0_pay31 (totals (F := F) g) lane1))
/-- Tiles of group 3. -/
def n3 (g : IVec S1024x1 32) : BitVec 32 := tiles (Scalar.fptosi 32 (k0_pay33 (totals (F := F) g) lane1))
/-- First tile of group 1. -/
def s1 (g : IVec S1024x1 32) : BitVec 32 := Scalar.addi 0#32 (n0 F g)
/-- First tile of group 2. -/
def s2 (g : IVec S1024x1 32) : BitVec 32 := Scalar.addi (s1 F g) (n1 F g)
/-- First tile of group 3. -/
def s3 (g : IVec S1024x1 32) : BitVec 32 := Scalar.addi (s2 F g) (n2 F g)

/-- The first row of a token's group, for the first three groups. -/
def starts (g : IVec S1024x1 32) : FVec F S1024x1 .f32 :=
  k0_pay32 g (k0_pay30 g (k0_pay28 (F := F) g k0_pay26) (s1 F g)) (s2 F g)

/-- The eight tile words: the groups' first tiles, then their numbers of tiles. -/
def words (g : IVec S1024x1 32) (w : S8.Idx → BitVec 32) : S8.Idx → BitVec 32 :=
  VecWindow.put (VecWindow.put (VecWindow.put (VecWindow.put (VecWindow.put (VecWindow.put (VecWindow.put (VecWindow.put w
    ![0] S1.size (fun _ => 0#32)) ![4] S1.size (fun _ => n0 F g)) ![1] S1.size (fun _ => s1 F g)) ![5] S1.size (fun _ => n1 F g))
    ![2] S1.size (fun _ => s2 F g)) ![6] S1.size (fun _ => n2 F g)) ![3] S1.size (fun _ => s3 F g)) ![7] S1.size (fun _ => n3 F g)

variable {F}

/-- The packed row of each token. -/
def slotOf : FVec F S1024x1 .f32 := k0_pay35 (gsel x wr br) (rank tril (gsel x wr br)) (starts F (gsel x wr br)) (s3 F (gsel x wr br))
/-- The tokens packed by group. -/
def xgOf : FVec F S1536x1024 .bf16 :=
  k0_pay37 (k0_pay4 x) (gsel x wr br) (rank tril (gsel x wr br)) (starts F (gsel x wr br)) (s3 F (gsel x wr br))
/-- The combine weights packed by group. -/
def cwOf : FVec F S1536x128 .f32 :=
  k0_pay47 (k0_pay38 (gsel x wr br) (combHi x wr br) (combLo x wr br) (rank tril (gsel x wr br)) (starts F (gsel x wr br)) (s3 F (gsel x wr br)))
    (k0_pay39 (gsel x wr br) (combHi x wr br) (combLo x wr br) (rank tril (gsel x wr br)) (starts F (gsel x wr br)) (s3 F (gsel x wr br)))

variable (v9 v28 v31 : BitVec 32) (i : grid0.Coords)
variable (xg : Vec F S1536x1024 .bf16) (cw : Vec F S1536x128 .f32)
variable (wg wu : Vec F S2x1024x512 .bf16) (wd : Vec F S2x512x1024 .bf16)

/-- A pair's first up-sized matrix. -/
abbrev fst5 (w : Vec F S2x1024x512 .bf16) : Vec F S1x1024x512 .bf16 :=
  VecWindow.window w ![0, 0, 0] S1x1024x512.size inb_S2x1024x512_S1x1024x512_0_0_0
/-- A pair's second up-sized matrix. -/
abbrev snd5 (w : Vec F S2x1024x512 .bf16) : Vec F S1x1024x512 .bf16 :=
  VecWindow.window w ![1, 0, 0] S1x1024x512.size inb_S2x1024x512_S1x1024x512_1_0_0
/-- A pair's first down-sized matrix. -/
abbrev fst7 (w : Vec F S2x512x1024 .bf16) : Vec F S1x512x1024 .bf16 :=
  VecWindow.window w ![0, 0, 0] S1x512x1024.size inb_S2x512x1024_S1x512x1024_0_0_0
/-- A pair's second down-sized matrix. -/
abbrev snd7 (w : Vec F S2x512x1024 .bf16) : Vec F S1x512x1024 .bf16 :=
  VecWindow.window w ![1, 0, 0] S1x512x1024.size inb_S2x512x1024_S1x512x1024_1_0_0

/-- The rows stored: see `yThree`. -/
def payThree (hw : k0_chk1 v28 v31) (h3 : k0_cond3 v31 = 1#1) (y : Vec F S1536x1024 .f32) : FVec F S384x1024 .f32 :=
    k0_pay49 i (VecWindow.window xg (k0_off3 v28) S384x1024.size (k0_off3_inb v28 v31 hw h3)) (iota .tc S384x128 32 [1] iota_S384x128_d1_w32)
      (k0_pay40 (Scalar.muli (BitVec.ofNat 32 (i 1).val) 2#32) (VecWindow.window xg (k0_off3 v28) S384x1024.size (k0_off3_inb v28 v31 hw h3)) (fst5 wg) (fst5 wu)
        (VecWindow.window cw (k0_off4 v28) S384x128.size (k0_off4_inb v28 v31 hw h3)) (fst7 wd))
      (k0_pay41 (snd5 wg)) (snd5 wu) (VecWindow.window cw (k0_off4 v28) S384x128.size (k0_off4_inb v28 v31 hw h3)) (snd7 wd)
      (VecWindow.window y (k0_off3 v28) S384x1024.size (k0_off3_inb v28 v31 hw h3))

/-- Three tiles at once. -/
def yThree (hw : k0_chk1 v28 v31) (h3 : k0_cond3 v31 = 1#1) (y : Vec F S1536x1024 .f32) : Vec F S1536x1024 .f32 :=
  VecWindow.put y (k0_off3 v28) S384x1024.size (payThree v28 v31 i xg cw wg wu wd hw h3 y)

/-- The rows stored: see `yTwo`. -/
def payTwo (hw : k0_chk1 v28 v31) (h4 : k0_cond4 v31 = 1#1) (t : Fin (k0_t1_loop v31).trips) (y : Vec F S1536x1024 .f32) : FVec F S256x1024 .f32 :=
    k0_pay1 v9 (VecWindow.window xg (k0_off5 v28 v31 t) S256x1024.size (k0_off5_inb v28 v31 hw t h4)) (iota .tc S256x128 32 [1] iota_S256x128_d1_w32)
      (k0_pay42 v9 (VecWindow.window xg (k0_off5 v28 v31 t) S256x1024.size (k0_off5_inb v28 v31 hw t h4)) (fst5 wg) (fst5 wu)
        (VecWindow.window cw (k0_off6 v28 v31 t) S256x128.size (k0_off6_inb v28 v31 hw t h4)) (fst7 wd))
      (snd5 wg) (snd5 wu) (VecWindow.window cw (k0_off6 v28 v31 t) S256x128.size (k0_off6_inb v28 v31 hw t h4)) (snd7 wd)
      (VecWindow.window y (k0_off5 v28 v31 t) S256x1024.size (k0_off5_inb v28 v31 hw t h4))

/-- Two tiles at once, at trip `t`. -/
def yTwo (hw : k0_chk1 v28 v31) (h4 : k0_cond4 v31 = 1#1) (t : Fin (k0_t1_loop v31).trips) (y : Vec F S1536x1024 .f32) : Vec F S1536x1024 .f32 :=
  VecWindow.put y (k0_off5 v28 v31 t) S256x1024.size (payTwo v9 v28 v31 xg cw wg wu wd hw h4 t y)

/-- The first `k` trips. -/
def yTwos (hw : k0_chk1 v28 v31) (h4 : k0_cond4 v31 = 1#1) (y : Vec F S1536x1024 .f32) : ℕ → Vec F S1536x1024 .f32
  | 0 => y
  | k + 1 => if h : k < (k0_t1_loop v31).trips then yTwo v9 v28 v31 xg cw wg wu wd hw h4 ⟨k, h⟩ (yTwos hw h4 y k) else yTwos hw h4 y k

/-- The rows stored: see `yOne`. -/
def payOne (hw : k0_chk1 v28 v31) (h4 : k0_cond4 v31 = 1#1) (h5 : k0_cond5 v31 = 1#1) (y : Vec F S1536x1024 .f32) : FVec F S128x1024 .f32 :=
    k0_pay3 v9 (VecWindow.window xg (k0_off9 v28 v31) S128x1024.size (k0_off9_inb v28 v31 hw h4 h5)) (iota .tc S128x128 32 [1] iota_S128x128_d1_w32)
      (k0_pay44 v9 (VecWindow.window xg (k0_off9 v28 v31) S128x1024.size (k0_off9_inb v28 v31 hw h4 h5)) (fst5 wg) (fst5 wu)
        (VecWindow.window cw (k0_off10 v28 v31) S128x128.size (k0_off10_inb v28 v31 hw h4 h5)) (fst7 wd))
      (snd5 wg) (snd5 wu) (VecWindow.window cw (k0_off10 v28 v31) S128x128.size (k0_off10_inb v28 v31 hw h4 h5)) (snd7 wd)
      (VecWindow.window y (k0_off9 v28 v31) S128x1024.size (k0_off9_inb v28 v31 hw h4 h5))

/-- The last tile of an odd number. -/
def yOne (hw : k0_chk1 v28 v31) (h4 : k0_cond4 v31 = 1#1) (h5 : k0_cond5 v31 = 1#1) (y : Vec F S1536x1024 .f32) : Vec F S1536x1024 .f32 :=
  VecWindow.put y (k0_off9 v28 v31) S128x1024.size (payOne v9 v28 v31 xg cw wg wu wd hw h4 h5 y)

/-- One pair of experts on their group's rows, from tile `v28` on, `v31` tiles. -/
def yStep (hw : k0_chk1 v28 v31) (y : Vec F S1536x1024 .f32) : Vec F S1536x1024 .f32 :=
  if h3 : k0_cond3 v31 = 1#1 then yThree v28 v31 i xg cw wg wu wd hw h3 y
  else if h4 : k0_cond4 v31 = 1#1 then
    if h5 : k0_cond5 v31 = 1#1 then
      yOne (Scalar.muli (BitVec.ofNat 32 (i 1).val) 2#32) v28 v31 xg cw wg wu wd hw h4 h5
        (yTwos (Scalar.muli (BitVec.ofNat 32 (i 1).val) 2#32) v28 v31 xg cw wg wu wd hw h4 y (k0_t1_loop v31).trips)
    else yTwos (Scalar.muli (BitVec.ofNat 32 (i 1).val) 2#32) v28 v31 xg cw wg wu wd hw h4 y (k0_t1_loop v31).trips
  else y

end Cert.Proof.Moe

end
-- ==== Proof.Moe.Words.lean ====
/-
  The eight tile words, read back.
-/
module

public import proofs.«01_k».proof.Proof.Moe.Step

@[expose] public section

noncomputable section

namespace Cert.Proof.Moe

open Cert.KernelIdeal Cert.KernelIdeal.Gen
open Idealize.ShloMosaic

variable {F : FTy → Type} [FloatOps F]

theorem words_0 (g : IVec S1024x1 32) (w : S8.Idx → BitVec 32) (y : S8.Idx) (h : (y 0).val = 0) : words F g w y = 0#32 := by
  obtain rfl : y = (fun a => match a with | ⟨0, _⟩ => (⟨0, by decide⟩ : Fin 8) : S8.Idx) := by
    funext a; apply Fin.ext; obtain rfl : a = 0 := Subsingleton.elim _ _; exact h
  rfl

theorem words_1 (g : IVec S1024x1 32) (w : S8.Idx → BitVec 32) (y : S8.Idx) (h : (y 0).val = 1) : words F g w y = s1 F g := by
  obtain rfl : y = (fun a => match a with | ⟨0, _⟩ => (⟨1, by decide⟩ : Fin 8) : S8.Idx) := by
    funext a; apply Fin.ext; obtain rfl : a = 0 := Subsingleton.elim _ _; exact h
  rfl

theorem words_2 (g : IVec S1024x1 32) (w : S8.Idx → BitVec 32) (y : S8.Idx) (h : (y 0).val = 2) : words F g w y = s2 F g := by
  obtain rfl : y = (fun a => match a with | ⟨0, _⟩ => (⟨2, by decide⟩ : Fin 8) : S8.Idx) := by
    funext a; apply Fin.ext; obtain rfl : a = 0 := Subsingleton.elim _ _; exact h
  rfl

theorem words_3 (g : IVec S1024x1 32) (w : S8.Idx → BitVec 32) (y : S8.Idx) (h : (y 0).val = 3) : words F g w y = s3 F g := by
  obtain rfl : y = (fun a => match a with | ⟨0, _⟩ => (⟨3, by decide⟩ : Fin 8) : S8.Idx) := by
    funext a; apply Fin.ext; obtain rfl : a = 0 := Subsingleton.elim _ _; exact h
  rfl

theorem words_4 (g : IVec S1024x1 32) (w : S8.Idx → BitVec 32) (y : S8.Idx) (h : (y 0).val = 4) : words F g w y = n0 F g := by
  obtain rfl : y = (fun a => match a with | ⟨0, _⟩ => (⟨4, by decide⟩ : Fin 8) : S8.Idx) := by
    funext a; apply Fin.ext; obtain rfl : a = 0 := Subsingleton.elim _ _; exact h
  rfl

theorem words_5 (g : IVec S1024x1 32) (w : S8.Idx → BitVec 32) (y : S8.Idx) (h : (y 0).val = 5) : words F g w y = n1 F g := by
  obtain rfl : y = (fun a => match a with | ⟨0, _⟩ => (⟨5, by decide⟩ : Fin 8) : S8.Idx) := by
    funext a; apply Fin.ext; obtain rfl : a = 0 := Subsingleton.elim _ _; exact h
  rfl

theorem words_6 (g : IVec S1024x1 32) (w : S8.Idx → BitVec 32) (y : S8.Idx) (h : (y 0).val = 6) : words F g w y = n2 F g := by
  obtain rfl : y = (fun a => match a with | ⟨0, _⟩ => (⟨6, by decide⟩ : Fin 8) : S8.Idx) := by
    funext a; apply Fin.ext; obtain rfl : a = 0 := Subsingleton.elim _ _; exact h
  rfl

theorem words_7 (g : IVec S1024x1 32) (w : S8.Idx → BitVec 32) (y : S8.Idx) (h : (y 0).val = 7) : words F g w y = n3 F g := by
  obtain rfl : y = (fun a => match a with | ⟨0, _⟩ => (⟨7, by decide⟩ : Fin 8) : S8.Idx) := by
    funext a; apply Fin.ext; obtain rfl : a = 0 := Subsingleton.elim _ _; exact h
  rfl

/-- The place of word `k`. -/
def at8 (k : ℕ) (hk : k < 8) : S8.Idx := fun a => match a with | ⟨0, _⟩ => (⟨k, hk⟩ : Fin 8)

/-- Every word is written. -/
theorem words_base (g : IVec S1024x1 32) (w w' : S8.Idx → BitVec 32) : words F g w = words F g w' := by
  funext y
  have hy : (y 0).val < 8 := (y 0).isLt
  have h : (y 0).val = 0 ∨ (y 0).val = 1 ∨ (y 0).val = 2 ∨ (y 0).val = 3 ∨ (y 0).val = 4 ∨ (y 0).val = 5 ∨ (y 0).val = 6 ∨ (y 0).val = 7 := by omega
  rcases h with h | h | h | h | h | h | h | h
  · rw [words_0 g w y h, words_0 g w' y h]
  · rw [words_1 g w y h, words_1 g w' y h]
  · rw [words_2 g w y h, words_2 g w' y h]
  · rw [words_3 g w y h, words_3 g w' y h]
  · rw [words_4 g w y h, words_4 g w' y h]
  · rw [words_5 g w y h, words_5 g w' y h]
  · rw [words_6 g w y h, words_6 g w' y h]
  · rw [words_7 g w y h, words_7 g w' y h]

/-- The words as the stores leave them, whatever was there before. -/
theorem read_words {κ : Kind} {sp : Space} (v : View sig κ sp S8 .i32) (f : v.ty.Contents (Elt F)) (g : IVec S1024x1 32)
    (p7 p3 p6 p2 p5 p1 p4 p0) :
    v.read (Elt F) (v.writes (Elt F) f
      [⟨Rect.unit (s := S8) ![7] S1.size p7, fun _ => n3 F g⟩, ⟨Rect.unit (s := S8) ![3] S1.size p3, fun _ => s3 F g⟩,
       ⟨Rect.unit (s := S8) ![6] S1.size p6, fun _ => n2 F g⟩, ⟨Rect.unit (s := S8) ![2] S1.size p2, fun _ => s2 F g⟩,
       ⟨Rect.unit (s := S8) ![5] S1.size p5, fun _ => n1 F g⟩, ⟨Rect.unit (s := S8) ![1] S1.size p1, fun _ => s1 F g⟩,
       ⟨Rect.unit (s := S8) ![4] S1.size p4, fun _ => n0 F g⟩, ⟨Rect.unit (s := S8) ![0] S1.size p0, fun _ => 0#32⟩])
      = words F g (fun _ => 0#32) := by
  rw [words_base g (fun _ => 0#32) (v.read (Elt F) f)]
  refine (View.read_writes_cons_put v f _ _ _ rfl).trans ?_
  rw [View.read_writes_cons_put v f _ _ _ rfl, View.read_writes_cons_put v f _ _ _ rfl, View.read_writes_cons_put v f _ _ _ rfl,
    View.read_writes_cons_put v f _ _ _ rfl, View.read_writes_cons_put v f _ _ _ rfl, View.read_writes_cons_put v f _ _ _ rfl,
    View.read_writes_cons_put v f _ _ _ rfl]
  rfl

/-- One word loaded at offset `k`. -/
theorem word_at {κ : Kind} {sp : Space} (v : View sig κ sp S8 .i32) (f : v.ty.Contents (Elt F)) {off : Fin 1 → ℕ} {k : ℕ}
    (inb : ∀ a, off a + S1.size a ≤ S8.size a) (h : off = ![k]) (hk : k < 8) (y : S1.Idx) :
    v.readAt (Elt F) (Rect.unit (s := S8) off S1.size inb).toLoadRect f y = v.read (Elt F) f (at8 k hk) := by
  subst h
  rw [View.readAt_unit v f inb rfl inb]
  show v.read (Elt F) f _ = _
  refine congrArg _ (funext fun a => Fin.ext ?_)
  obtain rfl : a = 0 := Subsingleton.elim _ _
  have hy : (y 0).val < 1 := (y 0).isLt
  show k + 1 * (y 0).val = k
  omega

end Cert.Proof.Moe

end
-- ==== Proof.Moe.OwnDefs.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.Words

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The tile word of place `k`. -/
def wd (F : FTy → Type) [FloatOps F] (g : IVec S1024x1 32) (k : ℕ) (hk : k < 8) : BitVec 32 :=
  words F g (fun _ => 0#32) (at8 k hk)

/-- The tiles of every group lie within the twelve packed tiles. -/
def Fits (F : FTy → Type) [FloatOps F] (g : IVec S1024x1 32) : Prop :=
  ∀ (k : ℕ) (hk : k < 4), (wd F g k (by omega)).toNat + (wd F g (4 + k) (by omega)).toNat ≤ 12

open Classical in
/-- One pair of experts, where its tile words are in range. -/
def yS (v w : BitVec 32) (i : grid0.Coords) (xg : Vec F S1536x1024 .bf16) (cw : Vec F S1536x128 .f32)
    (wg wu : Vec F S2x1024x512 .bf16) (wdn : Vec F S2x512x1024 .bf16) (y : Vec F S1536x1024 .f32) : Vec F S1536x1024 .f32 :=
  if h : k0_chk1 v w then yStep v w i xg cw wg wu wdn h y else y

theorem yS_of {v w : BitVec 32} (h : k0_chk1 v w) (i : grid0.Coords) (xg : Vec F S1536x1024 .bf16) (cw : Vec F S1536x128 .f32)
    (wg wu : Vec F S2x1024x512 .bf16) (wdn : Vec F S2x512x1024 .bf16) (y : Vec F S1536x1024 .f32) :
    yStep v w i xg cw wg wu wdn h y = yS v w i xg cw wg wu wdn y := by unfold yS; rw [dif_pos h]

end Cert.Proof.Moe

end
-- ==== Proof.Moe.PipeData.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.OwnDefs

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

theorem off1_at : ∀ t : Fin grid0.N, k0_off1 (grid0.coords t) = ![t.val % 8 / 2] := by decide +kernel
theorem off2_at : ∀ t : Fin grid0.N, k0_off2 (grid0.coords t) = ![4 + t.val % 8 / 2] := by decide +kernel
theorem cond2_at : ∀ t : Fin grid0.N, (Scalar.cmpi .ne (Scalar.extui (Scalar.cmpi .eq (BitVec.ofNat 32 (grid0.coords t 1).val) 0#32) : BitVec 32) 0#32 = 1#1) ↔ t.val % 8 = 0 := by decide +kernel
theorem cond1_at : ∀ t : Fin grid0.N, (Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1) ↔ t.val = 0 := by decide +kernel
theorem cond6_at : ∀ t : Fin grid0.N, k0_cond6 (grid0.coords t) = 1#1 ↔ t.val % 8 = 7 := by decide +kernel

variable (m : (ℓ : Loc nD τ sig) → Buf (Elt F) ℓ) (c : Dev nD)

/-- The first visit of the block point `t` works on. -/
def base (t : Fin cfg0.N) : Fin cfg0.N := ⟨t.val - t.val % 8, lt_of_le_of_lt (Nat.sub_le _ _) t.isLt⟩

theorem base_first {t : Fin cfg0.N} (h : t.val % 8 = 0) : base t = t := by
  apply Fin.ext; show t.val - t.val % 8 = t.val; omega

theorem base_next {t u : Fin cfg0.N} (h : t.val % 8 ≠ 0) (hu : u.val + 1 = t.val) : base t = base u := by
  apply Fin.ext; show t.val - t.val % 8 = u.val - u.val % 8; omega

/-- Window 0's block at point `t`. -/
abbrev bx (t : Fin cfg0.N) : Vec F S1024x1024 .f32 := iblk m c 0 t
/-- Window 1's block at point `t`. -/
abbrev bwr (t : Fin cfg0.N) : Vec F S1024x128 .f32 := iblk m c 1 t
/-- Window 2's block at point `t`. -/
abbrev bbr (t : Fin cfg0.N) : Vec F S1x128 .f32 := iblk m c 2 t
/-- Window 3's block at point `t`. -/
abbrev bwg (t : Fin cfg0.N) : Vec F S2x1024x512 .bf16 := iblk m c 3 t
/-- Window 4's block at point `t`. -/
abbrev bwu (t : Fin cfg0.N) : Vec F S2x1024x512 .bf16 := iblk m c 4 t
/-- Window 5's block at point `t`. -/
abbrev bwd (t : Fin cfg0.N) : Vec F S2x512x1024 .bf16 := iblk m c 5 t
/-- Window 6's block at point `t`. -/
abbrev bga (t : Fin cfg0.N) : Vec F S1x1024 .f32 := iblk m c 6 t
/-- Window 7's block at point `t`. -/
abbrev bbi (t : Fin cfg0.N) : Vec F S1x1024 .f32 := iblk m c 7 t

/-- The chosen groups of the block. -/
def gAt (t : Fin cfg0.N) : IVec S1024x1 32 := gsel (bx m c (base t)) (bwr m c (base t)) (bbr m c (base t))
def slotAt (t : Fin cfg0.N) : Vec F S1024x1 .f32 := slotOf (bx m c (base t)) (bwr m c (base t)) (bbr m c (base t)) (k0_pay46 (F := F))
def xgAt (t : Fin cfg0.N) : Vec F S1536x1024 .bf16 := xgOf (bx m c (base t)) (bwr m c (base t)) (bbr m c (base t)) (k0_pay46 (F := F))
def cwAt (t : Fin cfg0.N) : Vec F S1536x128 .f32 := cwOf (bx m c (base t)) (bwr m c (base t)) (bbr m c (base t)) (k0_pay46 (F := F))

/-- What point `t` makes of the packed results. -/
def stepAt (t : Fin cfg0.N) (y : Vec F S1536x1024 .f32) : Vec F S1536x1024 .f32 :=
  yS (wd F (gAt m c t) (t.val % 8 / 2) (by omega)) (wd F (gAt m c t) (4 + t.val % 8 / 2) (by omega)) (grid0.coords t)
    (xgAt m c t) (cwAt m c t) (bwg m c t) (bwu m c t) (bwd m c t) y

/-- The packed results after point `n`. -/
def yN : (n : ℕ) → n < cfg0.N → Vec F S1536x1024 .f32
  | 0, h => stepAt m c ⟨0, h⟩ (k0_pay48 (F := F))
  | n + 1, h => stepAt m c ⟨n + 1, h⟩ (if (n + 1) % 8 = 0 then k0_pay48 (F := F) else yN n (Nat.lt_of_succ_lt h))

/-- The packed results after point `t`. -/
def yAt (t : Fin cfg0.N) : Vec F S1536x1024 .f32 := yN m c t.val t.isLt

theorem yAt_first {t : Fin cfg0.N} (h : t.val % 8 = 0) : yAt m c t = stepAt m c t (k0_pay48 (F := F)) := by
  obtain ⟨n, hn⟩ := t
  cases n with
  | zero => rfl
  | succ n => show stepAt m c ⟨n + 1, hn⟩ (if (n + 1) % 8 = 0 then _ else _) = _; rw [if_pos h]

theorem yAt_next {t u : Fin cfg0.N} (h : t.val % 8 ≠ 0) (hu : u.val + 1 = t.val) : yAt m c t = stepAt m c t (yAt m c u) := by
  obtain ⟨n, hn⟩ := t
  obtain ⟨k, hk⟩ := u
  obtain rfl : k + 1 = n := hu
  show stepAt m c ⟨k + 1, hn⟩ (if (k + 1) % 8 = 0 then _ else _) = _
  rw [if_neg h]; rfl

/-- What the last visit writes. -/
def outAt (t : Fin cfg0.N) : Vec F S1024x1024 .f32 :=
  k0_pay45 (slotAt m c t) (yAt m c t) (bx m c t) (bga m c t) (bbi m c t)

/-- What the scratch buffers hold before point `n`. -/
def Inv (n : ℕ) (d0 : Vec F S1024x1024 .bf16) (d1 : Vec F S1024x1 .f32) (d2 : Vec F S1536x1024 .bf16) (d3 : Vec F S1536x128 .f32)
    (d4 : Vec F S1536x1024 .f32) (d5 : Vec F S8 .i32) : Prop :=
  ∀ u : Fin cfg0.N, u.val + 1 = n → d0 = k0_pay46 (F := F) ∧ d1 = slotAt m c u ∧ d2 = xgAt m c u ∧ d3 = cwAt m c u
    ∧ d5 = words F (gAt m c u) (fun _ => 0#32) ∧ d4 = yAt m c u

abbrev sc0 : Memref sig .tc .vmem S1024x1024 .bf16 := Memref.whole cc0_scratch0
abbrev sc1 : Memref sig .tc .vmem S1024x1 .f32 := Memref.whole cc0_scratch1
abbrev sc2 : Memref sig .tc .vmem S1536x1024 .bf16 := Memref.whole cc0_scratch2
abbrev sc3 : Memref sig .tc .vmem S1536x128 .f32 := Memref.whole cc0_scratch3
abbrev sc4 : Memref sig .tc .vmem S1536x1024 .f32 := Memref.whole cc0_scratch4
abbrev sc5 : Memref sig .tc .smem S8 .i32 := Memref.whole cc0_scratch5

/-- The scratch buffers before point `n`. -/
def phi (n : ℕ) : sProp 𝕄 :=
  iprop(∃ (d0 : Vec F S1024x1024 .bf16) (d1 : Vec F S1024x1 .f32) (d2 : Vec F S1536x1024 .bf16) (d3 : Vec F S1536x128 .f32) (d4 : Vec F S1536x1024 .f32) (d5 : Vec F S8 .i32), ⌜Inv m c n d0 d1 d2 d3 d4 d5⌝ ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5 ∗ ∃ r, prngReg c r)

/-- The proof data. -/
def rdat : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => t.val % 8 = 7 → X = outAt m c t
  Φ n := phi m c n.val
  q _ := fullShare
  owed _ := 0

theorem finds0 (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; rfl
theorem finds1 (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; rfl
theorem finds2 (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; rfl
theorem finds3 (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; rfl
theorem finds4 (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; rfl
theorem finds5 (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; rfl
theorem finds6 (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; rfl
theorem finds7 (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; rfl

theorem phi_in : Pipeline.ΦA (U := UR sig nD τ) (Val := Elt F) spec0 c ⊢ (rdat m c).Φ 0 := by
  show _ ⊢ phi m c 0
  unfold Pipeline.ΦA phi
  rw [scopedRest0_eq]
  iintro ⟨⟨⟨%f0, H0⟩, ⟨%f1, H1⟩, ⟨%f2, H2⟩, ⟨%f3, H3⟩, ⟨%f4, H4⟩, ⟨%f5, H5⟩⟩, Hr⟩
  iexists f0, f1, f2, f3, f4, f5
  isplitr
  · ipureintro; intro u hu; omega
  simp only [sc0, sc1, sc2, sc3, sc4, sc5, owns_whole]
  isplitl [H0]; · iexact H0
  isplitl [H1]; · iexact H1
  isplitl [H2]; · iexact H2
  isplitl [H3]; · iexact H3
  isplitl [H4]; · iexact H4
  isplitl [H5]; · iexact H5
  iexact Hr

theorem phi_out : (rdat m c).Φ (Fin.last cfg0.N) ⊢ Pipeline.ΦA (U := UR sig nD τ) (Val := Elt F) spec0 c := by
  show phi m c cfg0.N ⊢ _
  unfold Pipeline.ΦA phi
  rw [scopedRest0_eq]
  simp only [sc0, sc1, sc2, sc3, sc4, sc5, owns_whole]
  iintro ⟨%f0, %f1, %f2, %f3, %f4, %f5, -, H0, H1, H2, H3, H4, H5, Hr⟩
  isplitl [H0 H1 H2 H3 H4 H5]
  · isplitl [H0]; · iexists f0; iexact H0
    isplitl [H1]; · iexists f1; iexact H1
    isplitl [H2]; · iexists f2; iexact H2
    isplitl [H3]; · iexists f3; iexact H3
    isplitl [H4]; · iexists f4; iexact H4
    iexists f5; iexact H5
  iexact Hr

end Cert.Proof.Moe

end
-- ==== Proof.Moe.Bounds.lean ====
/-
  What a pair of tile words within the twelve packed tiles gives: the body's side condition, and its counted loops' trips.
-/
module

public import proofs.«01_k».proof.Proof.Moe.Step

@[expose] public section

noncomputable section

namespace Cert.Proof.Moe

open Cert.KernelIdeal Cert.KernelIdeal.Gen
open Idealize.ShloMosaic

theorem chk_fin : ∀ a n : Fin 13, a.val + n.val ≤ 12 → k0_chk1 (BitVec.ofNat 32 a.val) (BitVec.ofNat 32 n.val) := by
  decide +kernel

theorem trips2_fin : ∀ n : Fin 13, (k0_t2_loop (BitVec.ofNat 32 n.val)).trips = 0 := by
  decide +kernel

theorem cond34_fin : ∀ n : Fin 13, k0_cond3 (BitVec.ofNat 32 n.val) = 1#1 → ¬ k0_cond4 (BitVec.ofNat 32 n.val) = 1#1 := by
  decide +kernel

theorem cond34n_fin : ∀ n : Fin 13, ¬ k0_cond3 (BitVec.ofNat 32 n.val) = 1#1 → k0_cond4 (BitVec.ofNat 32 n.val) = 1#1 := by
  decide +kernel

theorem chk_of {v w : BitVec 32} (h : v.toNat + w.toNat ≤ 12) : k0_chk1 v w := by
  have := chk_fin ⟨v.toNat, by omega⟩ ⟨w.toNat, by omega⟩ h
  simpa using this

theorem trips2_of {v w : BitVec 32} (h : v.toNat + w.toNat ≤ 12) : (k0_t2_loop w).trips = 0 := by
  have := trips2_fin ⟨w.toNat, by omega⟩
  simp only [BitVec.ofNat_toNat, BitVec.setWidth_eq] at this
  exact this

theorem cond4_of_cond3 {v w : BitVec 32} (h : v.toNat + w.toNat ≤ 12) (h3 : k0_cond3 w = 1#1) : ¬ k0_cond4 w = 1#1 := by
  have := cond34_fin ⟨w.toNat, by omega⟩
  simp only [BitVec.ofNat_toNat, BitVec.setWidth_eq] at this
  exact this h3

theorem cond4_of_not {v w : BitVec 32} (h : v.toNat + w.toNat ≤ 12) (h3 : ¬ k0_cond3 w = 1#1) : k0_cond4 w = 1#1 := by
  have := cond34n_fin ⟨w.toNat, by omega⟩
  simp only [BitVec.ofNat_toNat, BitVec.setWidth_eq] at this
  exact this h3

end Cert.Proof.Moe

end
-- ==== Proof.Moe.Loop.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.Bounds

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- What one trip of the two-tile loop stores. -/
theorem trip_eq (𝒱 : Variants) (c : Dev nD) (bd : Option 𝒱.V) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (v9 v28 v31 : BitVec 32)
    (hw : k0_chk1 v28 v31) (h4 : k0_cond4 v31 = 1#1) (f5 : BufTy.Contents (Elt F) arg5.view.ty) (f6 : BufTy.Contents (Elt F) arg6.view.ty) (f7 : BufTy.Contents (Elt F) arg7.view.ty) (f13 : BufTy.Contents (Elt F) arg13.view.ty) (f14 : BufTy.Contents (Elt F) arg14.view.ty) (f15 : BufTy.Contents (Elt F) arg15.view.ty) (t : Fin (k0_t1_loop v31).trips) :
    arg15.view.read (Elt F) (arg15.view.writes (Elt F) f15 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 t f15))
      = yTwo v9 v28 v31 (arg13.view.read (Elt F) f13) (arg14.view.read (Elt F) f14) (arg5.view.read (Elt F) f5) (arg6.view.read (Elt F) f6) (arg7.view.read (Elt F) f7) hw h4 t (arg15.view.read (Elt F) f15) := by
  have e : tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 t f15 = [⟨Rect.unit (s := S1536x1024) (k0_off5 v28 v31 t) S256x1024.size (k0_off5_inb v28 v31 hw t h4), payTwo v9 v28 v31 (arg13.view.read (Elt F) f13) (arg14.view.read (Elt F) f14) (arg5.view.read (Elt F) f5) (arg6.view.read (Elt F) f6) (arg7.view.read (Elt F) f7) hw h4 t (arg15.view.read (Elt F) f15)⟩] := by
    unfold tripL_k0_t1 trip_k0_t1
    rfl
  rw [e]
  refine (View.read_writes_cons_put _ _ _ _ _ rfl).trans ?_
  rfl

/-- The loop's stores, trip by trip. -/
theorem loop_eq (𝒱 : Variants) (c : Dev nD) (bd : Option 𝒱.V) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (v9 v28 v31 : BitVec 32)
    (hw : k0_chk1 v28 v31) (h4 : k0_cond4 v31 = 1#1) (f5 : BufTy.Contents (Elt F) arg5.view.ty) (f6 : BufTy.Contents (Elt F) arg6.view.ty) (f7 : BufTy.Contents (Elt F) arg7.view.ty) (f13 : BufTy.Contents (Elt F) arg13.view.ty) (f14 : BufTy.Contents (Elt F) arg14.view.ty) (f15 : BufTy.Contents (Elt F) arg15.view.ty) (k : ℕ) (hk : k ≤ (k0_t1_loop v31).trips) :
    arg15.view.read (Elt F) (arg15.view.writes (Elt F) f15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 f15 k))
      = yTwos v9 v28 v31 (arg13.view.read (Elt F) f13) (arg14.view.read (Elt F) f14) (arg5.view.read (Elt F) f5) (arg6.view.read (Elt F) f6) (arg7.view.read (Elt F) f7) hw h4 (arg15.view.read (Elt F) f15) k := by
  induction k with
  | zero => rfl
  | succ k ih =>
    have hk' : k < (k0_t1_loop v31).trips := hk
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 f15 ⟨k, hk'⟩, View.writes_append, trip_eq, ih (by omega)]
    show _ = dite _ _ _
    rw [dif_pos hk']

/-- Both loops: the second never runs. -/
theorem loops_eq (𝒱 : Variants) (c : Dev nD) (bd : Option 𝒱.V) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (v9 v28 v31 v62 : BitVec 32)
    (hw : k0_chk1 v28 v31) (h4 : k0_cond4 v31 = 1#1) (f5 : BufTy.Contents (Elt F) arg5.view.ty) (f6 : BufTy.Contents (Elt F) arg6.view.ty) (f7 : BufTy.Contents (Elt F) arg7.view.ty) (f13 : BufTy.Contents (Elt F) arg13.view.ty) (f14 : BufTy.Contents (Elt F) arg14.view.ty) (f15 : BufTy.Contents (Elt F) arg15.view.ty) (X15 : BufTy.Contents (Elt F) arg15.view.ty)
    (L : List (View.Piece (Elt F) S1536x1024 .f32)) (h2 : (k0_t2_loop v31).trips = 0) :
    arg15.view.read (Elt F) (arg15.view.writes (Elt F) f15
        (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 v62 f5 f6 f7 f13 f14 X15 (k0_t2_loop v31).trips ++
          (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 (arg15.view.writes (Elt F) f15 L) (k0_t1_loop v31).trips ++ L)))
      = yTwos v9 v28 v31 (arg13.view.read (Elt F) f13) (arg14.view.read (Elt F) f14) (arg5.view.read (Elt F) f5) (arg6.view.read (Elt F) f6) (arg7.view.read (Elt F) f7) hw h4 (arg15.view.read (Elt F) (arg15.view.writes (Elt F) f15 L)) (k0_t1_loop v31).trips := by
  rw [h2]
  show arg15.view.read (Elt F) (arg15.view.writes (Elt F) f15 ([] ++ _)) = _
  rw [List.nil_append, View.writes_append]
  exact loop_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 (arg15.view.writes (Elt F) f15 L) _ (le_refl _)

/-- Both loops over what the buffer held: the second never runs. -/
theorem loops_eq0 (𝒱 : Variants) (c : Dev nD) (bd : Option 𝒱.V) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (v9 v28 v31 v62 : BitVec 32)
    (hw : k0_chk1 v28 v31) (h4 : k0_cond4 v31 = 1#1) (f5 : BufTy.Contents (Elt F) arg5.view.ty) (f6 : BufTy.Contents (Elt F) arg6.view.ty) (f7 : BufTy.Contents (Elt F) arg7.view.ty) (f13 : BufTy.Contents (Elt F) arg13.view.ty) (f14 : BufTy.Contents (Elt F) arg14.view.ty) (f15 : BufTy.Contents (Elt F) arg15.view.ty) (X15 : BufTy.Contents (Elt F) arg15.view.ty)
    (h2 : (k0_t2_loop v31).trips = 0) :
    arg15.view.read (Elt F) (arg15.view.writes (Elt F) f15
        (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 v62 f5 f6 f7 f13 f14 X15 (k0_t2_loop v31).trips ++
          pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 f15 (k0_t1_loop v31).trips))
      = yTwos v9 v28 v31 (arg13.view.read (Elt F) f13) (arg14.view.read (Elt F) f14) (arg5.view.read (Elt F) f5) (arg6.view.read (Elt F) f6) (arg7.view.read (Elt F) f7) hw h4 (arg15.view.read (Elt F) f15) (k0_t1_loop v31).trips := by
  rw [h2]
  show arg15.view.read (Elt F) (arg15.view.writes (Elt F) f15 ([] ++ _)) = _
  rw [List.nil_append]
  exact loop_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v9 v28 v31 hw h4 f5 f6 f7 f13 f14 f15 _ (le_refl _)

end Cert.Proof.Moe

end
-- ==== Proof.Moe.RunA.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.Loop
public import proofs.«01_k».proof.Proof.Moe.Words

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem runA (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
  (h2 : Scalar.cmpi .ne (Scalar.extui (Scalar.cmpi .eq (BitVec.ofNat 32 (i 1).val) 0#32) : BitVec 32) 0#32 = 1#1)
  (h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (e1 : k0_off1 i = ![0]) (e2 : k0_off2 i = ![4]) (h6 : ¬ k0_cond6 i = 1#1)
  (hb : (0#32 : BitVec 32).toNat + (n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))).toNat ≤ 12) :
    iprop((arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (arg13.view.loc (c : Thread nD τ) ↦[arg13.view.set]{fullShare} f13 : sProp 𝕄) ∗ (arg14.view.loc (c : Thread nD τ) ↦[arg14.view.set]{fullShare} f14 : sProp 𝕄) ∗ (arg15.view.loc (c : Thread nD τ) ↦[arg15.view.set]{fullShare} f15 : sProp 𝕄) ∗ (arg16.view.loc (c : Thread nD τ) ↦[arg16.view.set]{fullShare} f16 : sProp 𝕄)) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty),
  (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} g11 : sProp 𝕄) ∗ (arg12.view.loc (c : Thread nD τ) ↦[arg12.view.set]{fullShare} g12 : sProp 𝕄) ∗ (arg13.view.loc (c : Thread nD τ) ↦[arg13.view.set]{fullShare} g13 : sProp 𝕄) ∗ (arg14.view.loc (c : Thread nD τ) ↦[arg14.view.set]{fullShare} g14 : sProp 𝕄) ∗ (arg15.view.loc (c : Thread nD τ) ↦[arg15.view.set]{fullShare} g15 : sProp 𝕄) ∗ (arg16.view.loc (c : Thread nD τ) ↦[arg16.view.set]{fullShare} g16 : sProp 𝕄) ∗ ⌜(arg11.view.read (Elt F) g11) = (k0_pay46 (F := F)) ∧ (arg12.view.read (Elt F) g12) = slotOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) ∧ (arg13.view.read (Elt F) g13) = xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) ∧ (arg14.view.read (Elt F) g14) = cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))
     ∧ (arg16.view.read (Elt F) g16) = words F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) (fun _ => 0#32)
     ∧ (arg15.view.read (Elt F) g15) = yStep 0#32 (n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))) i (xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))) (cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))) (arg5.view.read (Elt F) f5) (arg6.view.read (Elt F) f6) (arg7.view.read (Elt F) f7) (chk_of hb) (k0_pay48 (F := F))⌝) : sProp 𝕄)) := by
  simp only [cc0_moe_layer_eq_skeleton]; unfold cc0_moe_layer_skel
  letI : ClosedOff (k0_off1 i) := ⟨![0], e1⟩
  letI : ClosedOff (k0_off2 i) := ⟨![4], e2⟩
  iintro ⟨H2, H3, H4, H5, H6, H7, H8, H9, H10, H11, H12, H13, H14, H15, H16⟩
  sl_exec
  have hL : ∀ f, arg16.view.read (Elt F) (arg16.view.writes (Elt F) f (runA.sl.H16_8 arg2 arg3 arg4 f2 f3 f4)) = words F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) (fun _ => 0#32) := fun f => by
    unfold runA.sl.H16_8
    exact read_words arg16.view f (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) _ _ _ _ _ _ _ _
  have q28 : runA.sl.r_25 i arg2 arg3 arg4 arg16 f2 f3 f4 = 0#32 :=
    (word_at arg16.view _ _ e1 (by decide) _).trans ((congrFun (hL _) _).trans (words_0 _ _ _ rfl))
  have q31 : runA.sl.r_26 i arg2 arg3 arg4 arg16 f2 f3 f4 = n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) :=
    (word_at arg16.view _ _ e2 (by decide) _).trans ((congrFun (hL _) _).trans (words_4 _ _ _ rfl))
  have hrank : (runA.sl.r_10 arg2 arg3 arg4 arg11 f2 f3 f4) = rank (k0_pay46 (F := F)) (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) :=
    congrArg (fun T => rank T (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))) (View.readCov_full arg11.view _ _ _ _)
  have hslot : k0_pay35 (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4) = slotOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) := by rw [hrank]; rfl
  have hxg : k0_pay37 (runA.sl.r arg2 f2) (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4) = xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) := by rw [hrank]; rfl
  have hcw : k0_pay47 (runA.sl.r_23 arg2 arg3 arg4 arg11 f2 f3 f4) (runA.sl.r_24 arg2 arg3 arg4 arg11 f2 f3 f4) = cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) := by
    have e23 : (runA.sl.r_23 arg2 arg3 arg4 arg11 f2 f3 f4) = k0_pay38 (runA.sl.r_3 arg2 arg3 arg4 f2 f3 f4) (runA.sl.r_8 arg2 arg3 arg4 f2 f3 f4) (runA.sl.r_9 arg2 arg3 arg4 f2 f3 f4) (runA.sl.r_10 arg2 arg3 arg4 arg11 f2 f3 f4) (runA.sl.r_20 arg2 arg3 arg4 f2 f3 f4) (runA.sl.v273 arg2 arg3 arg4 f2 f3 f4) := rfl
    have e24 : (runA.sl.r_24 arg2 arg3 arg4 arg11 f2 f3 f4) = k0_pay39 (runA.sl.r_3 arg2 arg3 arg4 f2 f3 f4) (runA.sl.r_8 arg2 arg3 arg4 f2 f3 f4) (runA.sl.r_9 arg2 arg3 arg4 f2 f3 f4) (runA.sl.r_10 arg2 arg3 arg4 arg11 f2 f3 f4) (runA.sl.r_20 arg2 arg3 arg4 f2 f3 f4) (runA.sl.v273 arg2 arg3 arg4 f2 f3 f4) := rfl
    rw [e23, e24, hrank]; rfl
  generalize runA.sl.r_25 i arg2 arg3 arg4 arg16 f2 f3 f4 = v28 at q28 ⊢
  generalize runA.sl.r_26 i arg2 arg3 arg4 arg16 f2 f3 f4 = v31 at q31 ⊢
  have hb' := hb
  rw [← q28, ← q31] at hb'
  have hchk := chk_of hb'
  have hstep : yStep v28 v31 i (xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))) (cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))) (arg5.view.read (Elt F) f5) (arg6.view.read (Elt F) f6) (arg7.view.read (Elt F) f7) hchk (k0_pay48 (F := F))
      = yStep 0#32 (n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))) i (xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))) (cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F))) (arg5.view.read (Elt F) f5) (arg6.view.read (Elt F) f6) (arg7.view.read (Elt F) f7) (chk_of hb) (k0_pay48 (F := F)) := by
    subst q28 q31; rfl
  have p13 : arg13.view.read (Elt F) (arg13.view.writes (Elt F) arg13.view.junk [⟨Rect.unit (s := S1536x1024) ![0, 0] S1536x1024.size inb_S1536x1024_S1536x1024_0_0, k0_pay37 (runA.sl.r arg2 f2) (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4)⟩]) = xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) := (View.read_writes_full arg13.view _ _ _ _).trans hxg
  have p14 : arg14.view.read (Elt F) (arg14.view.writes (Elt F) arg14.view.junk [⟨Rect.unit (s := S1536x128) ![0, 0] S1536x128.size inb_S1536x128_S1536x128_0_0, k0_pay47 (runA.sl.r_23 arg2 arg3 arg4 arg11 f2 f3 f4) (runA.sl.r_24 arg2 arg3 arg4 arg11 f2 f3 f4)⟩]) = cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (k0_pay46 (F := F)) := (View.read_writes_full arg14.view _ _ _ _).trans hcw
  by_cases h3 : k0_cond3 v31 = 1#1
  · have h4 := cond4_of_cond3 hb' h3
    sl_exec
    sl_step
    iexists _, _, _, _, _, _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    refine ⟨(View.read_writes_full arg11.view _ _ _ _), (View.read_writes_full arg12.view _ _ _ _).trans hslot, (View.read_writes_full arg13.view _ _ _ _).trans hxg, (View.read_writes_full arg14.view _ _ _ _).trans hcw, hL _, ?_⟩
    rw [← hstep]
    unfold yStep; rw [dif_pos h3]; unfold yThree
    refine (View.read_writes_cons_put _ _ _ _ _ rfl).trans ?_
    rw [View.read_writes_full, ← p13, ← p14]
    refine congrArg (VecWindow.put _ _ _) ?_
    have hy : runA.sl.v106 arg15 v28 v31 hchk h3 = VecWindow.window (k0_pay48 (F := F)) (k0_off3 v28) S384x1024.size (k0_off3_inb v28 v31 hchk h3) :=
      (View.readAt_unit _ _ _ rfl _).trans (by rw [View.read_writes_full])
    rw [hy]
    rfl
  · have h4 := cond4_of_not hb' h3
    by_cases h5 : k0_cond5 v31 = 1#1
    · sl_exec
      sl_step
      iexists _, _, _, _, _, _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      refine ⟨(View.read_writes_full arg11.view _ _ _ _), (View.read_writes_full arg12.view _ _ _ _).trans hslot, (View.read_writes_full arg13.view _ _ _ _).trans hxg, (View.read_writes_full arg14.view _ _ _ _).trans hcw, hL _, ?_⟩
      rw [← hstep]
      have hl := loops_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runA.sl.v62 v31) hchk h4 f5 f6 f7 (arg13.view.writes (Elt F) arg13.view.junk [⟨Rect.unit (s := S1536x1024) ![0, 0] S1536x1024.size inb_S1536x1024_S1536x1024_0_0, k0_pay37 (runA.sl.r arg2 f2) (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4)⟩]) (arg14.view.writes (Elt F) arg14.view.junk [⟨Rect.unit (s := S1536x128) ![0, 0] S1536x128.size inb_S1536x128_S1536x128_0_0, k0_pay47 (runA.sl.r_23 arg2 arg3 arg4 arg11 f2 f3 f4) (runA.sl.r_24 arg2 arg3 arg4 arg11 f2 f3 f4)⟩]) arg15.view.junk (arg15.view.writes (Elt F) arg15.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 (arg13.view.writes (Elt F) arg13.view.junk [⟨Rect.unit (s := S1536x1024) ![0, 0] S1536x1024.size inb_S1536x1024_S1536x1024_0_0, k0_pay37 (runA.sl.r arg2 f2) (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4)⟩]) (arg14.view.writes (Elt F) arg14.view.junk [⟨Rect.unit (s := S1536x128) ![0, 0] S1536x128.size inb_S1536x128_S1536x128_0_0, k0_pay47 (runA.sl.r_23 arg2 arg3 arg4 arg11 f2 f3 f4) (runA.sl.r_24 arg2 arg3 arg4 arg11 f2 f3 f4)⟩]) (arg15.view.writes (Elt F) arg15.view.junk [⟨Rect.unit (s := S1536x1024) ![0, 0] S1536x1024.size inb_S1536x1024_S1536x1024_0_0, k0_pay48⟩]) (k0_t1_loop v31).trips ++ [⟨Rect.unit (s := S1536x1024) ![0, 0] S1536x1024.size inb_S1536x1024_S1536x1024_0_0, k0_pay48⟩])) [⟨Rect.unit (s := S1536x1024) ![0, 0] S1536x1024.size inb_S1536x1024_S1536x1024_0_0, k0_pay48⟩] (trips2_of hb')
      rw [p13, p14, View.read_writes_full] at hl
      unfold yStep; rw [dif_neg h3, dif_pos h4, dif_pos h5]; unfold yOne
      refine (View.read_writes_cons_put _ _ _ _ _ rfl).trans ?_
      rw [← hl, ← p13, ← p14]
      rfl
    · sl_exec
      sl_step
      iexists _, _, _, _, _, _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      refine ⟨(View.read_writes_full arg11.view _ _ _ _), (View.read_writes_full arg12.view _ _ _ _).trans hslot, (View.read_writes_full arg13.view _ _ _ _).trans hxg, (View.read_writes_full arg14.view _ _ _ _).trans hcw, hL _, ?_⟩
      rw [← hstep]
      have hl := loops_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runA.sl.v62_1 v31) hchk h4 f5 f6 f7 (arg13.view.writes (Elt F) arg13.view.junk [⟨Rect.unit (s := S1536x1024) ![0, 0] S1536x1024.size inb_S1536x1024_S1536x1024_0_0, k0_pay37 (runA.sl.r arg2 f2) (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4)⟩]) (arg14.view.writes (Elt F) arg14.view.junk [⟨Rect.unit (s := S1536x128) ![0, 0] S1536x128.size inb_S1536x128_S1536x128_0_0, k0_pay47 (runA.sl.r_23 arg2 arg3 arg4 arg11 f2 f3 f4) (runA.sl.r_24 arg2 arg3 arg4 arg11 f2 f3 f4)⟩]) arg15.view.junk (arg15.view.writes (Elt F) arg15.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 (arg13.view.writes (Elt F) arg13.view.junk [⟨Rect.unit (s := S1536x1024) ![0, 0] S1536x1024.size inb_S1536x1024_S1536x1024_0_0, k0_pay37 (runA.sl.r arg2 f2) (runA.sl.r_3 arg2 arg3 arg4 f2 f3 f4) (runA.sl.r_10 arg2 arg3 arg4 arg11 f2 f3 f4) (runA.sl.r_20 arg2 arg3 arg4 f2 f3 f4) (runA.sl.v273 arg2 arg3 arg4 f2 f3 f4)⟩]) (arg14.view.writes (Elt F) arg14.view.junk [⟨Rect.unit (s := S1536x128) ![0, 0] S1536x128.size inb_S1536x128_S1536x128_0_0, k0_pay47 (runA.sl.r_23 arg2 arg3 arg4 arg11 f2 f3 f4) (runA.sl.r_24 arg2 arg3 arg4 arg11 f2 f3 f4)⟩]) (arg15.view.writes (Elt F) arg15.view.junk [⟨Rect.unit (s := S1536x1024) ![0, 0] S1536x1024.size inb_S1536x1024_S1536x1024_0_0, k0_pay48⟩]) (k0_t1_loop v31).trips ++ [⟨Rect.unit (s := S1536x1024) ![0, 0] S1536x1024.size inb_S1536x1024_S1536x1024_0_0, k0_pay48⟩])) [⟨Rect.unit (s := S1536x1024) ![0, 0] S1536x1024.size inb_S1536x1024_S1536x1024_0_0, k0_pay48⟩] (trips2_of hb')
      rw [p13, p14, View.read_writes_full] at hl
      unfold yStep; rw [dif_neg h3, dif_pos h4, dif_neg h5]
      exact hl

end Cert.Proof.Moe

end
-- ==== Proof.Moe.OwnA.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.OwnDefs
public import proofs.«01_k».proof.Proof.Moe.RunA

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem ownA (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (X2 : Vec F S1024x1024 .f32) (X3 : Vec F S1024x128 .f32) (X4 : Vec F S1x128 .f32) (X5 : Vec F S2x1024x512 .bf16) (X6 : Vec F S2x1024x512 .bf16) (X7 : Vec F S2x512x1024 .bf16) (X8 : Vec F S1x1024 .f32) (X9 : Vec F S1x1024 .f32) (X10 : Vec F S1024x1024 .f32) (X11 : Vec F S1024x1024 .bf16) (X12 : Vec F S1024x1 .f32) (X13 : Vec F S1536x1024 .bf16) (X14 : Vec F S1536x128 .f32) (X15 : Vec F S1536x1024 .f32) (X16 : Vec F S8 .i32)
  (h2 : Scalar.cmpi .ne (Scalar.extui (Scalar.cmpi .eq (BitVec.ofNat 32 (i 1).val) 0#32) : BitVec 32) 0#32 = 1#1)
  (h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (e1 : k0_off1 i = ![0]) (e2 : k0_off2 i = ![4]) (h6 : ¬ k0_cond6 i = 1#1) (HB : Fits F (gsel X2 X3 X4)) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (Z11 : Vec F S1024x1024 .bf16) (Z12 : Vec F S1024x1 .f32) (Z13 : Vec F S1536x1024 .bf16) (Z14 : Vec F S1536x128 .f32) (Z15 : Vec F S1536x1024 .f32) (Z16 : Vec F S8 .i32), owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare Z11 ∗ owns (c : Thread nD τ) arg12 fullShare Z12 ∗ owns (c : Thread nD τ) arg13 fullShare Z13 ∗ owns (c : Thread nD τ) arg14 fullShare Z14 ∗ owns (c : Thread nD τ) arg15 fullShare Z15 ∗ owns (c : Thread nD τ) arg16 fullShare Z16 ∗ ⌜Z11 = k0_pay46 (F := F) ∧ Z12 = slotOf X2 X3 X4 (k0_pay46 (F := F)) ∧ Z13 = xgOf X2 X3 X4 (k0_pay46 (F := F)) ∧ Z14 = cwOf X2 X3 X4 (k0_pay46 (F := F)) ∧ Z16 = words F (gsel X2 X3 X4) (fun _ => 0#32) ∧ Z15 = yS (wd F (gsel X2 X3 X4) 0 (by decide)) (wd F (gsel X2 X3 X4) 4 (by decide)) i (xgOf X2 X3 X4 (k0_pay46 (F := F))) (cwOf X2 X3 X4 (k0_pay46 (F := F))) X5 X6 X7 (k0_pay48 (F := F))⌝) : sProp 𝕄)) := by
  unfold owns
  iintro ⟨⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%f11, %q11, H11⟩, ⟨%f12, %q12, H12⟩, ⟨%f13, %q13, H13⟩, ⟨%f14, %q14, H14⟩, ⟨%f15, %q15, H15⟩, ⟨%f16, %q16, H16⟩⟩
  have r2 := (View.readAt_full arg2.view f2 inb_S1024x1024_S1024x1024_0_0).trans q2
  have r3 := (View.readAt_full arg3.view f3 inb_S1024x128_S1024x128_0_0).trans q3
  have r4 := (View.readAt_full arg4.view f4 inb_S1x128_S1x128_0_0).trans q4
  have w0 : wd F (gsel X2 X3 X4) 0 (by decide) = 0#32 := words_0 _ _ _ rfl
  have w4 : wd F (gsel X2 X3 X4) 4 (by decide) = n0 F (gsel X2 X3 X4) := words_4 _ _ _ rfl
  have hb : (0#32).toNat + (n0 F (gsel X2 X3 X4)).toNat ≤ 12 := by
    have := HB 0 (by decide); rw [← w0, ← w4]; exact this
  have hrun := runA c E i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 h2 h1 e1 e2 h6 (by rw [r2, r3, r4]; exact hb)
  simp only [r2, r3, r4, q5, q6, q7] at hrun
  have hk := hrun.trans (wp_mono frame (wpE (defs₀ (F := F)) Variants.none c none) E (fun _ => (show _ ⊢ (iprop(∃ (Z11 : Vec F S1024x1024 .bf16) (Z12 : Vec F S1024x1 .f32) (Z13 : Vec F S1536x1024 .bf16) (Z14 : Vec F S1536x128 .f32) (Z15 : Vec F S1536x1024 .f32) (Z16 : Vec F S8 .i32), (∃ f, ⌜arg2.view.read (Elt F) f = X2⌝ ∗ (arg2.view.loc (c : Thread nD τ) ↦[arg2.view.set]{fullShare} f)) ∗ (∃ f, ⌜arg3.view.read (Elt F) f = X3⌝ ∗ (arg3.view.loc (c : Thread nD τ) ↦[arg3.view.set]{fullShare} f)) ∗ (∃ f, ⌜arg4.view.read (Elt F) f = X4⌝ ∗ (arg4.view.loc (c : Thread nD τ) ↦[arg4.view.set]{fullShare} f)) ∗ (∃ f, ⌜arg5.view.read (Elt F) f = X5⌝ ∗ (arg5.view.loc (c : Thread nD τ) ↦[arg5.view.set]{fullShare} f)) ∗ (∃ f, ⌜arg6.view.read (Elt F) f = X6⌝ ∗ (arg6.view.loc (c : Thread nD τ) ↦[arg6.view.set]{fullShare} f)) ∗ (∃ f, ⌜arg7.view.read (Elt F) f = X7⌝ ∗ (arg7.view.loc (c : Thread nD τ) ↦[arg7.view.set]{fullShare} f)) ∗ (∃ f, ⌜arg8.view.read (Elt F) f = X8⌝ ∗ (arg8.view.loc (c : Thread nD τ) ↦[arg8.view.set]{fullShare} f)) ∗ (∃ f, ⌜arg9.view.read (Elt F) f = X9⌝ ∗ (arg9.view.loc (c : Thread nD τ) ↦[arg9.view.set]{fullShare} f)) ∗ (∃ f, ⌜arg10.view.read (Elt F) f = X10⌝ ∗ (arg10.view.loc (c : Thread nD τ) ↦[arg10.view.set]{fullShare} f)) ∗ (∃ f, ⌜arg11.view.read (Elt F) f = Z11⌝ ∗ (arg11.view.loc (c : Thread nD τ) ↦[arg11.view.set]{fullShare} f)) ∗ (∃ f, ⌜arg12.view.read (Elt F) f = Z12⌝ ∗ (arg12.view.loc (c : Thread nD τ) ↦[arg12.view.set]{fullShare} f)) ∗ (∃ f, ⌜arg13.view.read (Elt F) f = Z13⌝ ∗ (arg13.view.loc (c : Thread nD τ) ↦[arg13.view.set]{fullShare} f)) ∗ (∃ f, ⌜arg14.view.read (Elt F) f = Z14⌝ ∗ (arg14.view.loc (c : Thread nD τ) ↦[arg14.view.set]{fullShare} f)) ∗ (∃ f, ⌜arg15.view.read (Elt F) f = Z15⌝ ∗ (arg15.view.loc (c : Thread nD τ) ↦[arg15.view.set]{fullShare} f)) ∗ (∃ f, ⌜arg16.view.read (Elt F) f = Z16⌝ ∗ (arg16.view.loc (c : Thread nD τ) ↦[arg16.view.set]{fullShare} f)) ∗ ⌜Z11 = k0_pay46 (F := F) ∧ Z12 = slotOf X2 X3 X4 (k0_pay46 (F := F)) ∧ Z13 = xgOf X2 X3 X4 (k0_pay46 (F := F)) ∧ Z14 = cwOf X2 X3 X4 (k0_pay46 (F := F)) ∧ Z16 = words F (gsel X2 X3 X4) (fun _ => 0#32) ∧ Z15 = yS (wd F (gsel X2 X3 X4) 0 (by decide)) (wd F (gsel X2 X3 X4) 4 (by decide)) i (xgOf X2 X3 X4 (k0_pay46 (F := F))) (cwOf X2 X3 X4 (k0_pay46 (F := F))) X5 X6 X7 (k0_pay48 (F := F))⌝) : sProp 𝕄) from by
    iintro ⟨%g11, %g12, %g13, %g14, %g15, %g16, H2, H3, H4, H5, H6, H7, H8, H9, H10, H11, H12, H13, H14, H15, H16, %hr⟩
    iexists arg11.view.read (Elt F) g11, arg12.view.read (Elt F) g12, arg13.view.read (Elt F) g13, arg14.view.read (Elt F) g14, arg15.view.read (Elt F) g15, arg16.view.read (Elt F) g16
    isplitl [H2]
    · iexists f2; isplitr
      · ipureintro; exact q2
      · iexact H2
    isplitl [H3]
    · iexists f3; isplitr
      · ipureintro; exact q3
      · iexact H3
    isplitl [H4]
    · iexists f4; isplitr
      · ipureintro; exact q4
      · iexact H4
    isplitl [H5]
    · iexists f5; isplitr
      · ipureintro; exact q5
      · iexact H5
    isplitl [H6]
    · iexists f6; isplitr
      · ipureintro; exact q6
      · iexact H6
    isplitl [H7]
    · iexists f7; isplitr
      · ipureintro; exact q7
      · iexact H7
    isplitl [H8]
    · iexists f8; isplitr
      · ipureintro; exact q8
      · iexact H8
    isplitl [H9]
    · iexists f9; isplitr
      · ipureintro; exact q9
      · iexact H9
    isplitl [H10]
    · iexists f10; isplitr
      · ipureintro; exact q10
      · iexact H10
    isplitl [H11]
    · iexists g11; isplitr
      · ipureintro; rfl
      · iexact H11
    isplitl [H12]
    · iexists g12; isplitr
      · ipureintro; rfl
      · iexact H12
    isplitl [H13]
    · iexists g13; isplitr
      · ipureintro; rfl
      · iexact H13
    isplitl [H14]
    · iexists g14; isplitr
      · ipureintro; rfl
      · iexact H14
    isplitl [H15]
    · iexists g15; isplitr
      · ipureintro; rfl
      · iexact H15
    isplitl [H16]
    · iexists g16; isplitr
      · ipureintro; rfl
      · iexact H16
    ipureintro
    obtain ⟨a1, a2, a3, a4, a5, a6⟩ := hr
    refine ⟨a1, a2, a3, a4, a5, a6.trans ?_⟩
    rw [yS_of, w0, w4, r2, r3, r4])))
  iapply hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Moe

end
-- ==== Proof.Moe.RunB.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.Loop
public import proofs.«01_k».proof.Proof.Moe.Words

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem runB (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
  (h2 : Scalar.cmpi .ne (Scalar.extui (Scalar.cmpi .eq (BitVec.ofNat 32 (i 1).val) 0#32) : BitVec 32) 0#32 = 1#1)
  (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (e1 : k0_off1 i = ![0]) (e2 : k0_off2 i = ![4]) (h6 : ¬ k0_cond6 i = 1#1)
  (hb : (0#32 : BitVec 32).toNat + (n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))).toNat ≤ 12) :
    iprop((arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (arg13.view.loc (c : Thread nD τ) ↦[arg13.view.set]{fullShare} f13 : sProp 𝕄) ∗ (arg14.view.loc (c : Thread nD τ) ↦[arg14.view.set]{fullShare} f14 : sProp 𝕄) ∗ (arg15.view.loc (c : Thread nD τ) ↦[arg15.view.set]{fullShare} f15 : sProp 𝕄) ∗ (arg16.view.loc (c : Thread nD τ) ↦[arg16.view.set]{fullShare} f16 : sProp 𝕄)) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (g11 : BufTy.Contents (Elt F) arg11.view.ty) (g12 : BufTy.Contents (Elt F) arg12.view.ty) (g13 : BufTy.Contents (Elt F) arg13.view.ty) (g14 : BufTy.Contents (Elt F) arg14.view.ty) (g15 : BufTy.Contents (Elt F) arg15.view.ty) (g16 : BufTy.Contents (Elt F) arg16.view.ty),
  (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} g11 : sProp 𝕄) ∗ (arg12.view.loc (c : Thread nD τ) ↦[arg12.view.set]{fullShare} g12 : sProp 𝕄) ∗ (arg13.view.loc (c : Thread nD τ) ↦[arg13.view.set]{fullShare} g13 : sProp 𝕄) ∗ (arg14.view.loc (c : Thread nD τ) ↦[arg14.view.set]{fullShare} g14 : sProp 𝕄) ∗ (arg15.view.loc (c : Thread nD τ) ↦[arg15.view.set]{fullShare} g15 : sProp 𝕄) ∗ (arg16.view.loc (c : Thread nD τ) ↦[arg16.view.set]{fullShare} g16 : sProp 𝕄) ∗ ⌜(arg11.view.read (Elt F) g11) = (arg11.view.read (Elt F) f11) ∧ (arg12.view.read (Elt F) g12) = slotOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) ∧ (arg13.view.read (Elt F) g13) = xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) ∧ (arg14.view.read (Elt F) g14) = cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)
     ∧ (arg16.view.read (Elt F) g16) = words F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) (fun _ => 0#32)
     ∧ (arg15.view.read (Elt F) g15) = yStep 0#32 (n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))) i (xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)) (cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)) (arg5.view.read (Elt F) f5) (arg6.view.read (Elt F) f6) (arg7.view.read (Elt F) f7) (chk_of hb) (k0_pay48 (F := F))⌝) : sProp 𝕄)) := by
  simp only [cc0_moe_layer_eq_skeleton]; unfold cc0_moe_layer_skel
  letI : ClosedOff (k0_off1 i) := ⟨![0], e1⟩
  letI : ClosedOff (k0_off2 i) := ⟨![4], e2⟩
  iintro ⟨H2, H3, H4, H5, H6, H7, H8, H9, H10, H11, H12, H13, H14, H15, H16⟩
  sl_exec
  have hL : ∀ f, arg16.view.read (Elt F) (arg16.view.writes (Elt F) f (runB.sl.H16_8 arg2 arg3 arg4 f2 f3 f4)) = words F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) (fun _ => 0#32) := fun f => by
    unfold runB.sl.H16_8
    exact read_words arg16.view f (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) _ _ _ _ _ _ _ _
  have q28 : runB.sl.r_25 i arg2 arg3 arg4 arg16 f2 f3 f4 = 0#32 :=
    (word_at arg16.view _ _ e1 (by decide) _).trans ((congrFun (hL _) _).trans (words_0 _ _ _ rfl))
  have q31 : runB.sl.r_26 i arg2 arg3 arg4 arg16 f2 f3 f4 = n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) :=
    (word_at arg16.view _ _ e2 (by decide) _).trans ((congrFun (hL _) _).trans (words_4 _ _ _ rfl))
  have hrank : (runB.sl.r_10 arg2 arg3 arg4 arg11 f2 f3 f4 f11) = rank (arg11.view.read (Elt F) f11) (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4)) :=
    congrArg (fun T => rank T (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))) (View.readAt_full arg11.view f11 _)
  have hslot : k0_pay35 (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4) = slotOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) := by rw [hrank]; rfl
  have hxg : k0_pay37 (runB.sl.r arg2 f2) (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4) = xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) := by rw [hrank]; rfl
  have hcw : k0_pay47 (runB.sl.r_23 arg2 arg3 arg4 arg11 f2 f3 f4 f11) (runB.sl.r_24 arg2 arg3 arg4 arg11 f2 f3 f4 f11) = cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) := by
    have e23 : (runB.sl.r_23 arg2 arg3 arg4 arg11 f2 f3 f4 f11) = k0_pay38 (runB.sl.r_3 arg2 arg3 arg4 f2 f3 f4) (runB.sl.r_8 arg2 arg3 arg4 f2 f3 f4) (runB.sl.r_9 arg2 arg3 arg4 f2 f3 f4) (runB.sl.r_10 arg2 arg3 arg4 arg11 f2 f3 f4 f11) (runB.sl.r_20 arg2 arg3 arg4 f2 f3 f4) (runB.sl.v273 arg2 arg3 arg4 f2 f3 f4) := rfl
    have e24 : (runB.sl.r_24 arg2 arg3 arg4 arg11 f2 f3 f4 f11) = k0_pay39 (runB.sl.r_3 arg2 arg3 arg4 f2 f3 f4) (runB.sl.r_8 arg2 arg3 arg4 f2 f3 f4) (runB.sl.r_9 arg2 arg3 arg4 f2 f3 f4) (runB.sl.r_10 arg2 arg3 arg4 arg11 f2 f3 f4 f11) (runB.sl.r_20 arg2 arg3 arg4 f2 f3 f4) (runB.sl.v273 arg2 arg3 arg4 f2 f3 f4) := rfl
    rw [e23, e24, hrank]; rfl
  generalize runB.sl.r_25 i arg2 arg3 arg4 arg16 f2 f3 f4 = v28 at q28 ⊢
  generalize runB.sl.r_26 i arg2 arg3 arg4 arg16 f2 f3 f4 = v31 at q31 ⊢
  have hb' := hb
  rw [← q28, ← q31] at hb'
  have hchk := chk_of hb'
  have hstep : yStep v28 v31 i (xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)) (cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)) (arg5.view.read (Elt F) f5) (arg6.view.read (Elt F) f6) (arg7.view.read (Elt F) f7) hchk (k0_pay48 (F := F))
      = yStep 0#32 (n0 F (gsel (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4))) i (xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)) (cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11)) (arg5.view.read (Elt F) f5) (arg6.view.read (Elt F) f6) (arg7.view.read (Elt F) f7) (chk_of hb) (k0_pay48 (F := F)) := by
    subst q28 q31; rfl
  have p13 : arg13.view.read (Elt F) (arg13.view.writes (Elt F) arg13.view.junk [⟨Rect.unit (s := S1536x1024) ![0, 0] S1536x1024.size inb_S1536x1024_S1536x1024_0_0, k0_pay37 (runB.sl.r arg2 f2) (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4)⟩]) = xgOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) := (View.read_writes_full arg13.view _ _ _ _).trans hxg
  have p14 : arg14.view.read (Elt F) (arg14.view.writes (Elt F) arg14.view.junk [⟨Rect.unit (s := S1536x128) ![0, 0] S1536x128.size inb_S1536x128_S1536x128_0_0, k0_pay47 (runB.sl.r_23 arg2 arg3 arg4 arg11 f2 f3 f4 f11) (runB.sl.r_24 arg2 arg3 arg4 arg11 f2 f3 f4 f11)⟩]) = cwOf (arg2.view.readAt (Elt F) (Rect.unit (s := S1024x1024) ![0, 0] S1024x1024.size inb_S1024x1024_S1024x1024_0_0).toLoadRect f2) (arg3.view.readAt (Elt F) (Rect.unit (s := S1024x128) ![0, 0] S1024x128.size inb_S1024x128_S1024x128_0_0).toLoadRect f3) (arg4.view.readAt (Elt F) (Rect.unit (s := S1x128) ![0, 0] S1x128.size inb_S1x128_S1x128_0_0).toLoadRect f4) (arg11.view.read (Elt F) f11) := (View.read_writes_full arg14.view _ _ _ _).trans hcw
  by_cases h3 : k0_cond3 v31 = 1#1
  · have h4 := cond4_of_cond3 hb' h3
    sl_exec
    sl_step
    iexists _, _, _, _, _, _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    refine ⟨rfl, (View.read_writes_full arg12.view _ _ _ _).trans hslot, (View.read_writes_full arg13.view _ _ _ _).trans hxg, (View.read_writes_full arg14.view _ _ _ _).trans hcw, hL _, ?_⟩
    rw [← hstep]
    unfold yStep; rw [dif_pos h3]; unfold yThree
    refine (View.read_writes_cons_put _ _ _ _ _ rfl).trans ?_
    rw [View.read_writes_full, ← p13, ← p14]
    refine congrArg (VecWindow.put _ _ _) ?_
    have hy : runB.sl.v106 arg15 v28 v31 hchk h3 = VecWindow.window (k0_pay48 (F := F)) (k0_off3 v28) S384x1024.size (k0_off3_inb v28 v31 hchk h3) :=
      (View.readAt_unit _ _ _ rfl _).trans (by rw [View.read_writes_full])
    rw [hy]
    rfl
  · have h4 := cond4_of_not hb' h3
    by_cases h5 : k0_cond5 v31 = 1#1
    · sl_exec
      sl_step
      iexists _, _, _, _, _, _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      refine ⟨rfl, (View.read_writes_full arg12.view _ _ _ _).trans hslot, (View.read_writes_full arg13.view _ _ _ _).trans hxg, (View.read_writes_full arg14.view _ _ _ _).trans hcw, hL _, ?_⟩
      rw [← hstep]
      have hl := loops_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runB.sl.v62 v31) hchk h4 f5 f6 f7 (arg13.view.writes (Elt F) arg13.view.junk [⟨Rect.unit (s := S1536x1024) ![0, 0] S1536x1024.size inb_S1536x1024_S1536x1024_0_0, k0_pay37 (runB.sl.r arg2 f2) (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4)⟩]) (arg14.view.writes (Elt F) arg14.view.junk [⟨Rect.unit (s := S1536x128) ![0, 0] S1536x128.size inb_S1536x128_S1536x128_0_0, k0_pay47 (runB.sl.r_23 arg2 arg3 arg4 arg11 f2 f3 f4 f11) (runB.sl.r_24 arg2 arg3 arg4 arg11 f2 f3 f4 f11)⟩]) arg15.view.junk (arg15.view.writes (Elt F) arg15.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 (arg13.view.writes (Elt F) arg13.view.junk [⟨Rect.unit (s := S1536x1024) ![0, 0] S1536x1024.size inb_S1536x1024_S1536x1024_0_0, k0_pay37 (runB.sl.r arg2 f2) (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4)⟩]) (arg14.view.writes (Elt F) arg14.view.junk [⟨Rect.unit (s := S1536x128) ![0, 0] S1536x128.size inb_S1536x128_S1536x128_0_0, k0_pay47 (runB.sl.r_23 arg2 arg3 arg4 arg11 f2 f3 f4 f11) (runB.sl.r_24 arg2 arg3 arg4 arg11 f2 f3 f4 f11)⟩]) (arg15.view.writes (Elt F) arg15.view.junk [⟨Rect.unit (s := S1536x1024) ![0, 0] S1536x1024.size inb_S1536x1024_S1536x1024_0_0, k0_pay48⟩]) (k0_t1_loop v31).trips ++ [⟨Rect.unit (s := S1536x1024) ![0, 0] S1536x1024.size inb_S1536x1024_S1536x1024_0_0, k0_pay48⟩])) [⟨Rect.unit (s := S1536x1024) ![0, 0] S1536x1024.size inb_S1536x1024_S1536x1024_0_0, k0_pay48⟩] (trips2_of hb')
      rw [p13, p14, View.read_writes_full] at hl
      unfold yStep; rw [dif_neg h3, dif_pos h4, dif_pos h5]; unfold yOne
      refine (View.read_writes_cons_put _ _ _ _ _ rfl).trans ?_
      rw [← hl, ← p13, ← p14]
      rfl
    · sl_exec
      sl_step
      iexists _, _, _, _, _, _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      refine ⟨rfl, (View.read_writes_full arg12.view _ _ _ _).trans hslot, (View.read_writes_full arg13.view _ _ _ _).trans hxg, (View.read_writes_full arg14.view _ _ _ _).trans hcw, hL _, ?_⟩
      rw [← hstep]
      have hl := loops_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runB.sl.v62_1 v31) hchk h4 f5 f6 f7 (arg13.view.writes (Elt F) arg13.view.junk [⟨Rect.unit (s := S1536x1024) ![0, 0] S1536x1024.size inb_S1536x1024_S1536x1024_0_0, k0_pay37 (runB.sl.r arg2 f2) (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4)⟩]) (arg14.view.writes (Elt F) arg14.view.junk [⟨Rect.unit (s := S1536x128) ![0, 0] S1536x128.size inb_S1536x128_S1536x128_0_0, k0_pay47 (runB.sl.r_23 arg2 arg3 arg4 arg11 f2 f3 f4 f11) (runB.sl.r_24 arg2 arg3 arg4 arg11 f2 f3 f4 f11)⟩]) arg15.view.junk (arg15.view.writes (Elt F) arg15.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 (arg13.view.writes (Elt F) arg13.view.junk [⟨Rect.unit (s := S1536x1024) ![0, 0] S1536x1024.size inb_S1536x1024_S1536x1024_0_0, k0_pay37 (runB.sl.r arg2 f2) (runB.sl.r_3 arg2 arg3 arg4 f2 f3 f4) (runB.sl.r_10 arg2 arg3 arg4 arg11 f2 f3 f4 f11) (runB.sl.r_20 arg2 arg3 arg4 f2 f3 f4) (runB.sl.v273 arg2 arg3 arg4 f2 f3 f4)⟩]) (arg14.view.writes (Elt F) arg14.view.junk [⟨Rect.unit (s := S1536x128) ![0, 0] S1536x128.size inb_S1536x128_S1536x128_0_0, k0_pay47 (runB.sl.r_23 arg2 arg3 arg4 arg11 f2 f3 f4 f11) (runB.sl.r_24 arg2 arg3 arg4 arg11 f2 f3 f4 f11)⟩]) (arg15.view.writes (Elt F) arg15.view.junk [⟨Rect.unit (s := S1536x1024) ![0, 0] S1536x1024.size inb_S1536x1024_S1536x1024_0_0, k0_pay48⟩]) (k0_t1_loop v31).trips ++ [⟨Rect.unit (s := S1536x1024) ![0, 0] S1536x1024.size inb_S1536x1024_S1536x1024_0_0, k0_pay48⟩])) [⟨Rect.unit (s := S1536x1024) ![0, 0] S1536x1024.size inb_S1536x1024_S1536x1024_0_0, k0_pay48⟩] (trips2_of hb')
      rw [p13, p14, View.read_writes_full] at hl
      unfold yStep; rw [dif_neg h3, dif_pos h4, dif_neg h5]
      exact hl

end Cert.Proof.Moe

end
-- ==== Proof.Moe.OwnB.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.OwnDefs
public import proofs.«01_k».proof.Proof.Moe.RunB

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem ownB (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (X2 : Vec F S1024x1024 .f32) (X3 : Vec F S1024x128 .f32) (X4 : Vec F S1x128 .f32) (X5 : Vec F S2x1024x512 .bf16) (X6 : Vec F S2x1024x512 .bf16) (X7 : Vec F S2x512x1024 .bf16) (X8 : Vec F S1x1024 .f32) (X9 : Vec F S1x1024 .f32) (X10 : Vec F S1024x1024 .f32) (X11 : Vec F S1024x1024 .bf16) (X12 : Vec F S1024x1 .f32) (X13 : Vec F S1536x1024 .bf16) (X14 : Vec F S1536x128 .f32) (X15 : Vec F S1536x1024 .f32) (X16 : Vec F S8 .i32)
  (h2 : Scalar.cmpi .ne (Scalar.extui (Scalar.cmpi .eq (BitVec.ofNat 32 (i 1).val) 0#32) : BitVec 32) 0#32 = 1#1)
  (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (e1 : k0_off1 i = ![0]) (e2 : k0_off2 i = ![4]) (h6 : ¬ k0_cond6 i = 1#1) (HB : Fits F (gsel X2 X3 X4)) (hT : X11 = k0_pay46 (F := F)) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (Z11 : Vec F S1024x1024 .bf16) (Z12 : Vec F S1024x1 .f32) (Z13 : Vec F S1536x1024 .bf16) (Z14 : Vec F S1536x128 .f32) (Z15 : Vec F S1536x1024 .f32) (Z16 : Vec F S8 .i32), owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare Z11 ∗ owns (c : Thread nD τ) arg12 fullShare Z12 ∗ owns (c : Thread nD τ) arg13 fullShare Z13 ∗ owns (c : Thread nD τ) arg14 fullShare Z14 ∗ owns (c : Thread nD τ) arg15 fullShare Z15 ∗ owns (c : Thread nD τ) arg16 fullShare Z16 ∗ ⌜Z11 = k0_pay46 (F := F) ∧ Z12 = slotOf X2 X3 X4 (k0_pay46 (F := F)) ∧ Z13 = xgOf X2 X3 X4 (k0_pay46 (F := F)) ∧ Z14 = cwOf X2 X3 X4 (k0_pay46 (F := F)) ∧ Z16 = words F (gsel X2 X3 X4) (fun _ => 0#32) ∧ Z15 = yS (wd F (gsel X2 X3 X4) 0 (by decide)) (wd F (gsel X2 X3 X4) 4 (by decide)) i (xgOf X2 X3 X4 (k0_pay46 (F := F))) (cwOf X2 X3 X4 (k0_pay46 (F := F))) X5 X6 X7 (k0_pay48 (F := F))⌝) : sProp 𝕄)) := by
  unfold owns
  iintro ⟨⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%f11, %q11, H11⟩, ⟨%f12, %q12, H12⟩, ⟨%f13, %q13, H13⟩, ⟨%f14, %q14, H14⟩, ⟨%f15, %q15, H15⟩, ⟨%f16, %q16, H16⟩⟩
  have r2 := (View.readAt_full arg2.view f2 inb_S1024x1024_S1024x1024_0_0).trans q2
  have r3 := (View.readAt_full arg3.view f3 inb_S1024x128_S1024x128_0_0).trans q3
  have r4 := (View.readAt_full arg4.view f4 inb_S1x128_S1x128_0_0).trans q4
  have w0 : wd F (gsel X2 X3 X4) 0 (by decide) = 0#32 := words_0 _ _ _ rfl
  have w4 : wd F (gsel X2 X3 X4) 4 (by decide) = n0 F (gsel X2 X3 X4) := words_4 _ _ _ rfl
  have hb : (0#32).toNat + (n0 F (gsel X2 X3 X4)).toNat ≤ 12 := by
    have := HB 0 (by decide); rw [← w0, ← w4]; exact this
  have hrun := runB c E i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 h2 h1 e1 e2 h6 (by rw [r2, r3, r4]; exact hb)
  simp only [r2, r3, r4, q5, q6, q7, q11, hT] at hrun
  have hk := hrun.trans (wp_mono frame (wpE (defs₀ (F := F)) Variants.none c none) E (fun _ => (show _ ⊢ (iprop(∃ (Z11 : Vec F S1024x1024 .bf16) (Z12 : Vec F S1024x1 .f32) (Z13 : Vec F S1536x1024 .bf16) (Z14 : Vec F S1536x128 .f32) (Z15 : Vec F S1536x1024 .f32) (Z16 : Vec F S8 .i32), (∃ f, ⌜arg2.view.read (Elt F) f = X2⌝ ∗ (arg2.view.loc (c : Thread nD τ) ↦[arg2.view.set]{fullShare} f)) ∗ (∃ f, ⌜arg3.view.read (Elt F) f = X3⌝ ∗ (arg3.view.loc (c : Thread nD τ) ↦[arg3.view.set]{fullShare} f)) ∗ (∃ f, ⌜arg4.view.read (Elt F) f = X4⌝ ∗ (arg4.view.loc (c : Thread nD τ) ↦[arg4.view.set]{fullShare} f)) ∗ (∃ f, ⌜arg5.view.read (Elt F) f = X5⌝ ∗ (arg5.view.loc (c : Thread nD τ) ↦[arg5.view.set]{fullShare} f)) ∗ (∃ f, ⌜arg6.view.read (Elt F) f = X6⌝ ∗ (arg6.view.loc (c : Thread nD τ) ↦[arg6.view.set]{fullShare} f)) ∗ (∃ f, ⌜arg7.view.read (Elt F) f = X7⌝ ∗ (arg7.view.loc (c : Thread nD τ) ↦[arg7.view.set]{fullShare} f)) ∗ (∃ f, ⌜arg8.view.read (Elt F) f = X8⌝ ∗ (arg8.view.loc (c : Thread nD τ) ↦[arg8.view.set]{fullShare} f)) ∗ (∃ f, ⌜arg9.view.read (Elt F) f = X9⌝ ∗ (arg9.view.loc (c : Thread nD τ) ↦[arg9.view.set]{fullShare} f)) ∗ (∃ f, ⌜arg10.view.read (Elt F) f = X10⌝ ∗ (arg10.view.loc (c : Thread nD τ) ↦[arg10.view.set]{fullShare} f)) ∗ (∃ f, ⌜arg11.view.read (Elt F) f = Z11⌝ ∗ (arg11.view.loc (c : Thread nD τ) ↦[arg11.view.set]{fullShare} f)) ∗ (∃ f, ⌜arg12.view.read (Elt F) f = Z12⌝ ∗ (arg12.view.loc (c : Thread nD τ) ↦[arg12.view.set]{fullShare} f)) ∗ (∃ f, ⌜arg13.view.read (Elt F) f = Z13⌝ ∗ (arg13.view.loc (c : Thread nD τ) ↦[arg13.view.set]{fullShare} f)) ∗ (∃ f, ⌜arg14.view.read (Elt F) f = Z14⌝ ∗ (arg14.view.loc (c : Thread nD τ) ↦[arg14.view.set]{fullShare} f)) ∗ (∃ f, ⌜arg15.view.read (Elt F) f = Z15⌝ ∗ (arg15.view.loc (c : Thread nD τ) ↦[arg15.view.set]{fullShare} f)) ∗ (∃ f, ⌜arg16.view.read (Elt F) f = Z16⌝ ∗ (arg16.view.loc (c : Thread nD τ) ↦[arg16.view.set]{fullShare} f)) ∗ ⌜Z11 = k0_pay46 (F := F) ∧ Z12 = slotOf X2 X3 X4 (k0_pay46 (F := F)) ∧ Z13 = xgOf X2 X3 X4 (k0_pay46 (F := F)) ∧ Z14 = cwOf X2 X3 X4 (k0_pay46 (F := F)) ∧ Z16 = words F (gsel X2 X3 X4) (fun _ => 0#32) ∧ Z15 = yS (wd F (gsel X2 X3 X4) 0 (by decide)) (wd F (gsel X2 X3 X4) 4 (by decide)) i (xgOf X2 X3 X4 (k0_pay46 (F := F))) (cwOf X2 X3 X4 (k0_pay46 (F := F))) X5 X6 X7 (k0_pay48 (F := F))⌝) : sProp 𝕄) from by
    iintro ⟨%g11, %g12, %g13, %g14, %g15, %g16, H2, H3, H4, H5, H6, H7, H8, H9, H10, H11, H12, H13, H14, H15, H16, %hr⟩
    iexists arg11.view.read (Elt F) g11, arg12.view.read (Elt F) g12, arg13.view.read (Elt F) g13, arg14.view.read (Elt F) g14, arg15.view.read (Elt F) g15, arg16.view.read (Elt F) g16
    isplitl [H2]
    · iexists f2; isplitr
      · ipureintro; exact q2
      · iexact H2
    isplitl [H3]
    · iexists f3; isplitr
      · ipureintro; exact q3
      · iexact H3
    isplitl [H4]
    · iexists f4; isplitr
      · ipureintro; exact q4
      · iexact H4
    isplitl [H5]
    · iexists f5; isplitr
      · ipureintro; exact q5
      · iexact H5
    isplitl [H6]
    · iexists f6; isplitr
      · ipureintro; exact q6
      · iexact H6
    isplitl [H7]
    · iexists f7; isplitr
      · ipureintro; exact q7
      · iexact H7
    isplitl [H8]
    · iexists f8; isplitr
      · ipureintro; exact q8
      · iexact H8
    isplitl [H9]
    · iexists f9; isplitr
      · ipureintro; exact q9
      · iexact H9
    isplitl [H10]
    · iexists f10; isplitr
      · ipureintro; exact q10
      · iexact H10
    isplitl [H11]
    · iexists g11; isplitr
      · ipureintro; rfl
      · iexact H11
    isplitl [H12]
    · iexists g12; isplitr
      · ipureintro; rfl
      · iexact H12
    isplitl [H13]
    · iexists g13; isplitr
      · ipureintro; rfl
      · iexact H13
    isplitl [H14]
    · iexists g14; isplitr
      · ipureintro; rfl
      · iexact H14
    isplitl [H15]
    · iexists g15; isplitr
      · ipureintro; rfl
      · iexact H15
    isplitl [H16]
    · iexists g16; isplitr
      · ipureintro; rfl
      · iexact H16
    ipureintro
    obtain ⟨a1, a2, a3, a4, a5, a6⟩ := hr
    refine ⟨a1, a2, a3, a4, a5, a6.trans ?_⟩
    rw [yS_of, w0, w4, r2, r3, r4])))
  iapply hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Moe

end
-- ==== Proof.Moe.RunC.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.Loop
public import proofs.«01_k».proof.Proof.Moe.Words

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem runC (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
  (h2 : ¬ Scalar.cmpi .ne (Scalar.extui (Scalar.cmpi .eq (BitVec.ofNat 32 (i 1).val) 0#32) : BitVec 32) 0#32 = 1#1)
  (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (p q : ℕ) (hp : p < 8) (hq : q < 8) (e1 : k0_off1 i = ![p]) (e2 : k0_off2 i = ![q]) (h6 : ¬ k0_cond6 i = 1#1)
  (hb : ((arg16.view.read (Elt F) f16) (at8 p hp)).toNat + ((arg16.view.read (Elt F) f16) (at8 q hq)).toNat ≤ 12) :
    iprop((arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (arg13.view.loc (c : Thread nD τ) ↦[arg13.view.set]{fullShare} f13 : sProp 𝕄) ∗ (arg14.view.loc (c : Thread nD τ) ↦[arg14.view.set]{fullShare} f14 : sProp 𝕄) ∗ (arg15.view.loc (c : Thread nD τ) ↦[arg15.view.set]{fullShare} f15 : sProp 𝕄) ∗ (arg16.view.loc (c : Thread nD τ) ↦[arg16.view.set]{fullShare} f16 : sProp 𝕄)) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (g15 : BufTy.Contents (Elt F) arg15.view.ty),
  (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (arg13.view.loc (c : Thread nD τ) ↦[arg13.view.set]{fullShare} f13 : sProp 𝕄) ∗ (arg14.view.loc (c : Thread nD τ) ↦[arg14.view.set]{fullShare} f14 : sProp 𝕄) ∗ (arg15.view.loc (c : Thread nD τ) ↦[arg15.view.set]{fullShare} g15 : sProp 𝕄) ∗ (arg16.view.loc (c : Thread nD τ) ↦[arg16.view.set]{fullShare} f16 : sProp 𝕄) ∗ ⌜(arg15.view.read (Elt F) g15) = yStep ((arg16.view.read (Elt F) f16) (at8 p hp)) ((arg16.view.read (Elt F) f16) (at8 q hq)) i (arg13.view.read (Elt F) f13) (arg14.view.read (Elt F) f14) (arg5.view.read (Elt F) f5) (arg6.view.read (Elt F) f6) (arg7.view.read (Elt F) f7) (chk_of hb) (arg15.view.read (Elt F) f15)⌝) : sProp 𝕄)) := by
  simp only [cc0_moe_layer_eq_skeleton]; unfold cc0_moe_layer_skel
  letI : ClosedOff (k0_off1 i) := ⟨![p], e1⟩
  letI : ClosedOff (k0_off2 i) := ⟨![q], e2⟩
  iintro ⟨H2, H3, H4, H5, H6, H7, H8, H9, H10, H11, H12, H13, H14, H15, H16⟩
  sl_exec
  have q28 : runC.sl.r i arg16 f16 = ((arg16.view.read (Elt F) f16) (at8 p hp)) := word_at arg16.view _ _ e1 hp _
  have q31 : runC.sl.r_1 i arg16 f16 = ((arg16.view.read (Elt F) f16) (at8 q hq)) := word_at arg16.view _ _ e2 hq _
  generalize runC.sl.r i arg16 f16 = v28 at q28 ⊢
  generalize runC.sl.r_1 i arg16 f16 = v31 at q31 ⊢
  have hb' := hb
  rw [← q28, ← q31] at hb'
  have hchk := chk_of hb'
  have hstep : yStep v28 v31 i (arg13.view.read (Elt F) f13) (arg14.view.read (Elt F) f14) (arg5.view.read (Elt F) f5) (arg6.view.read (Elt F) f6) (arg7.view.read (Elt F) f7) hchk (arg15.view.read (Elt F) f15) = yStep ((arg16.view.read (Elt F) f16) (at8 p hp)) ((arg16.view.read (Elt F) f16) (at8 q hq)) i (arg13.view.read (Elt F) f13) (arg14.view.read (Elt F) f14) (arg5.view.read (Elt F) f5) (arg6.view.read (Elt F) f6) (arg7.view.read (Elt F) f7) (chk_of hb) (arg15.view.read (Elt F) f15) := by
    subst q28 q31; rfl
  by_cases h3 : k0_cond3 v31 = 1#1
  · have h4 := cond4_of_cond3 hb' h3
    sl_exec
    sl_step
    iexists _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    rw [← hstep]
    unfold yStep; rw [dif_pos h3]; unfold yThree
    exact View.read_writes_cons_put _ _ _ _ _ rfl
  · have h4 := cond4_of_not hb' h3
    by_cases h5 : k0_cond5 v31 = 1#1
    · sl_exec
      sl_step
      iexists _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      rw [← hstep]
      have hl := loops_eq0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runC.sl.v62 v31) hchk h4 f5 f6 f7 f13 f14 f15 (arg15.view.writes (Elt F) f15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 f13 f14 f15 (k0_t1_loop v31).trips)) (trips2_of hb')
      unfold yStep; rw [dif_neg h3, dif_pos h4, dif_pos h5]; unfold yOne
      refine (View.read_writes_cons_put _ _ _ _ _ rfl).trans ?_
      rw [← hl]
      rfl
    · sl_exec
      sl_step
      iexists _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      rw [← hstep]
      have hl := loops_eq0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runC.sl.v62_1 v31) hchk h4 f5 f6 f7 f13 f14 f15 (arg15.view.writes (Elt F) f15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 f13 f14 f15 (k0_t1_loop v31).trips)) (trips2_of hb')
      unfold yStep; rw [dif_neg h3, dif_pos h4, dif_neg h5]
      exact hl

end Cert.Proof.Moe

end
-- ==== Proof.Moe.OwnC.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.OwnDefs
public import proofs.«01_k».proof.Proof.Moe.RunC

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem ownC (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (X2 : Vec F S1024x1024 .f32) (X3 : Vec F S1024x128 .f32) (X4 : Vec F S1x128 .f32) (X5 : Vec F S2x1024x512 .bf16) (X6 : Vec F S2x1024x512 .bf16) (X7 : Vec F S2x512x1024 .bf16) (X8 : Vec F S1x1024 .f32) (X9 : Vec F S1x1024 .f32) (X10 : Vec F S1024x1024 .f32) (X11 : Vec F S1024x1024 .bf16) (X12 : Vec F S1024x1 .f32) (X13 : Vec F S1536x1024 .bf16) (X14 : Vec F S1536x128 .f32) (X15 : Vec F S1536x1024 .f32) (X16 : Vec F S8 .i32)
  (h2 : ¬ Scalar.cmpi .ne (Scalar.extui (Scalar.cmpi .eq (BitVec.ofNat 32 (i 1).val) 0#32) : BitVec 32) 0#32 = 1#1)
  (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (p q : ℕ) (hp : p < 8) (hq : q < 8) (e1 : k0_off1 i = ![p]) (e2 : k0_off2 i = ![q]) (h6 : ¬ k0_cond6 i = 1#1)
  (g : IVec S1024x1 32) (hW : X16 = words F g (fun _ => 0#32)) (hb : (wd F g p hp).toNat + (wd F g q hq).toNat ≤ 12) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (Z15 : Vec F S1536x1024 .f32), owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare Z15 ∗ owns (c : Thread nD τ) arg16 fullShare X16 ∗ ⌜Z15 = yS (wd F g p hp) (wd F g q hq) i X13 X14 X5 X6 X7 X15⌝) : sProp 𝕄)) := by
  unfold owns
  iintro ⟨⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%f11, %q11, H11⟩, ⟨%f12, %q12, H12⟩, ⟨%f13, %q13, H13⟩, ⟨%f14, %q14, H14⟩, ⟨%f15, %q15, H15⟩, ⟨%f16, %q16, H16⟩⟩
  have qp : arg16.view.read (Elt F) f16 (at8 p hp) = wd F g p hp := by rw [q16, hW]; rfl
  have qq : arg16.view.read (Elt F) f16 (at8 q hq) = wd F g q hq := by rw [q16, hW]; rfl
  have hrun := runC c E i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 h2 h1 p q hp hq e1 e2 h6 (by rw [qp, qq]; exact hb)
  simp only [q5, q6, q7, q13, q14, q15, qp, qq] at hrun
  have hk := hrun.trans (wp_mono frame (wpE (defs₀ (F := F)) Variants.none c none) E (fun _ => (show _ ⊢ (iprop(∃ (Z15 : Vec F S1536x1024 .f32), (∃ f, ⌜arg2.view.read (Elt F) f = X2⌝ ∗ (arg2.view.loc (c : Thread nD τ) ↦[arg2.view.set]{fullShare} f)) ∗ (∃ f, ⌜arg3.view.read (Elt F) f = X3⌝ ∗ (arg3.view.loc (c : Thread nD τ) ↦[arg3.view.set]{fullShare} f)) ∗ (∃ f, ⌜arg4.view.read (Elt F) f = X4⌝ ∗ (arg4.view.loc (c : Thread nD τ) ↦[arg4.view.set]{fullShare} f)) ∗ (∃ f, ⌜arg5.view.read (Elt F) f = X5⌝ ∗ (arg5.view.loc (c : Thread nD τ) ↦[arg5.view.set]{fullShare} f)) ∗ (∃ f, ⌜arg6.view.read (Elt F) f = X6⌝ ∗ (arg6.view.loc (c : Thread nD τ) ↦[arg6.view.set]{fullShare} f)) ∗ (∃ f, ⌜arg7.view.read (Elt F) f = X7⌝ ∗ (arg7.view.loc (c : Thread nD τ) ↦[arg7.view.set]{fullShare} f)) ∗ (∃ f, ⌜arg8.view.read (Elt F) f = X8⌝ ∗ (arg8.view.loc (c : Thread nD τ) ↦[arg8.view.set]{fullShare} f)) ∗ (∃ f, ⌜arg9.view.read (Elt F) f = X9⌝ ∗ (arg9.view.loc (c : Thread nD τ) ↦[arg9.view.set]{fullShare} f)) ∗ (∃ f, ⌜arg10.view.read (Elt F) f = X10⌝ ∗ (arg10.view.loc (c : Thread nD τ) ↦[arg10.view.set]{fullShare} f)) ∗ (∃ f, ⌜arg11.view.read (Elt F) f = X11⌝ ∗ (arg11.view.loc (c : Thread nD τ) ↦[arg11.view.set]{fullShare} f)) ∗ (∃ f, ⌜arg12.view.read (Elt F) f = X12⌝ ∗ (arg12.view.loc (c : Thread nD τ) ↦[arg12.view.set]{fullShare} f)) ∗ (∃ f, ⌜arg13.view.read (Elt F) f = X13⌝ ∗ (arg13.view.loc (c : Thread nD τ) ↦[arg13.view.set]{fullShare} f)) ∗ (∃ f, ⌜arg14.view.read (Elt F) f = X14⌝ ∗ (arg14.view.loc (c : Thread nD τ) ↦[arg14.view.set]{fullShare} f)) ∗ (∃ f, ⌜arg15.view.read (Elt F) f = Z15⌝ ∗ (arg15.view.loc (c : Thread nD τ) ↦[arg15.view.set]{fullShare} f)) ∗ (∃ f, ⌜arg16.view.read (Elt F) f = X16⌝ ∗ (arg16.view.loc (c : Thread nD τ) ↦[arg16.view.set]{fullShare} f)) ∗ ⌜Z15 = yS (wd F g p hp) (wd F g q hq) i X13 X14 X5 X6 X7 X15⌝) : sProp 𝕄) from by
    iintro ⟨%g15, H2, H3, H4, H5, H6, H7, H8, H9, H10, H11, H12, H13, H14, H15, H16, %hr⟩
    iexists arg15.view.read (Elt F) g15
    isplitl [H2]
    · iexists f2; isplitr
      · ipureintro; exact q2
      · iexact H2
    isplitl [H3]
    · iexists f3; isplitr
      · ipureintro; exact q3
      · iexact H3
    isplitl [H4]
    · iexists f4; isplitr
      · ipureintro; exact q4
      · iexact H4
    isplitl [H5]
    · iexists f5; isplitr
      · ipureintro; exact q5
      · iexact H5
    isplitl [H6]
    · iexists f6; isplitr
      · ipureintro; exact q6
      · iexact H6
    isplitl [H7]
    · iexists f7; isplitr
      · ipureintro; exact q7
      · iexact H7
    isplitl [H8]
    · iexists f8; isplitr
      · ipureintro; exact q8
      · iexact H8
    isplitl [H9]
    · iexists f9; isplitr
      · ipureintro; exact q9
      · iexact H9
    isplitl [H10]
    · iexists f10; isplitr
      · ipureintro; exact q10
      · iexact H10
    isplitl [H11]
    · iexists f11; isplitr
      · ipureintro; exact q11
      · iexact H11
    isplitl [H12]
    · iexists f12; isplitr
      · ipureintro; exact q12
      · iexact H12
    isplitl [H13]
    · iexists f13; isplitr
      · ipureintro; exact q13
      · iexact H13
    isplitl [H14]
    · iexists f14; isplitr
      · ipureintro; exact q14
      · iexact H14
    isplitl [H15]
    · iexists g15; isplitr
      · ipureintro; rfl
      · iexact H15
    isplitl [H16]
    · iexists f16; isplitr
      · ipureintro; exact q16
      · iexact H16
    ipureintro
    refine hr.trans ?_
    rw [yS_of, qp, qq])))
  iapply hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Moe

end
-- ==== Proof.Moe.RunD.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.Loop
public import proofs.«01_k».proof.Proof.Moe.Words

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The rows and the block written from them. -/
theorem out_of {β : Type} {sp : Space} (v : View sig .tc sp S1536x1024 .f32) (f : v.ty.Contents (Elt F)) {Y : Vec F S1536x1024 .f32}
    (h : v.read (Elt F) f = Y) (o : β) (g : Vec F S1536x1024 .f32 → β) (ho : o = g (v.read (Elt F) f)) : o = g Y ∧ v.read (Elt F) f = Y :=
  ⟨by rw [ho, h], h⟩

set_option maxHeartbeats 800000 in
theorem runD (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
  (h2 : ¬ Scalar.cmpi .ne (Scalar.extui (Scalar.cmpi .eq (BitVec.ofNat 32 (i 1).val) 0#32) : BitVec 32) 0#32 = 1#1)
  (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (p q : ℕ) (hp : p < 8) (hq : q < 8) (e1 : k0_off1 i = ![p]) (e2 : k0_off2 i = ![q]) (h6 : k0_cond6 i = 1#1)
  (hb : ((arg16.view.read (Elt F) f16) (at8 p hp)).toNat + ((arg16.view.read (Elt F) f16) (at8 q hq)).toNat ≤ 12) :
    iprop((arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} f10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (arg13.view.loc (c : Thread nD τ) ↦[arg13.view.set]{fullShare} f13 : sProp 𝕄) ∗ (arg14.view.loc (c : Thread nD τ) ↦[arg14.view.set]{fullShare} f14 : sProp 𝕄) ∗ (arg15.view.loc (c : Thread nD τ) ↦[arg15.view.set]{fullShare} f15 : sProp 𝕄) ∗ (arg16.view.loc (c : Thread nD τ) ↦[arg16.view.set]{fullShare} f16 : sProp 𝕄)) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (g10 : BufTy.Contents (Elt F) arg10.view.ty) (g15 : BufTy.Contents (Elt F) arg15.view.ty),
  (arg2.view.loc (c : Thread nD τ) ↦[arg2.view.set]{fullShare} f2 : sProp 𝕄) ∗ (arg3.view.loc (c : Thread nD τ) ↦[arg3.view.set]{fullShare} f3 : sProp 𝕄) ∗ (arg4.view.loc (c : Thread nD τ) ↦[arg4.view.set]{fullShare} f4 : sProp 𝕄) ∗ (arg5.view.loc (c : Thread nD τ) ↦[arg5.view.set]{fullShare} f5 : sProp 𝕄) ∗ (arg6.view.loc (c : Thread nD τ) ↦[arg6.view.set]{fullShare} f6 : sProp 𝕄) ∗ (arg7.view.loc (c : Thread nD τ) ↦[arg7.view.set]{fullShare} f7 : sProp 𝕄) ∗ (arg8.view.loc (c : Thread nD τ) ↦[arg8.view.set]{fullShare} f8 : sProp 𝕄) ∗ (arg9.view.loc (c : Thread nD τ) ↦[arg9.view.set]{fullShare} f9 : sProp 𝕄) ∗ (arg10.view.loc (c : Thread nD τ) ↦[arg10.view.set]{fullShare} g10 : sProp 𝕄) ∗ (arg11.view.loc (c : Thread nD τ) ↦[arg11.view.set]{fullShare} f11 : sProp 𝕄) ∗ (arg12.view.loc (c : Thread nD τ) ↦[arg12.view.set]{fullShare} f12 : sProp 𝕄) ∗ (arg13.view.loc (c : Thread nD τ) ↦[arg13.view.set]{fullShare} f13 : sProp 𝕄) ∗ (arg14.view.loc (c : Thread nD τ) ↦[arg14.view.set]{fullShare} f14 : sProp 𝕄) ∗ (arg15.view.loc (c : Thread nD τ) ↦[arg15.view.set]{fullShare} g15 : sProp 𝕄) ∗ (arg16.view.loc (c : Thread nD τ) ↦[arg16.view.set]{fullShare} f16 : sProp 𝕄) ∗ ⌜(arg10.view.read (Elt F) g10) = k0_pay45 (arg12.view.read (Elt F) f12) (yStep ((arg16.view.read (Elt F) f16) (at8 p hp)) ((arg16.view.read (Elt F) f16) (at8 q hq)) i (arg13.view.read (Elt F) f13) (arg14.view.read (Elt F) f14) (arg5.view.read (Elt F) f5) (arg6.view.read (Elt F) f6) (arg7.view.read (Elt F) f7) (chk_of hb) (arg15.view.read (Elt F) f15)) (arg2.view.read (Elt F) f2) (arg8.view.read (Elt F) f8) (arg9.view.read (Elt F) f9) ∧ (arg15.view.read (Elt F) g15) = yStep ((arg16.view.read (Elt F) f16) (at8 p hp)) ((arg16.view.read (Elt F) f16) (at8 q hq)) i (arg13.view.read (Elt F) f13) (arg14.view.read (Elt F) f14) (arg5.view.read (Elt F) f5) (arg6.view.read (Elt F) f6) (arg7.view.read (Elt F) f7) (chk_of hb) (arg15.view.read (Elt F) f15)⌝) : sProp 𝕄)) := by
  simp only [cc0_moe_layer_eq_skeleton]; unfold cc0_moe_layer_skel
  letI : ClosedOff (k0_off1 i) := ⟨![p], e1⟩
  letI : ClosedOff (k0_off2 i) := ⟨![q], e2⟩
  iintro ⟨H2, H3, H4, H5, H6, H7, H8, H9, H10, H11, H12, H13, H14, H15, H16⟩
  sl_exec
  have q28 : runD.sl.r i arg16 f16 = ((arg16.view.read (Elt F) f16) (at8 p hp)) := word_at arg16.view _ _ e1 hp _
  have q31 : runD.sl.r_1 i arg16 f16 = ((arg16.view.read (Elt F) f16) (at8 q hq)) := word_at arg16.view _ _ e2 hq _
  generalize runD.sl.r i arg16 f16 = v28 at q28 ⊢
  generalize runD.sl.r_1 i arg16 f16 = v31 at q31 ⊢
  have hb' := hb
  rw [← q28, ← q31] at hb'
  have hchk := chk_of hb'
  have hstep : yStep v28 v31 i (arg13.view.read (Elt F) f13) (arg14.view.read (Elt F) f14) (arg5.view.read (Elt F) f5) (arg6.view.read (Elt F) f6) (arg7.view.read (Elt F) f7) hchk (arg15.view.read (Elt F) f15) = yStep ((arg16.view.read (Elt F) f16) (at8 p hp)) ((arg16.view.read (Elt F) f16) (at8 q hq)) i (arg13.view.read (Elt F) f13) (arg14.view.read (Elt F) f14) (arg5.view.read (Elt F) f5) (arg6.view.read (Elt F) f6) (arg7.view.read (Elt F) f7) (chk_of hb) (arg15.view.read (Elt F) f15) := by
    subst q28 q31; rfl
  by_cases h3 : k0_cond3 v31 = 1#1
  · have h4 := cond4_of_cond3 hb' h3
    sl_exec
    sl_step
    iexists _, _
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    rw [← hstep]
    refine out_of arg15.view _ ?_ _ (fun Y => k0_pay45 (arg12.view.read (Elt F) f12) Y (arg2.view.read (Elt F) f2) (arg8.view.read (Elt F) f8) (arg9.view.read (Elt F) f9)) ?_
    · unfold yStep; rw [dif_pos h3]; unfold yThree
      exact View.read_writes_cons_put _ _ _ _ _ rfl
    · refine (View.read_writes_full arg10.view _ _ _ _).trans ?_
      rw [← View.readAt_full arg12.view f12 inb_S1024x1_S1024x1_0_0, ← View.readAt_full arg2.view f2 inb_S1024x1024_S1024x1024_0_0, ← View.readAt_full arg8.view f8 inb_S1x1024_S1x1024_0_0, ← View.readAt_full arg9.view f9 inb_S1x1024_S1x1024_0_0, ← View.readAt_full arg15.view _ inb_S1536x1024_S1536x1024_0_0]
      rfl

  · have h4 := cond4_of_not hb' h3
    by_cases h5 : k0_cond5 v31 = 1#1
    · sl_exec
      sl_step
      iexists _, _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      rw [← hstep]
      refine out_of arg15.view _ ?_ _ (fun Y => k0_pay45 (arg12.view.read (Elt F) f12) Y (arg2.view.read (Elt F) f2) (arg8.view.read (Elt F) f8) (arg9.view.read (Elt F) f9)) ?_
      · have hl := loops_eq0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runD.sl.v62 v31) hchk h4 f5 f6 f7 f13 f14 f15 (arg15.view.writes (Elt F) f15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 f13 f14 f15 (k0_t1_loop v31).trips)) (trips2_of hb')
        unfold yStep; rw [dif_neg h3, dif_pos h4, dif_pos h5]; unfold yOne
        refine (View.read_writes_cons_put _ _ _ _ _ rfl).trans ?_
        rw [← hl]
        rfl
      · refine (View.read_writes_full arg10.view _ _ _ _).trans ?_
        rw [← View.readAt_full arg12.view f12 inb_S1024x1_S1024x1_0_0, ← View.readAt_full arg2.view f2 inb_S1024x1024_S1024x1024_0_0, ← View.readAt_full arg8.view f8 inb_S1x1024_S1x1024_0_0, ← View.readAt_full arg9.view f9 inb_S1x1024_S1x1024_0_0, ← View.readAt_full arg15.view _ inb_S1536x1024_S1536x1024_0_0]
        rfl

    · sl_exec
      sl_step
      iexists _, _
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      ipureintro
      rw [← hstep]
      refine out_of arg15.view _ ?_ _ (fun Y => k0_pay45 (arg12.view.read (Elt F) f12) Y (arg2.view.read (Elt F) f2) (arg8.view.read (Elt F) f8) (arg9.view.read (Elt F) f9)) ?_
      · have hl := loops_eq0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 (runD.sl.v62_1 v31) hchk h4 f5 f6 f7 f13 f14 f15 (arg15.view.writes (Elt F) f15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.muli (BitVec.ofNat 32 (i 1).val) 2#32) v28 v31 hchk h4 f5 f6 f7 f13 f14 f15 (k0_t1_loop v31).trips)) (trips2_of hb')
        unfold yStep; rw [dif_neg h3, dif_pos h4, dif_neg h5]
        exact hl
      · refine (View.read_writes_full arg10.view _ _ _ _).trans ?_
        rw [← View.readAt_full arg12.view f12 inb_S1024x1_S1024x1_0_0, ← View.readAt_full arg2.view f2 inb_S1024x1024_S1024x1024_0_0, ← View.readAt_full arg8.view f8 inb_S1x1024_S1x1024_0_0, ← View.readAt_full arg9.view f9 inb_S1x1024_S1x1024_0_0, ← View.readAt_full arg15.view _ inb_S1536x1024_S1536x1024_0_0]
        rfl

end Cert.Proof.Moe

end
-- ==== Proof.Moe.OwnD.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.OwnDefs
public import proofs.«01_k».proof.Proof.Moe.RunD

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 800000 in
theorem ownD (c : Dev nD) (E : Set ℕ) (i : grid0.Coords) (arg2 : Memref sig .tc .vmem S1024x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S2x1024x512 .bf16) (harg5 : arg5.IsWhole) (arg6 : Memref sig .tc .vmem S2x1024x512 .bf16) (harg6 : arg6.IsWhole) (arg7 : Memref sig .tc .vmem S2x512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1 .f32) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .f32) (harg15 : arg15.IsWhole) (arg16 : Memref sig .tc .smem S8 .i32) (harg16 : arg16.IsWhole) (X2 : Vec F S1024x1024 .f32) (X3 : Vec F S1024x128 .f32) (X4 : Vec F S1x128 .f32) (X5 : Vec F S2x1024x512 .bf16) (X6 : Vec F S2x1024x512 .bf16) (X7 : Vec F S2x512x1024 .bf16) (X8 : Vec F S1x1024 .f32) (X9 : Vec F S1x1024 .f32) (X10 : Vec F S1024x1024 .f32) (X11 : Vec F S1024x1024 .bf16) (X12 : Vec F S1024x1 .f32) (X13 : Vec F S1536x1024 .bf16) (X14 : Vec F S1536x128 .f32) (X15 : Vec F S1536x1024 .f32) (X16 : Vec F S8 .i32)
  (h2 : ¬ Scalar.cmpi .ne (Scalar.extui (Scalar.cmpi .eq (BitVec.ofNat 32 (i 1).val) 0#32) : BitVec 32) 0#32 = 1#1)
  (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
  (p q : ℕ) (hp : p < 8) (hq : q < 8) (e1 : k0_off1 i = ![p]) (e2 : k0_off2 i = ![q]) (h6 : k0_cond6 i = 1#1)
  (g : IVec S1024x1 32) (hW : X16 = words F g (fun _ => 0#32)) (hb : (wd F g p hp).toNat + (wd F g q hq).toNat ≤ 12) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16) ⊢ wp frame (wpE (defs₀ (F := F)) Variants.none c none) E (cc0_moe_layer i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => (iprop(∃ (Z10 : Vec F S1024x1024 .f32) (Z15 : Vec F S1536x1024 .f32), owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare Z10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare Z15 ∗ owns (c : Thread nD τ) arg16 fullShare X16 ∗ ⌜Z15 = yS (wd F g p hp) (wd F g q hq) i X13 X14 X5 X6 X7 X15 ∧ Z10 = k0_pay45 X12 (yS (wd F g p hp) (wd F g q hq) i X13 X14 X5 X6 X7 X15) X2 X8 X9⌝) : sProp 𝕄)) := by
  unfold owns
  iintro ⟨⟨%f2, %q2, H2⟩, ⟨%f3, %q3, H3⟩, ⟨%f4, %q4, H4⟩, ⟨%f5, %q5, H5⟩, ⟨%f6, %q6, H6⟩, ⟨%f7, %q7, H7⟩, ⟨%f8, %q8, H8⟩, ⟨%f9, %q9, H9⟩, ⟨%f10, %q10, H10⟩, ⟨%f11, %q11, H11⟩, ⟨%f12, %q12, H12⟩, ⟨%f13, %q13, H13⟩, ⟨%f14, %q14, H14⟩, ⟨%f15, %q15, H15⟩, ⟨%f16, %q16, H16⟩⟩
  have qp : arg16.view.read (Elt F) f16 (at8 p hp) = wd F g p hp := by rw [q16, hW]; rfl
  have qq : arg16.view.read (Elt F) f16 (at8 q hq) = wd F g q hq := by rw [q16, hW]; rfl
  have hrun := runD c E i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16 h2 h1 p q hp hq e1 e2 h6 (by rw [qp, qq]; exact hb)
  simp only [q2, q5, q6, q7, q8, q9, q12, q13, q14, q15, qp, qq] at hrun
  have hk := hrun.trans (wp_mono frame (wpE (defs₀ (F := F)) Variants.none c none) E (fun _ => (show _ ⊢ (iprop(∃ (Z10 : Vec F S1024x1024 .f32) (Z15 : Vec F S1536x1024 .f32), (∃ f, ⌜arg2.view.read (Elt F) f = X2⌝ ∗ (arg2.view.loc (c : Thread nD τ) ↦[arg2.view.set]{fullShare} f)) ∗ (∃ f, ⌜arg3.view.read (Elt F) f = X3⌝ ∗ (arg3.view.loc (c : Thread nD τ) ↦[arg3.view.set]{fullShare} f)) ∗ (∃ f, ⌜arg4.view.read (Elt F) f = X4⌝ ∗ (arg4.view.loc (c : Thread nD τ) ↦[arg4.view.set]{fullShare} f)) ∗ (∃ f, ⌜arg5.view.read (Elt F) f = X5⌝ ∗ (arg5.view.loc (c : Thread nD τ) ↦[arg5.view.set]{fullShare} f)) ∗ (∃ f, ⌜arg6.view.read (Elt F) f = X6⌝ ∗ (arg6.view.loc (c : Thread nD τ) ↦[arg6.view.set]{fullShare} f)) ∗ (∃ f, ⌜arg7.view.read (Elt F) f = X7⌝ ∗ (arg7.view.loc (c : Thread nD τ) ↦[arg7.view.set]{fullShare} f)) ∗ (∃ f, ⌜arg8.view.read (Elt F) f = X8⌝ ∗ (arg8.view.loc (c : Thread nD τ) ↦[arg8.view.set]{fullShare} f)) ∗ (∃ f, ⌜arg9.view.read (Elt F) f = X9⌝ ∗ (arg9.view.loc (c : Thread nD τ) ↦[arg9.view.set]{fullShare} f)) ∗ (∃ f, ⌜arg10.view.read (Elt F) f = Z10⌝ ∗ (arg10.view.loc (c : Thread nD τ) ↦[arg10.view.set]{fullShare} f)) ∗ (∃ f, ⌜arg11.view.read (Elt F) f = X11⌝ ∗ (arg11.view.loc (c : Thread nD τ) ↦[arg11.view.set]{fullShare} f)) ∗ (∃ f, ⌜arg12.view.read (Elt F) f = X12⌝ ∗ (arg12.view.loc (c : Thread nD τ) ↦[arg12.view.set]{fullShare} f)) ∗ (∃ f, ⌜arg13.view.read (Elt F) f = X13⌝ ∗ (arg13.view.loc (c : Thread nD τ) ↦[arg13.view.set]{fullShare} f)) ∗ (∃ f, ⌜arg14.view.read (Elt F) f = X14⌝ ∗ (arg14.view.loc (c : Thread nD τ) ↦[arg14.view.set]{fullShare} f)) ∗ (∃ f, ⌜arg15.view.read (Elt F) f = Z15⌝ ∗ (arg15.view.loc (c : Thread nD τ) ↦[arg15.view.set]{fullShare} f)) ∗ (∃ f, ⌜arg16.view.read (Elt F) f = X16⌝ ∗ (arg16.view.loc (c : Thread nD τ) ↦[arg16.view.set]{fullShare} f)) ∗ ⌜Z15 = yS (wd F g p hp) (wd F g q hq) i X13 X14 X5 X6 X7 X15 ∧ Z10 = k0_pay45 X12 (yS (wd F g p hp) (wd F g q hq) i X13 X14 X5 X6 X7 X15) X2 X8 X9⌝) : sProp 𝕄) from by
    iintro ⟨%g10, %g15, H2, H3, H4, H5, H6, H7, H8, H9, H10, H11, H12, H13, H14, H15, H16, %hr⟩
    iexists arg10.view.read (Elt F) g10, arg15.view.read (Elt F) g15
    isplitl [H2]
    · iexists f2; isplitr
      · ipureintro; exact q2
      · iexact H2
    isplitl [H3]
    · iexists f3; isplitr
      · ipureintro; exact q3
      · iexact H3
    isplitl [H4]
    · iexists f4; isplitr
      · ipureintro; exact q4
      · iexact H4
    isplitl [H5]
    · iexists f5; isplitr
      · ipureintro; exact q5
      · iexact H5
    isplitl [H6]
    · iexists f6; isplitr
      · ipureintro; exact q6
      · iexact H6
    isplitl [H7]
    · iexists f7; isplitr
      · ipureintro; exact q7
      · iexact H7
    isplitl [H8]
    · iexists f8; isplitr
      · ipureintro; exact q8
      · iexact H8
    isplitl [H9]
    · iexists f9; isplitr
      · ipureintro; exact q9
      · iexact H9
    isplitl [H10]
    · iexists g10; isplitr
      · ipureintro; rfl
      · iexact H10
    isplitl [H11]
    · iexists f11; isplitr
      · ipureintro; exact q11
      · iexact H11
    isplitl [H12]
    · iexists f12; isplitr
      · ipureintro; exact q12
      · iexact H12
    isplitl [H13]
    · iexists f13; isplitr
      · ipureintro; exact q13
      · iexact H13
    isplitl [H14]
    · iexists f14; isplitr
      · ipureintro; exact q14
      · iexact H14
    isplitl [H15]
    · iexists g15; isplitr
      · ipureintro; rfl
      · iexact H15
    isplitl [H16]
    · iexists f16; isplitr
      · ipureintro; exact q16
      · iexact H16
    ipureintro
    refine ⟨hr.2.trans ?_, hr.1.trans ?_⟩
    · rw [yS_of, qp, qq]
    · rw [yS_of, qp, qq])))
  iapply hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Moe

end
-- ==== Proof.Moe.Pipe.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Moe.PipeData
public import proofs.«01_k».proof.Proof.Moe.OwnA
public import proofs.«01_k».proof.Proof.Moe.OwnB
public import proofs.«01_k».proof.Proof.Moe.OwnC
public import proofs.«01_k».proof.Proof.Moe.OwnD

@[expose] public section

set_option maxRecDepth 65536

noncomputable section

namespace Cert.Proof.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off1z (t : Fin grid0.N) (ht : t.val % 8 = 0) : k0_off1 (grid0.coords t) = ![0] := by rw [off1_at, ht]
theorem off2z (t : Fin grid0.N) (ht : t.val % 8 = 0) : k0_off2 (grid0.coords t) = ![4] := by rw [off2_at, ht]

theorem inv_first {c : Dev nD} {t : Fin cfg0.N} (ht : t.val % 8 = 0) {e0 e1 e2 e3 e4 e5}
    (h : e0 = k0_pay46 (F := F) ∧ e1 = slotOf (bx m c t) (bwr m c t) (bbr m c t) (k0_pay46 (F := F)) ∧ e2 = xgOf (bx m c t) (bwr m c t) (bbr m c t) (k0_pay46 (F := F))
      ∧ e3 = cwOf (bx m c t) (bwr m c t) (bbr m c t) (k0_pay46 (F := F)) ∧ e5 = words F (gsel (bx m c t) (bwr m c t) (bbr m c t)) (fun _ => 0#32)
      ∧ e4 = yS (wd F (gsel (bx m c t) (bwr m c t) (bbr m c t)) 0 (by decide)) (wd F (gsel (bx m c t) (bwr m c t) (bbr m c t)) 4 (by decide)) (grid0.coords t)
        (xgOf (bx m c t) (bwr m c t) (bbr m c t) (k0_pay46 (F := F))) (cwOf (bx m c t) (bwr m c t) (bbr m c t) (k0_pay46 (F := F))) (bwg m c t) (bwu m c t) (bwd m c t) (k0_pay48 (F := F))) :
    Inv m c (t.val + 1) e0 e1 e2 e3 e4 e5 := by
  intro u hu
  obtain rfl : u = t := Fin.ext (by omega)
  rw [yAt_first m c ht]
  unfold slotAt xgAt cwAt gAt stepAt xgAt cwAt gAt
  simp only [base_first ht, ht]
  exact h

theorem inv_next {c : Dev nD} {t u : Fin cfg0.N} (ht : t.val % 8 ≠ 0) (hu : u.val + 1 = t.val) {d0 d1 d2 d3 d4 d5 e4}
    (hI : Inv m c t.val d0 d1 d2 d3 d4 d5) (hg : gAt m c t = gAt m c u)
    (h : e4 = yS (wd F (gAt m c u) (t.val % 8 / 2) (by omega)) (wd F (gAt m c u) (4 + t.val % 8 / 2) (by omega)) (grid0.coords t) d2 d3 (bwg m c t) (bwu m c t) (bwd m c t) d4) :
    e4 = yAt m c t ∧ d1 = slotAt m c t ∧ Inv m c (t.val + 1) d0 d1 d2 d3 e4 d5 := by
  obtain ⟨i0, i1, i2, i3, i5, i4⟩ := hI u hu
  have hb := base_next ht hu
  have hs : slotAt m c t = slotAt m c u := by unfold slotAt; rw [hb]
  have hx : xgAt m c t = xgAt m c u := by unfold xgAt; rw [hb]
  have hc : cwAt m c t = cwAt m c u := by unfold cwAt; rw [hb]
  have hy : e4 = yAt m c t := by
    rw [yAt_next m c ht hu, h, i2, i3, i4]
    unfold stepAt
    rw [hx, hc]; simp only [hg]
  refine ⟨hy, i1.trans hs.symm, fun v hv => ?_⟩
  obtain rfl : v = t := Fin.ext (by omega)
  exact ⟨i0, i1.trans hs.symm, i2.trans hx.symm, i3.trans hc.symm, i5.trans (by rw [hg]), hy⟩

set_option maxHeartbeats 800000 in
theorem body_first (hf : ∀ g, Fits F g) (c : Dev nD) (t : Fin cfg0.N) (ht : t.val % 8 = 0) (Y8 : Vec F S1024x1024 .f32) (d0 : Vec F S1024x1024 .bf16) (d1 : Vec F S1024x1 .f32) (d2 : Vec F S1536x1024 .bf16) (d3 : Vec F S1536x128 .f32) (d4 : Vec F S1536x1024 .f32) (d5 : Vec F S8 .i32) (hI : Inv m c t.val d0 d1 d2 d3 d4 d5) :
    iprop(owns (c : Thread nD τ) (st0_0 t) fullShare (bx m c t) ∗ owns (c : Thread nD τ) (st0_1 t) fullShare (bwr m c t) ∗ owns (c : Thread nD τ) (st0_2 t) fullShare (bbr m c t) ∗ owns (c : Thread nD τ) (st0_3 t) fullShare (bwg m c t) ∗ owns (c : Thread nD τ) (st0_4 t) fullShare (bwu m c t) ∗ owns (c : Thread nD τ) (st0_5 t) fullShare (bwd m c t) ∗ owns (c : Thread nD τ) (st0_6 t) fullShare (bga m c t) ∗ owns (c : Thread nD τ) (st0_7 t) fullShare (bbi m c t) ∗ owns (c : Thread nD τ) (st0_8 t) fullShare Y8 ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5) ⊢ wp frame (wpE (defs₀ (F := F)) Variants.none c none) Set.univ (bodyAt0 t) (fun _ => (iprop(∃ (Z8 : Vec F S1024x1024 .f32) (e0 : Vec F S1024x1024 .bf16) (e1 : Vec F S1024x1 .f32) (e2 : Vec F S1536x1024 .bf16) (e3 : Vec F S1536x128 .f32) (e4 : Vec F S1536x1024 .f32) (e5 : Vec F S8 .i32), owns (c : Thread nD τ) (st0_0 t) fullShare (bx m c t) ∗ owns (c : Thread nD τ) (st0_1 t) fullShare (bwr m c t) ∗ owns (c : Thread nD τ) (st0_2 t) fullShare (bbr m c t) ∗ owns (c : Thread nD τ) (st0_3 t) fullShare (bwg m c t) ∗ owns (c : Thread nD τ) (st0_4 t) fullShare (bwu m c t) ∗ owns (c : Thread nD τ) (st0_5 t) fullShare (bwd m c t) ∗ owns (c : Thread nD τ) (st0_6 t) fullShare (bga m c t) ∗ owns (c : Thread nD τ) (st0_7 t) fullShare (bbi m c t) ∗ owns (c : Thread nD τ) (st0_8 t) fullShare Z8 ∗ owns (c : Thread nD τ) sc0 fullShare e0 ∗ owns (c : Thread nD τ) sc1 fullShare e1 ∗ owns (c : Thread nD τ) sc2 fullShare e2 ∗ owns (c : Thread nD τ) sc3 fullShare e3 ∗ owns (c : Thread nD τ) sc4 fullShare e4 ∗ owns (c : Thread nD τ) sc5 fullShare e5 ∗ ⌜(t.val % 8 = 7 → Z8 = outAt m c t) ∧ Inv m c (t.val + 1) e0 e1 e2 e3 e4 e5⌝) : sProp 𝕄)) := by
  have HF := hf (gsel (bx m c t) (bwr m c t) (bbr m c t))
  by_cases h0 : t.val = 0
  · refine (ownA c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) (bx m c t) (bwr m c t) (bbr m c t) (bwg m c t) (bwu m c t) (bwd m c t) (bga m c t) (bbi m c t) Y8 d0 d1 d2 d3 d4 d5 ((cond2_at t).mpr ht) ((cond1_at t).mpr h0) (off1z t ht) (off2z t ht) (fun h => absurd ((cond6_at t).mp h) (by omega)) HF).trans (wp_mono frame (wpE (defs₀ (F := F)) Variants.none c none) Set.univ fun _ => ?_)
    iintro ⟨%zS0, %zS1, %zS2, %zS3, %zS4, %zS5, H0, H1, H2, H3, H4, H5, H6, H7, H8, S0, S1, S2, S3, S4, S5, %hr⟩
    iexists Y8, zS0, zS1, zS2, zS3, zS4, zS5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    ipureintro
    exact ⟨fun h => absurd h (by omega), inv_first m ht hr⟩
  · have hT : d0 = k0_pay46 (F := F) := (hI ⟨t.val - 1, by have := t.isLt; omega⟩ (by show t.val - 1 + 1 = t.val; omega)).1
    refine (ownB c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) (bx m c t) (bwr m c t) (bbr m c t) (bwg m c t) (bwu m c t) (bwd m c t) (bga m c t) (bbi m c t) Y8 d0 d1 d2 d3 d4 d5 ((cond2_at t).mpr ht) (fun h => h0 ((cond1_at t).mp h)) (off1z t ht) (off2z t ht) (fun h => absurd ((cond6_at t).mp h) (by omega)) HF hT).trans (wp_mono frame (wpE (defs₀ (F := F)) Variants.none c none) Set.univ fun _ => ?_)
    iintro ⟨%zS0, %zS1, %zS2, %zS3, %zS4, %zS5, H0, H1, H2, H3, H4, H5, H6, H7, H8, S0, S1, S2, S3, S4, S5, %hr⟩
    iexists Y8, zS0, zS1, zS2, zS3, zS4, zS5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    ipureintro
    exact ⟨fun h => absurd h (by omega), inv_first m ht hr⟩

set_option maxHeartbeats 800000 in
theorem body_next (hf : ∀ g, Fits F g) (c : Dev nD) (t : Fin cfg0.N) (ht : t.val % 8 ≠ 0) (Y8 : Vec F S1024x1024 .f32) (d0 : Vec F S1024x1024 .bf16) (d1 : Vec F S1024x1 .f32) (d2 : Vec F S1536x1024 .bf16) (d3 : Vec F S1536x128 .f32) (d4 : Vec F S1536x1024 .f32) (d5 : Vec F S8 .i32) (hI : Inv m c t.val d0 d1 d2 d3 d4 d5) :
    iprop(owns (c : Thread nD τ) (st0_0 t) fullShare (bx m c t) ∗ owns (c : Thread nD τ) (st0_1 t) fullShare (bwr m c t) ∗ owns (c : Thread nD τ) (st0_2 t) fullShare (bbr m c t) ∗ owns (c : Thread nD τ) (st0_3 t) fullShare (bwg m c t) ∗ owns (c : Thread nD τ) (st0_4 t) fullShare (bwu m c t) ∗ owns (c : Thread nD τ) (st0_5 t) fullShare (bwd m c t) ∗ owns (c : Thread nD τ) (st0_6 t) fullShare (bga m c t) ∗ owns (c : Thread nD τ) (st0_7 t) fullShare (bbi m c t) ∗ owns (c : Thread nD τ) (st0_8 t) fullShare Y8 ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5) ⊢ wp frame (wpE (defs₀ (F := F)) Variants.none c none) Set.univ (bodyAt0 t) (fun _ => (iprop(∃ (Z8 : Vec F S1024x1024 .f32) (e0 : Vec F S1024x1024 .bf16) (e1 : Vec F S1024x1 .f32) (e2 : Vec F S1536x1024 .bf16) (e3 : Vec F S1536x128 .f32) (e4 : Vec F S1536x1024 .f32) (e5 : Vec F S8 .i32), owns (c : Thread nD τ) (st0_0 t) fullShare (bx m c t) ∗ owns (c : Thread nD τ) (st0_1 t) fullShare (bwr m c t) ∗ owns (c : Thread nD τ) (st0_2 t) fullShare (bbr m c t) ∗ owns (c : Thread nD τ) (st0_3 t) fullShare (bwg m c t) ∗ owns (c : Thread nD τ) (st0_4 t) fullShare (bwu m c t) ∗ owns (c : Thread nD τ) (st0_5 t) fullShare (bwd m c t) ∗ owns (c : Thread nD τ) (st0_6 t) fullShare (bga m c t) ∗ owns (c : Thread nD τ) (st0_7 t) fullShare (bbi m c t) ∗ owns (c : Thread nD τ) (st0_8 t) fullShare Z8 ∗ owns (c : Thread nD τ) sc0 fullShare e0 ∗ owns (c : Thread nD τ) sc1 fullShare e1 ∗ owns (c : Thread nD τ) sc2 fullShare e2 ∗ owns (c : Thread nD τ) sc3 fullShare e3 ∗ owns (c : Thread nD τ) sc4 fullShare e4 ∗ owns (c : Thread nD τ) sc5 fullShare e5 ∗ ⌜(t.val % 8 = 7 → Z8 = outAt m c t) ∧ Inv m c (t.val + 1) e0 e1 e2 e3 e4 e5⌝) : sProp 𝕄)) := by
  obtain ⟨u, hu⟩ : ∃ u : Fin cfg0.N, u.val + 1 = t.val := ⟨⟨t.val - 1, by have := t.isLt; omega⟩, by show t.val - 1 + 1 = t.val; omega⟩
  have hW := (hI u hu).2.2.2.2.1
  have HF := hf (gAt m c u) (t.val % 8 / 2) (by omega)
  have hg : gAt m c t = gAt m c u := by unfold gAt; rw [base_next ht hu]
  by_cases h7 : t.val % 8 = 7
  · refine (ownD c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) (bx m c t) (bwr m c t) (bbr m c t) (bwg m c t) (bwu m c t) (bwd m c t) (bga m c t) (bbi m c t) Y8 d0 d1 d2 d3 d4 d5 (fun h => ht ((cond2_at t).mp h)) (fun h => by have := (cond1_at t).mp h; omega) (t.val % 8 / 2) (4 + t.val % 8 / 2) (by omega) (by omega) (off1_at t) (off2_at t) ((cond6_at t).mpr h7) (gAt m c u) hW HF).trans (wp_mono frame (wpE (defs₀ (F := F)) Variants.none c none) Set.univ fun _ => ?_)
    iintro ⟨%zH8, %zS4, H0, H1, H2, H3, H4, H5, H6, H7, H8, S0, S1, S2, S3, S4, S5, %hr⟩
    iexists zH8, d0, d1, d2, d3, zS4, d5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    ipureintro
    obtain ⟨r1, r2⟩ := hr
    obtain ⟨j1, j2, j3⟩ := inv_next m ht hu hI hg r1
    refine ⟨fun _ => r2.trans ?_, j3⟩
    unfold outAt
    rw [← r1, j1, ← j2]
  · refine (ownC c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) (bx m c t) (bwr m c t) (bbr m c t) (bwg m c t) (bwu m c t) (bwd m c t) (bga m c t) (bbi m c t) Y8 d0 d1 d2 d3 d4 d5 (fun h => ht ((cond2_at t).mp h)) (fun h => by have := (cond1_at t).mp h; omega) (t.val % 8 / 2) (4 + t.val % 8 / 2) (by omega) (by omega) (off1_at t) (off2_at t) (fun h => h7 ((cond6_at t).mp h)) (gAt m c u) hW HF).trans (wp_mono frame (wpE (defs₀ (F := F)) Variants.none c none) Set.univ fun _ => ?_)
    iintro ⟨%zS4, H0, H1, H2, H3, H4, H5, H6, H7, H8, S0, S1, S2, S3, S4, S5, %hr⟩
    iexists Y8, d0, d1, d2, d3, zS4, d5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    ipureintro
    exact ⟨fun h => absurd h h7, (inv_next m ht hu hI hg hr).2.2⟩

theorem row (t : Fin cfg0.N) : defs₀ (F := F) .tc cfg0.body (cfg0.bodyArgs t (cfg0.slots t)) = bodyAt0 t := by
  unfold defs₀; rw [Defs.onTc_tc]

theorem body_obligation (hf : ∀ g, Fits F g) (c : Dev nD) : (rdat m c).BodyObligation (defs₀ (F := F)) Variants.none () Set.univ := by
  intro t Y hY
  rw [bigSep_W0, bigSep_W0, row]
  have y0 := finds0 m c t _ (hY 0)
  have y1 := finds1 m c t _ (hY 1)
  have y2 := finds2 m c t _ (hY 2)
  have y3 := finds3 m c t _ (hY 3)
  have y4 := finds4 m c t _ (hY 4)
  have y5 := finds5 m c t _ (hY 5)
  have y6 := finds6 m c t _ (hY 6)
  have y7 := finds7 m c t _ (hY 7)
  rw [y0, y1, y2, y3, y4, y5, y6, y7]
  simp only [show (rdat m c).Φ t.castSucc = phi m c t.val from rfl, show (rdat m c).Φ t.succ = phi m c (t.val + 1) from rfl]
  unfold phi
  iintro ⟨⟨%d0, %d1, %d2, %d3, %d4, %d5, %hI, S0, S1, S2, S3, S4, S5, Hr⟩, Ho, H0, H1, H2, H3, H4, H5, H6, H7, H8⟩
  have hb : iprop(owns (c : Thread nD τ) (st0_0 t) fullShare (bx m c t) ∗ owns (c : Thread nD τ) (st0_1 t) fullShare (bwr m c t) ∗ owns (c : Thread nD τ) (st0_2 t) fullShare (bbr m c t) ∗ owns (c : Thread nD τ) (st0_3 t) fullShare (bwg m c t) ∗ owns (c : Thread nD τ) (st0_4 t) fullShare (bwu m c t) ∗ owns (c : Thread nD τ) (st0_5 t) fullShare (bwd m c t) ∗ owns (c : Thread nD τ) (st0_6 t) fullShare (bga m c t) ∗ owns (c : Thread nD τ) (st0_7 t) fullShare (bbi m c t) ∗ owns (c : Thread nD τ) (st0_8 t) fullShare (Y 8) ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5) ⊢ wp frame (wpE (defs₀ (F := F)) Variants.none c none) Set.univ (bodyAt0 t) (fun _ => (iprop(∃ (Z8 : Vec F S1024x1024 .f32) (e0 : Vec F S1024x1024 .bf16) (e1 : Vec F S1024x1 .f32) (e2 : Vec F S1536x1024 .bf16) (e3 : Vec F S1536x128 .f32) (e4 : Vec F S1536x1024 .f32) (e5 : Vec F S8 .i32), owns (c : Thread nD τ) (st0_0 t) fullShare (bx m c t) ∗ owns (c : Thread nD τ) (st0_1 t) fullShare (bwr m c t) ∗ owns (c : Thread nD τ) (st0_2 t) fullShare (bbr m c t) ∗ owns (c : Thread nD τ) (st0_3 t) fullShare (bwg m c t) ∗ owns (c : Thread nD τ) (st0_4 t) fullShare (bwu m c t) ∗ owns (c : Thread nD τ) (st0_5 t) fullShare (bwd m c t) ∗ owns (c : Thread nD τ) (st0_6 t) fullShare (bga m c t) ∗ owns (c : Thread nD τ) (st0_7 t) fullShare (bbi m c t) ∗ owns (c : Thread nD τ) (st0_8 t) fullShare Z8 ∗ owns (c : Thread nD τ) sc0 fullShare e0 ∗ owns (c : Thread nD τ) sc1 fullShare e1 ∗ owns (c : Thread nD τ) sc2 fullShare e2 ∗ owns (c : Thread nD τ) sc3 fullShare e3 ∗ owns (c : Thread nD τ) sc4 fullShare e4 ∗ owns (c : Thread nD τ) sc5 fullShare e5 ∗ ⌜(t.val % 8 = 7 → Z8 = outAt m c t) ∧ Inv m c (t.val + 1) e0 e1 e2 e3 e4 e5⌝) : sProp 𝕄)) := by
    by_cases ht : t.val % 8 = 0
    · exact body_first m hf c t ht (Y 8) d0 d1 d2 d3 d4 d5 hI
    · exact body_next m hf c t ht (Y 8) d0 d1 d2 d3 d4 d5 hI
  iapply (wp_wand_r frame (wpE (defs₀ (F := F)) Variants.none c none) Set.univ)
  isplitr [Hr Ho]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    iexact S5
  iintro %a ⟨%Z8, %e0, %e1, %e2, %e3, %e4, %e5, H0, H1, H2, H3, H4, H5, H6, H7, H8, S0, S1, S2, S3, S4, S5, %hr⟩
  isplitl [Hr S0 S1 S2 S3 S4 S5]
  · iexists e0, e1, e2, e3, e4, e5
    isplitr; · ipureintro; exact hr.2
    isplitl [S0]; · iexact S0
    isplitl [S1]; · iexact S1
    isplitl [S2]; · iexact S2
    isplitl [S3]; · iexact S3
    isplitl [S4]; · iexact S4
    isplitl [S5]; · iexact S5
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  iexists Z8; isplitr
  · ipureintro; exact hr.1
  · iexact H8

set_option backward.isDefEq.respectTransparency.types false in
/-- The run: every array at what the write-backs may leave, every other buffer unchanged, every counter at zero. -/
theorem run_main (hf : ∀ g, Fits F g) : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m hf) (hshare := fun c => (rdat m c).share_full fun _ => rfl)
    (howed := fun _ _ => rfl) (V := V m) (hmain := hmain m Variants.none) (hA := fun _ _ => rfl)
    (hin := phi_in m) (hout := phi_out m)

end Cert.Proof.Moe

end
-- ==== Proof.Moe.Counts.lean ====
/-
  The group counts of a block of tokens: exact numbers of rows, at either reading of the floats, and the tile words they give.
-/
module

public import proofs.«01_k».proof.Proof.Moe.OwnDefs
public import Idealize.ShloMosaic.Lib.NatWords
public import Idealize.ShloMosaic.Lib.Pointwise
public import Idealize.ShloMosaic.Lib.Tactic

@[expose] public section

noncomputable section

namespace Cert.Proof.Moe

open Cert.KernelIdeal Cert.KernelIdeal.Gen
open Idealize.ShloMosaic Idealize.ShloMosaic.TcCoe Idealize.ShloMosaic.Tactic

/-- The number of tokens of group `k`. -/
def cnt (g : IVec S1024x1 32) (k : ℕ) : ℕ := (Finset.univ.filter fun r : Fin 1024 => BitVec.ofNat 32 k = g (ix2 r 0)).card

theorem cnt_sum (g : IVec S1024x1 32) : cnt g 0 + cnt g 1 + cnt g 2 + cnt g 3 ≤ 1024 := by
  unfold cnt
  have d (a b : ℕ) (h : BitVec.ofNat 32 a ≠ BitVec.ofNat 32 b) (s : Finset (Fin 1024)) (hs : ∀ r ∈ s, BitVec.ofNat 32 b ≠ g (ix2 r 0)) :
      Disjoint s (Finset.univ.filter fun r : Fin 1024 => BitVec.ofNat 32 b = g (ix2 r 0)) :=
    Finset.disjoint_left.mpr fun r hr h' => hs r hr (Finset.mem_filter.mp h').2
  rw [← Finset.card_union_of_disjoint (d 0 1 (by decide) _ fun r hr e => absurd ((Finset.mem_filter.mp hr).2.trans e.symm) (by decide))]
  rw [← Finset.card_union_of_disjoint (d 0 2 (by decide) _ fun r hr e => by
    rcases Finset.mem_union.mp hr with h | h <;> exact absurd ((Finset.mem_filter.mp h).2.trans e.symm) (by decide))]
  rw [← Finset.card_union_of_disjoint (d 0 3 (by decide) _ fun r hr e => by
    rcases Finset.mem_union.mp hr with h | h
    · rcases Finset.mem_union.mp h with h | h <;> exact absurd ((Finset.mem_filter.mp h).2.trans e.symm) (by decide)
    · exact absurd ((Finset.mem_filter.mp h).2.trans e.symm) (by decide))]
  exact (Finset.card_le_univ _).trans (by simp)

theorem tiles_fin : ∀ n : Fin 1025, tiles (BitVec.ofNat 32 n.val) = BitVec.ofNat 32 ((n.val + 127) / 128) := by decide +kernel

theorem tiles_nat {n : ℕ} (h : n ≤ 1024) : tiles (BitVec.ofNat 32 n) = BitVec.ofNat 32 ((n + 127) / 128) := tiles_fin ⟨n, by omega⟩

/-- The four counts are read as numbers. -/
structure Counted (F : FTy → Type) [FloatOps F] (g : IVec S1024x1 32) : Prop where
  c0 : Scalar.fptosi 32 (k0_pay27 (F := F) lane g) = BitVec.ofNat 32 (cnt g 0)
  c1 : Scalar.fptosi 32 (k0_pay29 (totals (F := F) g) lane1) = BitVec.ofNat 32 (cnt g 1)
  c2 : Scalar.fptosi 32 (k0_pay31 (totals (F := F) g) lane1) = BitVec.ofNat 32 (cnt g 2)
  c3 : Scalar.fptosi 32 (k0_pay33 (totals (F := F) g) lane1) = BitVec.ofNat 32 (cnt g 3)

/-- Tiles of group `k`. -/
def tl (g : IVec S1024x1 32) (k : ℕ) : ℕ := (cnt g k + 127) / 128

section
variable {F : FTy → Type} [FloatOps F] {g : IVec S1024x1 32} (h : Counted F g)
include h

theorem n0_nat : n0 F g = BitVec.ofNat 32 (tl g 0) := by
  have := cnt_sum g; unfold n0; rw [h.c0, tiles_nat (by omega)]; rfl
theorem n1_nat : n1 F g = BitVec.ofNat 32 (tl g 1) := by
  have := cnt_sum g; unfold n1; rw [h.c1, tiles_nat (by omega)]; rfl
theorem n2_nat : n2 F g = BitVec.ofNat 32 (tl g 2) := by
  have := cnt_sum g; unfold n2; rw [h.c2, tiles_nat (by omega)]; rfl
theorem n3_nat : n3 F g = BitVec.ofNat 32 (tl g 3) := by
  have := cnt_sum g; unfold n3; rw [h.c3, tiles_nat (by omega)]; rfl
theorem s1_nat : s1 F g = BitVec.ofNat 32 (tl g 0) := by
  unfold s1; rw [n0_nat h]; exact BitVec.zero_add _
theorem s2_nat : s2 F g = BitVec.ofNat 32 (tl g 0 + tl g 1) := by
  unfold s2; rw [s1_nat h, n1_nat h, BitVec.ofNat_add]; rfl
theorem s3_nat : s3 F g = BitVec.ofNat 32 (tl g 0 + tl g 1 + tl g 2) := by
  unfold s3; rw [s2_nat h, n2_nat h, BitVec.ofNat_add _ (tl g 2)]; rfl

theorem fits_of : Fits F g := by
  have hs := cnt_sum g
  have ht : tl g 0 + tl g 1 + tl g 2 + tl g 3 ≤ 12 := by unfold tl; omega
  intro k hk
  have hk' : k = 0 ∨ k = 1 ∨ k = 2 ∨ k = 3 := by omega
  rcases hk' with rfl | rfl | rfl | rfl
  · have a : wd F g 0 (by decide) = 0#32 := words_0 _ _ _ rfl
    have b : wd F g 4 (by decide) = n0 F g := words_4 _ _ _ rfl
    show (wd F g 0 _).toNat + (wd F g 4 _).toNat ≤ 12
    rw [a, b, n0_nat h, BitVec.toNat_ofNat, BitVec.toNat_ofNat]; omega
  · have a : wd F g 1 (by decide) = s1 F g := words_1 _ _ _ rfl
    have b : wd F g 5 (by decide) = n1 F g := words_5 _ _ _ rfl
    show (wd F g 1 _).toNat + (wd F g 5 _).toNat ≤ 12
    rw [a, b, s1_nat h, n1_nat h, BitVec.toNat_ofNat, BitVec.toNat_ofNat]; omega
  · have a : wd F g 2 (by decide) = s2 F g := words_2 _ _ _ rfl
    have b : wd F g 6 (by decide) = n2 F g := words_6 _ _ _ rfl
    show (wd F g 2 _).toNat + (wd F g 6 _).toNat ≤ 12
    rw [a, b, s2_nat h, n2_nat h, BitVec.toNat_ofNat, BitVec.toNat_ofNat]; omega
  · have a : wd F g 3 (by decide) = s3 F g := words_3 _ _ _ rfl
    have b : wd F g 7 (by decide) = n3 F g := words_7 _ _ _ rfl
    show (wd F g 3 _).toNat + (wd F g 7 _).toNat ≤ 12
    rw [a, b, s3_nat h, n3_nat h, BitVec.toNat_ofNat, BitVec.toNat_ofNat]; omega

end

/-! ### At bits -/

theorem one_word : (Scalar.ofBits (F := Bits) .f32 0x3F800000#32 : Bits .f32) = Bits.f32OfNat 1 := by
  rw [Bits.f32OfNat_eq 1 (by decide)]; decide

theorem select_word (p : Prop) [Decidable p] (b : BitVec 1) (h : b = 1#1 ↔ p) (n : ℕ) (x y : Bits .f32) (hx : x = Bits.f32OfNat n) (hy : y = Bits.f32OfNat 0) :
    Scalar.select b x y = Bits.f32OfNat (if p then n else 0) := by
  by_cases hp : p
  · rw [if_pos hp, h.mpr hp]; exact hx
  · rw [if_neg hp]
    have : b = 0#1 := by
      have hn := h.not.mpr hp; clear h; revert hn; revert b; decide
    rw [this]; exact hy

theorem eq_word (a b : BitVec 32) : IntOp.cmpi CmpIPredicate.eq a b = 1#1 ↔ a = b := by
  show BitVec.ofBool (a == b) = 1#1 ↔ _
  by_cases h : a = b
  · rw [beq_iff_eq.mpr h]; exact ⟨fun _ => h, fun _ => rfl⟩
  · rw [beq_eq_false_iff_ne.mpr h]; exact ⟨fun hb => absurd hb (by decide), fun hb => absurd hb h⟩

theorem fiber_sum (g : IVec S1024x1 32) (l : Fin 128) :
    (Bits.reduceFiber reduces_S1024x128_S128 (ix1 l)).sum (fun i => if BitVec.ofNat 32 (i 1).val = g (ix2 (i 0) 0) then 1 else 0) = cnt g l.val := by
  unfold cnt
  rw [Finset.card_filter]
  refine Finset.sum_nbij' (fun i => (i 0 : Fin 1024)) (fun r => ix2 r l) ?_ ?_ ?_ ?_ ?_
  · intro i _; exact Finset.mem_univ _
  · intro r _
    refine Finset.mem_filter.mpr ⟨Finset.mem_univ _, ?_⟩
    funext a; obtain rfl : a = 0 := Subsingleton.elim _ _; rfl
  · intro i hi
    have hd := congrFun (Finset.mem_filter.mp hi).2 0
    funext a
    match a with
    | ⟨0, _⟩ => rfl
    | ⟨1, _⟩ => exact hd.symm
  · intro r _; rfl
  · intro i hi
    have hd := congrFun (Finset.mem_filter.mp hi).2 0
    have : (i 1).val = l.val := congrArg Fin.val hd
    rw [this]

theorem totals_bits (g : IVec S1024x1 32) (l : Fin 128) : totals (F := Bits) g (ix2 0 l) = Bits.f32OfNat (cnt g l.val) := by
  unfold totals k0_pay25
  pointwise []
  have hc : cnt g l.val ≤ 1024 := (Finset.card_le_univ _).trans (by simp)
  refine (Bits.reduceAdd_nat [0] reduces_S1024x128_S128 (k0_pay23 (F := Bits) lane g) (ix1 l) (fun i => if BitVec.ofNat 32 (i 1).val = g (ix2 (i 0) 0) then 1 else 0) ?_ ?_).trans ?_
  · intro i _
    rw [← Bits.natOfF32?_f32OfNat _ (by split <;> decide)]
    congr 1
    obtain ⟨r, k, rfl⟩ : ∃ r k, i = ix2 r k := ⟨i 0, i 1, by funext a; match a with | ⟨0, _⟩ => rfl | ⟨1, _⟩ => rfl⟩
    refine Eq.trans ?_ (select_word (BitVec.ofNat 32 k.val = g (ix2 r 0)) _ (eq_word _ _) 1 _ _ one_word Bits.f32OfNat_zero.symm)
    pointwise [k0_pay23, lane]
    rfl
  · rw [fiber_sum]; omega
  · rw [fiber_sum]

theorem one_lane (src : FVec Bits S1x1x128 .f32) (k : Fin 128) (n : ℕ) (hn : n ≤ 1024)
    (h : ∀ l : Fin 128, src (ix3 0 0 l) = Bits.f32OfNat (if l = k then n else 0)) (j : S1.Idx) :
    FloatOps.reduceAdd (F := Bits) (φ := .f32) [1, 2] reduces_S1x1x128_S1 src j = Bits.f32OfNat n := by
  have e (i : S1x1x128.Idx) : i = ix3 0 0 (i 2) := by
    funext a
    match a with
    | ⟨0, _⟩ => exact Subsingleton.elim (α := Fin 1) _ _
    | ⟨1, _⟩ => exact Subsingleton.elim (α := Fin 1) _ _
    | ⟨2, _⟩ => rfl
  have hs : (Bits.reduceFiber reduces_S1x1x128_S1 j).sum (fun i => if (show Fin 128 from i 2) = k then n else 0) = n := by
    refine (Finset.sum_eq_single (ix3 0 0 k) ?_ ?_).trans (if_pos rfl)
    · intro i _ hi
      refine if_neg fun (hk : (i 2 : Fin 128) = k) => hi ?_
      exact (e i).trans (congrArg (fun x : Fin 128 => (ix3 0 0 x : S1x1x128.Idx)) hk)
    · intro hk
      refine absurd (Finset.mem_filter.mpr ⟨Finset.mem_univ _, ?_⟩) hk
      funext a; obtain rfl : a = 0 := Subsingleton.elim _ _; exact Subsingleton.elim (α := Fin 1) _ _
  refine (Bits.reduceAdd_nat [1, 2] reduces_S1x1x128_S1 src j (fun i => if (show Fin 128 from i 2) = k then n else 0) ?_ ?_).trans ?_
  · intro i _
    rw [← Bits.natOfF32?_f32OfNat _ (by split <;> omega)]
    congr 1
    rw [e i]; exact h (i 2)
  · rw [hs]; omega
  · rw [hs]

theorem lane_word (l k : Fin 128) : IntOp.cmpi CmpIPredicate.eq (BitVec.ofNat 32 l.val) (BitVec.ofNat 32 k.val) = 1#1 ↔ l = k := by
  rw [eq_word]
  constructor
  · intro h
    have := congrArg BitVec.toNat h
    rw [BitVec.toNat_ofNat, BitVec.toNat_ofNat] at this
    exact Fin.ext (by omega)
  · rintro rfl; rfl

theorem counted_bits (g : IVec S1024x1 32) : Counted Bits g := by
  have hc (k : ℕ) : cnt g k ≤ 1024 := (Finset.card_le_univ _).trans (by simp)
  have f (k : ℕ) (x : Bits .f32) (hx : x = Bits.f32OfNat (cnt g k)) : Scalar.fptosi (F := Bits) 32 x = BitVec.ofNat 32 (cnt g k) := by
    rw [hx]; exact Bits.fptosi32_nat _ (by have := hc k; omega)
  have z (k l : Fin 128) (b : BitVec 32) (hb : b = BitVec.ofNat 32 k.val) (x : Bits .f32) (hx : x = totals (F := Bits) g (ix2 0 l)) :
      Scalar.select (IntOp.cmpi CmpIPredicate.eq (BitVec.ofNat 32 l.val) b) x (Scalar.ofBits .f32 0x00000000#32) = Bits.f32OfNat (if l = k then cnt g k.val else 0) := by
    subst hb hx
    by_cases h : l = k
    · subst h; exact select_word _ _ (lane_word l l) _ _ _ (totals_bits g l) Bits.f32OfNat_zero.symm
    · rw [if_neg h]
      have : IntOp.cmpi CmpIPredicate.eq (BitVec.ofNat 32 l.val) (BitVec.ofNat 32 k.val) = 0#1 := by
        have hn := (lane_word l k).not.mpr h
        revert hn; generalize IntOp.cmpi CmpIPredicate.eq (BitVec.ofNat 32 l.val) (BitVec.ofNat 32 k.val) = b; revert b; decide
      rw [this]; exact Bits.f32OfNat_zero.symm
  refine ⟨f 0 _ ?_, f 1 _ ?_, f 2 _ ?_, f 3 _ ?_⟩
  · unfold k0_pay27
    pointwise []
    refine one_lane _ (0 : Fin 128) _ (hc 0) (fun l => ?_) _
    refine Eq.trans ?_ (z (0 : Fin 128) l _ rfl _ rfl)
    pointwise [lane1]
    try rfl
  · unfold k0_pay29
    pointwise []
    refine one_lane _ (1 : Fin 128) _ (hc 1) (fun l => ?_) _
    refine Eq.trans ?_ (z (1 : Fin 128) l _ rfl _ rfl)
    pointwise [lane1]
    try rfl
  · unfold k0_pay31
    pointwise []
    refine one_lane _ (2 : Fin 128) _ (hc 2) (fun l => ?_) _
    refine Eq.trans ?_ (z (2 : Fin 128) l _ rfl _ rfl)
    pointwise [lane1]
    try rfl
  · unfold k0_pay33
    pointwise []
    refine one_lane _ (3 : Fin 128) _ (hc 3) (fun l => ?_) _
    refine Eq.trans ?_ (z (3 : Fin 128) l _ rfl _ rfl)
    pointwise [lane1]
    try rfl

/-! ### At the ideal reading -/

theorem sum_coe {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem totals_ideal (g : IVec S1024x1 32) (l : Fin 128) : totals (F := Ideal) g (ix2 0 l) = (((cnt g l.val : ℕ) : ℝ) : EReal) := by
  unfold totals
  pointwise [k0_pay25, k0_pay23, lane]
  unfold cnt
  rw [Finset.card_filter]
  rw [Nat.cast_sum, sum_coe]
  refine Finset.sum_congr rfl fun r _ => ?_
  by_cases h : BitVec.ofNat 32 l.val = g (ix2 r 0)
  · rw [if_pos h, (eq_word _ _).mpr h, Nat.cast_one, EReal.coe_one]; rfl
  · rw [if_neg h]
    have : IntOp.cmpi CmpIPredicate.eq (BitVec.ofNat 32 l.val) (g (ix2 r 0)) = 0#1 := by
      have hn := (eq_word _ _).not.mpr h
      revert hn; generalize IntOp.cmpi CmpIPredicate.eq (BitVec.ofNat 32 l.val) (g (ix2 r 0)) = b; revert b; decide
    rw [this, Nat.cast_zero, EReal.coe_zero]; rfl

theorem nat_word (n : ℕ) (h : n ≤ 1024) : Ideal.fptosi 32 (((n : ℕ) : ℝ) : EReal) = BitVec.ofNat 32 n := by
  have e : Ideal.toIntClamped (-(2 ^ (32 - 1) : Nat)) ((2 ^ (32 - 1) : Nat) - 1) (((n : ℕ) : ℝ) : EReal) = (n : Int) := by
    show max (-((2 ^ (32 - 1) : Nat) : Int)) (min (((2 ^ (32 - 1) : Nat) : Int) - 1) (if 0 ≤ ((n : ℕ) : ℝ) then ⌊((n : ℕ) : ℝ)⌋ else ⌈((n : ℕ) : ℝ)⌉)) = (n : Int)
    rw [if_pos (Nat.cast_nonneg n), Int.floor_natCast]
    norm_num
    omega
  show BitVec.ofInt 32 _ = _
  rw [e]; exact BitVec.ofInt_natCast 32 n

theorem counted_ideal (g : IVec S1024x1 32) : Counted Ideal g := by
  have hc (k : ℕ) : cnt g k ≤ 1024 := (Finset.card_le_univ _).trans (by simp)
  have f (k : ℕ) (x : Ideal .f32) (hx : x = (((cnt g k : ℕ) : ℝ) : EReal)) : Scalar.fptosi (F := Ideal) 32 x = BitVec.ofNat 32 (cnt g k) := by
    rw [hx]; exact nat_word _ (hc k)
  have s (k : Fin 128) (w : BitVec 32) (hw : w = BitVec.ofNat 32 k.val) (f : Fin 128 → EReal) (hf : ∀ l, f l = totals (F := Ideal) g (ix2 0 l)) :
      (∑ x : Fin 1, ∑ l : Fin 128, Scalar.select (IntOp.cmpi CmpIPredicate.eq (BitVec.ofNat 32 l.val) w) (f l) (0 : EReal))
      = (((cnt g k.val : ℕ) : ℝ) : EReal) := by
    subst hw
    rw [Fin.sum_univ_one, Finset.sum_eq_single k]
    · rw [(lane_word k k).mpr rfl, hf k]; exact totals_ideal g k
    · intro l _ h
      have : IntOp.cmpi CmpIPredicate.eq (BitVec.ofNat 32 l.val) (BitVec.ofNat 32 k.val) = 0#1 := by
        have hn := (lane_word l k).not.mpr h
        revert hn; generalize IntOp.cmpi CmpIPredicate.eq (BitVec.ofNat 32 l.val) (BitVec.ofNat 32 k.val) = b; revert b; decide
      rw [this]; rfl
    · intro h; exact absurd (Finset.mem_univ _) h
  refine ⟨f 0 _ ?_, f 1 _ ?_, f 2 _ ?_, f 3 _ ?_⟩
  · unfold k0_pay27
    pointwise [lane1]
    exact s (0 : Fin 128) _ rfl _ (fun l => rfl)
  · unfold k0_pay29
    pointwise [lane1]
    exact s (1 : Fin 128) _ rfl _ (fun l => rfl)
  · unfold k0_pay31
    pointwise [lane1]
    exact s (2 : Fin 128) _ rfl _ (fun l => rfl)
  · unfold k0_pay33
    pointwise [lane1]
    exact s (3 : Fin 128) _ rfl _ (fun l => rfl)

end Cert.Proof.Moe

end
-- ==== Proof.Moe.Same.lean ====
/- The program as written and the program read over the ideal numbers are one text. -/
module

public import proofs.«01_k».proof.Defs
public import proofs.«01_k».proof.Proof.Gen.Kernel
public import proofs.«01_k».proof.Proof.Gen.KernelIdeal
public import Idealize.ShloMosaic.Lib.Claim

@[expose] public section

set_option maxRecDepth 65536
set_option maxHeartbeats 1000000

noncomputable section

namespace Cert.Proof.Moe

open Idealize.ShloMosaic Idealize.ShloMosaic.TcCoe

set_option backward.isDefEq.respectTransparency.types false in
theorem same_body : (@Cert.Kernel.cc0_moe_layer Bits _ _) = (@Cert.KernelIdeal.cc0_moe_layer Bits _ _) := by
  unfold Cert.Kernel.cc0_moe_layer Cert.KernelIdeal.cc0_moe_layer
  rfl

set_option backward.isDefEq.respectTransparency.types false in
theorem same_labels : (@Cert.Kernel.defs₀ Bits _ _) = (@Cert.KernelIdeal.defs₀ Bits _ _) := by
  unfold Cert.Kernel.defs₀ Cert.KernelIdeal.defs₀
  refine congrArg Defs.onTc ?_
  funext l a
  match l, a with
  | ⟨0, _⟩, (t, s) => exact (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _) _) _) _) _) _) _) _) _) _) _)

set_option backward.isDefEq.respectTransparency.types false in
theorem same_defs : (@Cert.Kernel.defs Bits _ _) = (@Cert.KernelIdeal.defs Bits _ _) := by
  unfold Cert.Kernel.defs Cert.KernelIdeal.defs
  exact congrArg (Pipeline.defs Cert.KernelIdeal.pcfgs) same_labels

set_option backward.isDefEq.respectTransparency.types false in
theorem same_main : @Cert.Kernel.main Bits _ _ = @Cert.KernelIdeal.main Bits _ _ := by
  funext c
  unfold Cert.Kernel.main Cert.KernelIdeal.main Cert.Kernel.fn_pad.body Cert.KernelIdeal.fn_pad.body Cert.Kernel.fn_pad_0.body Cert.KernelIdeal.fn_pad_0.body
  rfl

end Cert.Proof.Moe

end
-- ==== Proof.Moe.Frame.lean ====
module

public import proofs.«01_k».proof.Defs
public import proofs.«01_k».proof.Proof.Gen.Kernel
public import proofs.«01_k».proof.Proof.Gen.ReferenceIdeal.Run
public import proofs.«01_k».proof.Proof.Moe.Pipe
public import proofs.«01_k».proof.Proof.Moe.Counts
public import proofs.«01_k».proof.Proof.Moe.Same

@[expose] public section

set_option maxRecDepth 65536

noncomputable section

namespace Cert.Proof.Moe

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- The arguments are untouched and every counter ends at zero. -/
theorem run_frame (hf : ∀ g, Fits F g) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r h => ⟨fun c => ?_, h.2⟩) (run_main (F := F) m ρ hf)
  have hc := h.1 c
  refine ⟨?_, (hc.2 main_arg1 (Pipeline.mem_restRefs_of main_arg1 (by decide) (by decide))).trans (V_main_arg1 m c),
    (hc.2 main_arg2 (Pipeline.mem_restRefs_of main_arg2 (by decide) (by decide))).trans (V_main_arg2 m c),
    (hc.2 main_arg3 (Pipeline.mem_restRefs_of main_arg3 (by decide) (by decide))).trans (V_main_arg3 m c),
    (hc.2 main_arg4 (Pipeline.mem_restRefs_of main_arg4 (by decide) (by decide))).trans (V_main_arg4 m c),
    (hc.2 main_arg5 (Pipeline.mem_restRefs_of main_arg5 (by decide) (by decide))).trans (V_main_arg5 m c),
    (hc.2 main_arg6 (Pipeline.mem_restRefs_of main_arg6 (by decide) (by decide))).trans (V_main_arg6 m c),
    (hc.2 main_arg7 (Pipeline.mem_restRefs_of main_arg7 (by decide) (by decide))).trans (V_main_arg7 m c),
    (hc.2 main_arg8 (Pipeline.mem_restRefs_of main_arg8 (by decide) (by decide))).trans (V_main_arg8 m c),
    (hc.2 main_arg9 (Pipeline.mem_restRefs_of main_arg9 (by decide) (by decide))).trans (V_main_arg9 m c)⟩
  have h0 := hc.1 0
  rw [Pipeline.RDat.ArrAt_in (rd := rdat m c) 0 rfl] at h0
  exact h0.trans (V_main_arg0 m c)

set_option backward.isDefEq.respectTransparency.types false in
set_option maxHeartbeats 1000000 in
/-- The claim about the program as written: it is the same text. -/
theorem frame_p : Cert.quiescent_Kernel := by
  intro m ρ _
  rw [same_main, same_defs]
  exact run_frame (F := Bits) m ρ fun g => fits_of (counted_bits g)

/-- The claim about the program read over the ideal numbers. -/
theorem frame_pi : Cert.quiescent_KernelIdeal := fun m ρ _ =>
  (θ_run Cert.KernelIdeal.defs _ _).mono (fun r h => h)
    (run_frame (F := Ideal) m ρ fun g => fits_of (counted_ideal g))

/-- The claim about the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Moe

end
-- ==== Proof.Moe.Pack.lean ====
/- The packing of the tokens by a matrix of zeros and ones. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

variable (g : IVec S1024x1 32) (rk st : FVec Ideal S1024x1 .f32) (w3 : BitVec 32)

theorem onehot_at (s : Fin 1536) (r : Fin 1024) :
    k0_pay36 (F := Ideal) g rk st w3 (ix2 s r)
      = if k0_pay35 (F := Ideal) g rk st w3 (ix2 r 0) = (((s.val : ℕ) : ℝ) : EReal) then 1 else 0 := by
  have hs : (FloatOps.sitofp (F := Ideal) FTy.f32 (BitVec.ofNat 32 s.val)) = (((s.val : ℕ) : ℝ) : EReal) := by
    show (((BitVec.ofNat 32 s.val).toInt : ℝ) : EReal) = _
    have : (BitVec.ofNat 32 s.val).toInt = (s.val : ℤ) := by
      have := s.isLt
      rw [BitVec.toInt_eq_toNat_of_lt] <;> rw [BitVec.toNat_ofNat] <;> omega
    rw [this]; norm_cast
  unfold k0_pay36 k0_pay35
  generalize k0_pay34 (F := Ideal) g rk st w3 = S
  pointwise []
  rw [← hs]
  try rfl

theorem packed_at (x : FVec Ideal S1024x1024 .bf16) (s : Fin 1536) (d : Fin 1024) :
    k0_pay37 (F := Ideal) x g rk st w3 (ix2 s d) = ∑ r : Fin 1024, k0_pay36 (F := Ideal) g rk st w3 (ix2 s r) * x (ix2 r d) := by
  unfold k0_pay37
  generalize k0_pay36 (F := Ideal) g rk st w3 = P
  pointwise []
  try rfl

theorem packedw_at (hi lo : FVec Ideal S1024x128 .bf16) (s : Fin 1536) (l : Fin 128) :
    k0_pay47 (F := Ideal) (k0_pay38 (F := Ideal) g hi lo rk st w3) (k0_pay39 (F := Ideal) g hi lo rk st w3) (ix2 s l)
      = (∑ r : Fin 1024, k0_pay36 (F := Ideal) g rk st w3 (ix2 s r) * hi (ix2 r l))
        + ∑ r : Fin 1024, k0_pay36 (F := Ideal) g rk st w3 (ix2 s r) * lo (ix2 r l) := by
  unfold k0_pay47 k0_pay39 k0_pay38
  generalize k0_pay36 (F := Ideal) g rk st w3 = P
  pointwise []
  try rfl

/-- A sum with one entry chosen. -/
theorem sum_pick {n : ℕ} (f : Fin n → EReal) (p : Fin n → Prop) [DecidablePred p] (r : Fin n) (h : ∀ k, p k ↔ k = r) :
    ∑ k, (if p k then (1 : EReal) else 0) * f k = f r := by
  rw [Finset.sum_eq_single r]
  · rw [if_pos ((h r).2 rfl), one_mul]
  · intro k _ hk
    rw [if_neg (fun hp => hk ((h k).1 hp)), zero_mul]
  · intro h'; exact absurd (Finset.mem_univ r) h'

end Cert.Proof.Moe

end
-- ==== Proof.Moe.Terms.lean ====
/- One pair of experts on a row. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

/-- One expert's row: the gated product of the two up-sized matrices, through the down-sized one. -/
def ff (x : Fin 1024 → EReal) (wg wu : Fin 1024 → Fin 512 → EReal) (wd : Fin 512 → Fin 1024 → EReal) (d : Fin 1024) : EReal :=
  ∑ j, (Ideal.div (∑ k, x k * wg k j) (1 + Ideal.exp (0 - ∑ k, x k * wg k j)) * ∑ k, x k * wu k j) * wd j d

/-- The entry of a row at the lane a word names. -/
def pick (c : Fin 128 → EReal) (v : BitVec 32) : EReal :=
  ∑ l : Fin 128, Scalar.select (IntOp.cmpi CmpIPredicate.eq (BitVec.ofNat 32 l.val) v) (c l) 0

variable (v9 : BitVec 32) (wg wu wg' wu' : Vec Ideal S1x1024x512 .bf16) (wd wd' : Vec Ideal S1x512x1024 .bf16)

theorem first256 (xg : Vec Ideal S256x1024 .bf16) (cw : Vec Ideal S256x128 .f32) (s : Fin 256) (d : Fin 1024) :
    k0_pay42 v9 xg wg wu cw wd (ix2 s d)
      = pick (fun l => cw (ix2 s l)) (IntOp.addi (IntOp.addi 4#32 v9) 0#32)
        * ff (fun k => xg (ix2 s k)) (fun k j => wg (ix3 0 k j)) (fun k j => wu (ix3 0 k j)) (fun j d => wd (ix3 0 j d)) d := by
  unfold k0_pay42 pick ff
  pointwise []
  try rfl

theorem both256 (xg : Vec Ideal S256x1024 .bf16) (cw : Vec Ideal S256x128 .f32) (z : FVec Ideal S256x1024 .f32) (y : Vec Ideal S256x1024 .f32) (s : Fin 256) (d : Fin 1024) :
    k0_pay1 v9 xg (iota .tc S256x128 32 [1] iota_S256x128_d1_w32) z wg' wu' cw wd' y (ix2 s d)
      = y (ix2 s d) + (z (ix2 s d) + pick (fun l => cw (ix2 s l)) (IntOp.addi (IntOp.addi 4#32 v9) 1#32)
        * ff (fun k => xg (ix2 s k)) (fun k j => wg' (ix3 0 k j)) (fun k j => wu' (ix3 0 k j)) (fun j d => wd' (ix3 0 j d)) d) := by
  unfold k0_pay1 pick ff
  pointwise []
  try rfl

theorem first128 (xg : Vec Ideal S128x1024 .bf16) (cw : Vec Ideal S128x128 .f32) (s : Fin 128) (d : Fin 1024) :
    k0_pay44 v9 xg wg wu cw wd (ix2 s d)
      = pick (fun l => cw (ix2 s l)) (IntOp.addi (IntOp.addi 4#32 v9) 0#32)
        * ff (fun k => xg (ix2 s k)) (fun k j => wg (ix3 0 k j)) (fun k j => wu (ix3 0 k j)) (fun j d => wd (ix3 0 j d)) d := by
  unfold k0_pay44 pick ff
  pointwise []
  try rfl

theorem both128 (xg : Vec Ideal S128x1024 .bf16) (cw : Vec Ideal S128x128 .f32) (z : FVec Ideal S128x1024 .f32) (y : Vec Ideal S128x1024 .f32) (s : Fin 128) (d : Fin 1024) :
    k0_pay3 v9 xg (iota .tc S128x128 32 [1] iota_S128x128_d1_w32) z wg' wu' cw wd' y (ix2 s d)
      = y (ix2 s d) + (z (ix2 s d) + pick (fun l => cw (ix2 s l)) (IntOp.addi (IntOp.addi 4#32 v9) 1#32)
        * ff (fun k => xg (ix2 s k)) (fun k j => wg' (ix3 0 k j)) (fun k j => wu' (ix3 0 k j)) (fun j d => wd' (ix3 0 j d)) d) := by
  unfold k0_pay3 pick ff
  pointwise []
  try rfl

theorem first384 (xg : Vec Ideal S384x1024 .bf16) (cw : Vec Ideal S384x128 .f32) (s : Fin 384) (d : Fin 1024) :
    k0_pay40 v9 xg wg wu cw wd (ix2 s d)
      = pick (fun l => cw (ix2 s l)) (IntOp.addi (IntOp.addi 4#32 v9) 0#32)
        * ff (fun k => xg (ix2 s k)) (fun k j => wg (ix3 0 k j)) (fun k j => wu (ix3 0 k j)) (fun j d => wd (ix3 0 j d)) d := by
  unfold k0_pay40 pick ff
  pointwise []
  try rfl

theorem both384 (i : grid0.Coords) (xg : Vec Ideal S384x1024 .bf16) (cw : Vec Ideal S384x128 .f32) (z : FVec Ideal S384x1024 .f32) (y : Vec Ideal S384x1024 .f32) (s : Fin 384) (d : Fin 1024) :
    k0_pay49 i xg (iota .tc S384x128 32 [1] iota_S384x128_d1_w32) z (k0_pay41 wg') wu' cw wd' y (ix2 s d)
      = y (ix2 s d) + (z (ix2 s d) + pick (fun l => cw (ix2 s l)) (IntOp.addi (IntOp.addi 4#32 (IntOp.muli (BitVec.ofNat 32 (i 1).val) 2#32)) 1#32)
        * ff (fun k => xg (ix2 s k)) (fun k j => wg' (ix3 0 k j)) (fun k j => wu' (ix3 0 k j)) (fun j d => wd' (ix3 0 j d)) d) := by
  unfold k0_pay49 k0_pay41 pick ff
  pointwise []
  try rfl

end Cert.Proof.Moe

end
-- ==== Proof.Moe.StepRows.lean ====
/- One pair of experts on the packed rows: the rows of its group get its two terms, the others stay. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
public import proofs.«01_k».proof.Proof.Moe.Terms
public import proofs.«01_k».proof.Proof.Moe.OwnDefs
public import proofs.«01_k».proof.Proof.Moe.Bounds
@[expose] public section

set_option maxRecDepth 65536

noncomputable section

namespace Cert.Proof.Moe

open Cert.KernelIdeal Cert.KernelIdeal.Gen
open Idealize.ShloMosaic

theorem win_at {A N C : ℕ} {α : Type} (x : (⟨2, ![A, C]⟩ : Shape).Idx → α) {off : Fin 2 → ℕ}
    (inb : ∀ a : Fin 2, off a + (![N, C] : Fin 2 → ℕ) a ≤ (⟨2, ![A, C]⟩ : Shape).size a) (o : ℕ) (h : off = ![o, 0]) (s : Fin N) (d : Fin C) (hs : o + s.val < A) :
    VecWindow.window (s := ⟨2, ![A, C]⟩) x off ![N, C] inb (ix2 s d) = x (ix2 ⟨o + s.val, hs⟩ d) := by
  subst h
  refine congrArg x (funext fun a => Fin.ext ?_)
  match a with
  | ⟨0, _⟩ => show o + 1 * s.val = o + s.val; omega
  | ⟨1, _⟩ => show 0 + 1 * d.val = d.val; omega

theorem put_at {A N C : ℕ} {α : Type} (x : (⟨2, ![A, C]⟩ : Shape).Idx → α) {off : Fin 2 → ℕ}
    (w : (⟨2, ![N, C]⟩ : Shape).Idx → α) (o : ℕ) (h : off = ![o, 0]) (s : Fin A) (d : Fin C) (v : α)
    (hin : ∀ hs : o ≤ s.val ∧ s.val < o + N, w (ix2 ⟨s.val - o, by omega⟩ d) = v) (hout : ¬ (o ≤ s.val ∧ s.val < o + N) → x (ix2 s d) = v) :
    VecWindow.put (s := ⟨2, ![A, C]⟩) x off ![N, C] w (ix2 s d) = v := by
  subst h
  unfold VecWindow.put
  by_cases hs : o ≤ s.val ∧ s.val < o + N
  · have ha : ∀ a : Fin 2, (![o, 0] : Fin 2 → ℕ) a ≤ ((ix2 s d : (⟨2, ![A, C]⟩ : Shape).Idx) a).val ∧ ((ix2 s d : (⟨2, ![A, C]⟩ : Shape).Idx) a).val < (![o, 0] : Fin 2 → ℕ) a + (![N, C] : Fin 2 → ℕ) a := by
      intro a
      match a with
      | ⟨0, _⟩ => exact hs
      | ⟨1, _⟩ => exact ⟨Nat.zero_le _, by show d.val < 0 + C; have := d.isLt; omega⟩
    rw [dif_pos ha, ← hin hs]
    refine congrArg w (funext fun a => Fin.ext ?_)
    match a with
    | ⟨0, _⟩ => rfl
    | ⟨1, _⟩ => show d.val - 0 = d.val; omega
  · rw [dif_neg (fun ha => hs (ha 0)), hout hs]

/-! The tile words of a group, as numbers -/

theorem cond3_fin : ∀ n : Fin 13, k0_cond3 (BitVec.ofNat 32 n.val) = 1#1 ↔ n.val = 3 := by decide +kernel
theorem cond4_fin : ∀ n : Fin 13, k0_cond4 (BitVec.ofNat 32 n.val) = 1#1 ↔ n.val ≠ 3 := by decide +kernel
theorem cond5_fin : ∀ n : Fin 13, k0_cond5 (BitVec.ofNat 32 n.val) = 1#1 ↔ n.val % 2 = 1 := by decide +kernel
theorem trips_fin : ∀ n : Fin 13, (k0_t1_loop (BitVec.ofNat 32 n.val)).trips = n.val / 2 := by decide +kernel
theorem off3_fin : ∀ a : Fin 13, k0_off3 (BitVec.ofNat 32 a.val) = ![128 * a.val, 0] := by decide +kernel
theorem off4_fin : ∀ a : Fin 13, k0_off4 (BitVec.ofNat 32 a.val) = ![128 * a.val, 0] := by decide +kernel
theorem off9_fin : ∀ a n : Fin 13, n.val ≠ 0 → k0_off9 (BitVec.ofNat 32 a.val) (BitVec.ofNat 32 n.val) = ![128 * (a.val + n.val - 1), 0] := by decide +kernel
theorem off10_fin : ∀ a n : Fin 13, n.val ≠ 0 → k0_off10 (BitVec.ofNat 32 a.val) (BitVec.ofNat 32 n.val) = ![128 * (a.val + n.val - 1), 0] := by decide +kernel
theorem off5_fin : ∀ a n : Fin 13, ∀ t : Fin (k0_t1_loop (BitVec.ofNat 32 n.val)).trips,
    k0_off5 (BitVec.ofNat 32 a.val) (BitVec.ofNat 32 n.val) t = ![128 * (a.val + 2 * t.val), 0] := by decide +kernel
theorem off6_fin : ∀ a n : Fin 13, ∀ t : Fin (k0_t1_loop (BitVec.ofNat 32 n.val)).trips,
    k0_off6 (BitVec.ofNat 32 a.val) (BitVec.ofNat 32 n.val) t = ![128 * (a.val + 2 * t.val), 0] := by decide +kernel

/-! One pair of experts, row by row -/

variable (v9 : BitVec 32) (xg : Vec Ideal S1536x1024 .bf16) (cw : Vec Ideal S1536x128 .f32)
variable (wg wu : Vec Ideal S2x1024x512 .bf16) (wd : Vec Ideal S2x512x1024 .bf16)

/-- What a pair of experts adds to a row. -/
def gain (s : Fin 1536) (d : Fin 1024) : EReal :=
  pick (fun l => cw (ix2 s l)) (IntOp.addi (IntOp.addi 4#32 v9) 0#32)
      * ff (fun k => xg (ix2 s k)) (fun k j => wg (ix3 0 k j)) (fun k j => wu (ix3 0 k j)) (fun j d => wd (ix3 0 j d)) d
    + pick (fun l => cw (ix2 s l)) (IntOp.addi (IntOp.addi 4#32 v9) 1#32)
      * ff (fun k => xg (ix2 s k)) (fun k j => wg (ix3 1 k j)) (fun k j => wu (ix3 1 k j)) (fun j d => wd (ix3 1 j d)) d

theorem fst5_at (w : Vec Ideal S2x1024x512 .bf16) (k : Fin 1024) (j : Fin 512) : fst5 w (ix3 0 k j) = w (ix3 0 k j) := by
  refine congrArg w (funext fun a => Fin.ext ?_)
  match a with
  | ⟨0, _⟩ => rfl
  | ⟨1, _⟩ => show 0 + 1 * k.val = k.val; omega
  | ⟨2, _⟩ => show 0 + 1 * j.val = j.val; omega
theorem snd5_at (w : Vec Ideal S2x1024x512 .bf16) (k : Fin 1024) (j : Fin 512) : snd5 w (ix3 0 k j) = w (ix3 1 k j) := by
  refine congrArg w (funext fun a => Fin.ext ?_)
  match a with
  | ⟨0, _⟩ => rfl
  | ⟨1, _⟩ => show 0 + 1 * k.val = k.val; omega
  | ⟨2, _⟩ => show 0 + 1 * j.val = j.val; omega
theorem fst7_at (w : Vec Ideal S2x512x1024 .bf16) (k : Fin 512) (j : Fin 1024) : fst7 w (ix3 0 k j) = w (ix3 0 k j) := by
  refine congrArg w (funext fun a => Fin.ext ?_)
  match a with
  | ⟨0, _⟩ => rfl
  | ⟨1, _⟩ => show 0 + 1 * k.val = k.val; omega
  | ⟨2, _⟩ => show 0 + 1 * j.val = j.val; omega
theorem snd7_at (w : Vec Ideal S2x512x1024 .bf16) (k : Fin 512) (j : Fin 1024) : snd7 w (ix3 0 k j) = w (ix3 1 k j) := by
  refine congrArg w (funext fun a => Fin.ext ?_)
  match a with
  | ⟨0, _⟩ => rfl
  | ⟨1, _⟩ => show 0 + 1 * k.val = k.val; omega
  | ⟨2, _⟩ => show 0 + 1 * j.val = j.val; omega

theorem fst5_fn (w : Vec Ideal S2x1024x512 .bf16) : (fun (k : Fin 1024) (j : Fin 512) => fst5 w (ix3 0 k j)) = fun k j => w (ix3 0 k j) := by
  funext k j; exact fst5_at w k j
theorem snd5_fn (w : Vec Ideal S2x1024x512 .bf16) : (fun (k : Fin 1024) (j : Fin 512) => snd5 w (ix3 0 k j)) = fun k j => w (ix3 1 k j) := by
  funext k j; exact snd5_at w k j
theorem fst7_fn (w : Vec Ideal S2x512x1024 .bf16) : (fun (k : Fin 512) (j : Fin 1024) => fst7 w (ix3 0 k j)) = fun k j => w (ix3 0 k j) := by
  funext k j; exact fst7_at w k j
theorem snd7_fn (w : Vec Ideal S2x512x1024 .bf16) : (fun (k : Fin 512) (j : Fin 1024) => snd7 w (ix3 0 k j)) = fun k j => w (ix3 1 k j) := by
  funext k j; exact snd7_at w k j

/-- A row after a step: the gain where the row lies in `[lo, hi)`. -/
def upd (lo hi : ℕ) (y : Vec Ideal S1536x1024 .f32) (C : Fin 1536 → Fin 1024 → EReal) (s : Fin 1536) (d : Fin 1024) : EReal :=
  if lo ≤ s.val ∧ s.val < hi then y (ix2 s d) + C s d else y (ix2 s d)

theorem yTwo_at (v28 v31 : BitVec 32) (hw : k0_chk1 v28 v31) (h4 : k0_cond4 v31 = 1#1) (t : Fin (k0_t1_loop v31).trips) (y : Vec Ideal S1536x1024 .f32)
    (o : ℕ) (h5 : k0_off5 v28 v31 t = ![o, 0]) (h6 : k0_off6 v28 v31 t = ![o, 0]) (s : Fin 1536) (d : Fin 1024) :
    yTwo v9 v28 v31 xg cw wg wu wd hw h4 t y (ix2 s d) = upd o (o + 256) y (gain v9 xg cw wg wu wd) s d := by
  unfold yTwo
  have e1 : ∀ (s : Fin 256) (hs : o + s.val < 1536), (fun k => VecWindow.window xg (k0_off5 v28 v31 t) S256x1024.size (k0_off5_inb v28 v31 hw t h4) (ix2 s k)) = fun k => xg (ix2 ⟨o + s.val, hs⟩ k) :=
    fun s hs => funext fun k => win_at (N := 256) xg (k0_off5_inb v28 v31 hw t h4) o (h5) s k hs
  have e2 : ∀ (s : Fin 256) (hs : o + s.val < 1536), (fun l => VecWindow.window cw (k0_off6 v28 v31 t) S256x128.size (k0_off6_inb v28 v31 hw t h4) (ix2 s l)) = fun l => cw (ix2 ⟨o + s.val, hs⟩ l) :=
    fun s hs => funext fun l => win_at (N := 256) cw (k0_off6_inb v28 v31 hw t h4) o (h6) s l hs
  have hb := (k0_off5_inb v28 v31 hw t h4) 0
  rw [show (k0_off5 v28 v31 t) 0 = o from congrFun (h5) 0] at hb
  have hb' : o + 256 ≤ 1536 := hb
  refine put_at (N := 256) y _ o (h5) s d _ (fun hs => ?_) (fun hs => ?_)
  · have hs' : o + (⟨s.val - o, by omega⟩ : Fin 256).val < 1536 := by show o + (s.val - o) < 1536; omega
    have es : (⟨o + (⟨s.val - o, by omega⟩ : Fin 256).val, hs'⟩ : Fin 1536) = s := Fin.ext (by show o + (s.val - o) = s.val; omega)
    unfold payTwo upd
    rw [if_pos hs]
    refine (both256 ..).trans ?_
    rw [first256, e1 _ hs', e2 _ hs', win_at (N := 256) y (k0_off5_inb v28 v31 hw t h4) o (h5) _ d hs', es]
    unfold gain
    rw [fst5_fn wg, fst5_fn wu, fst7_fn wd, snd5_fn wg, snd5_fn wu, snd7_fn wd]
    try rfl
  · unfold upd; rw [if_neg hs]

theorem yOne_at (v28 v31 : BitVec 32) (hw : k0_chk1 v28 v31) (h4 : k0_cond4 v31 = 1#1) (h5 : k0_cond5 v31 = 1#1) (y : Vec Ideal S1536x1024 .f32)
    (o : ℕ) (h9 : k0_off9 v28 v31 = ![o, 0]) (h10 : k0_off10 v28 v31 = ![o, 0]) (s : Fin 1536) (d : Fin 1024) :
    yOne v9 v28 v31 xg cw wg wu wd hw h4 h5 y (ix2 s d) = upd o (o + 128) y (gain v9 xg cw wg wu wd) s d := by
  unfold yOne
  have e1 : ∀ (s : Fin 128) (hs : o + s.val < 1536), (fun k => VecWindow.window xg (k0_off9 v28 v31) S128x1024.size (k0_off9_inb v28 v31 hw h4 h5) (ix2 s k)) = fun k => xg (ix2 ⟨o + s.val, hs⟩ k) :=
    fun s hs => funext fun k => win_at (N := 128) xg (k0_off9_inb v28 v31 hw h4 h5) o (h9) s k hs
  have e2 : ∀ (s : Fin 128) (hs : o + s.val < 1536), (fun l => VecWindow.window cw (k0_off10 v28 v31) S128x128.size (k0_off10_inb v28 v31 hw h4 h5) (ix2 s l)) = fun l => cw (ix2 ⟨o + s.val, hs⟩ l) :=
    fun s hs => funext fun l => win_at (N := 128) cw (k0_off10_inb v28 v31 hw h4 h5) o (h10) s l hs
  have hb := (k0_off9_inb v28 v31 hw h4 h5) 0
  rw [show (k0_off9 v28 v31) 0 = o from congrFun (h9) 0] at hb
  have hb' : o + 128 ≤ 1536 := hb
  refine put_at (N := 128) y _ o (h9) s d _ (fun hs => ?_) (fun hs => ?_)
  · have hs' : o + (⟨s.val - o, by omega⟩ : Fin 128).val < 1536 := by show o + (s.val - o) < 1536; omega
    have es : (⟨o + (⟨s.val - o, by omega⟩ : Fin 128).val, hs'⟩ : Fin 1536) = s := Fin.ext (by show o + (s.val - o) = s.val; omega)
    unfold payOne upd
    rw [if_pos hs]
    refine (both128 ..).trans ?_
    rw [first128, e1 _ hs', e2 _ hs', win_at (N := 128) y (k0_off9_inb v28 v31 hw h4 h5) o (h9) _ d hs', es]
    unfold gain
    rw [fst5_fn wg, fst5_fn wu, fst7_fn wd, snd5_fn wg, snd5_fn wu, snd7_fn wd]
    try rfl
  · unfold upd; rw [if_neg hs]

theorem yThree_at (i : grid0.Coords) (v28 v31 : BitVec 32) (hw : k0_chk1 v28 v31) (h3 : k0_cond3 v31 = 1#1) (y : Vec Ideal S1536x1024 .f32)
    (o : ℕ) (h3o : k0_off3 v28 = ![o, 0]) (h4o : k0_off4 v28 = ![o, 0]) (s : Fin 1536) (d : Fin 1024) :
    yThree v28 v31 i xg cw wg wu wd hw h3 y (ix2 s d) = upd o (o + 384) y (gain (IntOp.muli (BitVec.ofNat 32 (i 1).val) 2#32) xg cw wg wu wd) s d := by
  unfold yThree
  have e1 : ∀ (s : Fin 384) (hs : o + s.val < 1536), (fun k => VecWindow.window xg (k0_off3 v28) S384x1024.size (k0_off3_inb v28 v31 hw h3) (ix2 s k)) = fun k => xg (ix2 ⟨o + s.val, hs⟩ k) :=
    fun s hs => funext fun k => win_at (N := 384) xg (k0_off3_inb v28 v31 hw h3) o (h3o) s k hs
  have e2 : ∀ (s : Fin 384) (hs : o + s.val < 1536), (fun l => VecWindow.window cw (k0_off4 v28) S384x128.size (k0_off4_inb v28 v31 hw h3) (ix2 s l)) = fun l => cw (ix2 ⟨o + s.val, hs⟩ l) :=
    fun s hs => funext fun l => win_at (N := 384) cw (k0_off4_inb v28 v31 hw h3) o (h4o) s l hs
  have hb := (k0_off3_inb v28 v31 hw h3) 0
  rw [show (k0_off3 v28) 0 = o from congrFun (h3o) 0] at hb
  have hb' : o + 384 ≤ 1536 := hb
  refine put_at (N := 384) y _ o (h3o) s d _ (fun hs => ?_) (fun hs => ?_)
  · have hs' : o + (⟨s.val - o, by omega⟩ : Fin 384).val < 1536 := by show o + (s.val - o) < 1536; omega
    have es : (⟨o + (⟨s.val - o, by omega⟩ : Fin 384).val, hs'⟩ : Fin 1536) = s := Fin.ext (by show o + (s.val - o) = s.val; omega)
    unfold payThree upd
    rw [if_pos hs]
    refine (both384 ..).trans ?_
    rw [first384, e1 _ hs', e2 _ hs', win_at (N := 384) y (k0_off3_inb v28 v31 hw h3) o (h3o) _ d hs', es]
    unfold gain
    rw [fst5_fn wg, fst5_fn wu, fst7_fn wd, snd5_fn wg, snd5_fn wu, snd7_fn wd]
    try rfl
  · unfold upd; rw [if_neg hs]

theorem yTwos_at (v28 v31 : BitVec 32) (hw : k0_chk1 v28 v31) (h4 : k0_cond4 v31 = 1#1) (y : Vec Ideal S1536x1024 .f32) (a : ℕ)
    (h5 : ∀ t, k0_off5 v28 v31 t = ![128 * (a + 2 * t.val), 0]) (h6 : ∀ t, k0_off6 v28 v31 t = ![128 * (a + 2 * t.val), 0])
    (s : Fin 1536) (d : Fin 1024) : ∀ k, k ≤ (k0_t1_loop v31).trips →
    yTwos v9 v28 v31 xg cw wg wu wd hw h4 y k (ix2 s d) = upd (128 * a) (128 * (a + 2 * k)) y (gain v9 xg cw wg wu wd) s d := by
  intro k
  induction k with
  | zero => intro _; unfold yTwos upd; rw [if_neg (by omega)]
  | succ k ih =>
    intro hk
    have ih := ih (by omega)
    unfold yTwos
    rw [dif_pos (show k < (k0_t1_loop v31).trips by omega), yTwo_at v9 xg cw wg wu wd v28 v31 hw h4 ⟨k, by omega⟩ _ _ (h5 _) (h6 _)]
    unfold upd at ih ⊢
    rw [ih]
    by_cases h1 : 128 * a ≤ s.val ∧ s.val < 128 * (a + 2 * k)
    · have : ¬ (128 * (a + 2 * k) ≤ s.val ∧ s.val < 128 * (a + 2 * k) + 256) := by omega
      rw [if_neg this, if_pos h1, if_pos (by omega)]
    · rw [if_neg h1]
      by_cases h2 : 128 * (a + 2 * k) ≤ s.val ∧ s.val < 128 * (a + 2 * k) + 256
      · rw [if_pos h2, if_pos (by omega)]
      · rw [if_neg h2, if_neg (by omega)]

theorem yS_at (i : grid0.Coords) (a n : ℕ) (han : a + n ≤ 12) (y : Vec Ideal S1536x1024 .f32) (s : Fin 1536) (d : Fin 1024) :
    yS (BitVec.ofNat 32 a) (BitVec.ofNat 32 n) i xg cw wg wu wd y (ix2 s d)
      = upd (128 * a) (128 * (a + n)) y (gain (IntOp.muli (BitVec.ofNat 32 (i 1).val) 2#32) xg cw wg wu wd) s d := by
  have hc : k0_chk1 (BitVec.ofNat 32 a) (BitVec.ofNat 32 n) := chk_fin ⟨a, by omega⟩ ⟨n, by omega⟩ han
  rw [← yS_of hc]
  have c3 := cond3_fin ⟨n, by omega⟩
  have c4 := cond4_fin ⟨n, by omega⟩
  have c5 := cond5_fin ⟨n, by omega⟩
  have tr := trips_fin ⟨n, by omega⟩
  dsimp only at c3 c4 c5 tr
  unfold yStep
  by_cases h3 : n = 3
  · rw [dif_pos (c3.2 h3), yThree_at xg cw wg wu wd i _ _ hc (c3.2 h3) y (128 * a) (off3_fin ⟨a, by omega⟩) (off4_fin ⟨a, by omega⟩)]
    rw [show 128 * a + 384 = 128 * (a + n) by omega]
  · have h4 := c4.2 h3
    have two := yTwos_at (IntOp.muli (BitVec.ofNat 32 (i 1).val) 2#32) xg cw wg wu wd _ _ hc h4 y a (off5_fin ⟨a, by omega⟩ ⟨n, by omega⟩) (off6_fin ⟨a, by omega⟩ ⟨n, by omega⟩) s d _ (le_refl _)
    rw [dif_neg (fun h => h3 (c3.1 h)), dif_pos h4]
    by_cases h5 : n % 2 = 1
    · rw [dif_pos (c5.2 h5)]
      rw [yOne_at _ xg cw wg wu wd _ _ hc h4 (c5.2 h5) _ (128 * (a + n - 1)) (off9_fin ⟨a, by omega⟩ ⟨n, by omega⟩ (by show n ≠ 0; omega)) (off10_fin ⟨a, by omega⟩ ⟨n, by omega⟩ (by show n ≠ 0; omega))]
      unfold upd at two ⊢
      rw [show (Scalar.muli (BitVec.ofNat 32 (i 1).val) 2#32) = IntOp.muli (BitVec.ofNat 32 (i 1).val) 2#32 from rfl, two, tr]
      by_cases h1 : 128 * a ≤ s.val ∧ s.val < 128 * (a + 2 * (n / 2))
      · rw [if_pos h1, if_neg (by omega), if_pos (by omega)]
      · rw [if_neg h1]
        by_cases h2 : 128 * (a + n - 1) ≤ s.val ∧ s.val < 128 * (a + n - 1) + 128
        · rw [if_pos h2, if_pos (by omega)]
        · rw [if_neg h2, if_neg (by omega)]
    · rw [dif_neg (fun h => h5 (c5.1 h))]
      refine two.trans ?_
      rw [tr, show a + 2 * (n / 2) = a + n by omega]

end Cert.Proof.Moe

end
-- ==== Proof.Moe.Order.lean ====
/- The first greatest and second greatest of four numbers: by a stable sort, and by a search of lanes. -/
module

public import Idealize.ShloMosaic.Lib.Pointwise

@[expose] public section

noncomputable section

namespace Cert.Proof.Moe

open Idealize.ShloMosaic

/-- `p` is the first of the greatest. -/
def First {n : ℕ} {α : Type} [LinearOrder α] (f : Fin n → α) (p : Fin n) : Prop := (∀ k, f k ≤ f p) ∧ ∀ k, k < p → f k < f p

/-- `p` is the first of the greatest besides `a`. -/
def Next {n : ℕ} {α : Type} [LinearOrder α] (f : Fin n → α) (a p : Fin n) : Prop :=
  p ≠ a ∧ (∀ k, k ≠ a → f k ≤ f p) ∧ ∀ k, k ≠ a → k < p → f k < f p

theorem First.unique {n : ℕ} {α : Type} [LinearOrder α] {f : Fin n → α} {p q : Fin n} (hp : First f p) (hq : First f q) : p = q := by
  rcases lt_trichotomy p q with h | h | h
  · exact absurd (hq.2 p h) (not_lt.2 (hp.1 q))
  · exact h
  · exact absurd (hp.2 q h) (not_lt.2 (hq.1 p))

theorem Next.unique {n : ℕ} {α : Type} [LinearOrder α] {f : Fin n → α} {a p q : Fin n} (hp : Next f a p) (hq : Next f a q) : p = q := by
  rcases lt_trichotomy p q with h | h | h
  · exact absurd (hq.2.2 p hp.1 h) (not_lt.2 (hp.2.1 q hq.1))
  · exact h
  · exact absurd (hp.2.2 q hq.1 h) (not_lt.2 (hq.2.1 p hp.1))

theorem sorted_fin : ∀ a b c d : Fin 4, let r : Fin 4 → Fin 4 := ![a, b, c, d]
    let s := fun k => sortedFrom (fun i j => decide (r j < r i)) k
    ((∀ k, r k ≤ r (s 0)) ∧ ∀ k, k < s 0 → r k < r (s 0))
    ∧ (s 1 ≠ s 0 ∧ (∀ k, k ≠ s 0 → r k ≤ r (s 1)) ∧ ∀ k, k ≠ s 0 → k < s 1 → r k < r (s 1)) := by decide +kernel

variable {α : Type} [LinearOrder α]

/-- How many of the four are less. -/
def below (f : Fin 4 → α) (i : Fin 4) : Fin 4 :=
  ⟨(Finset.univ.filter fun j => f j < f i).card, by
    have : (Finset.univ.filter fun j => f j < f i) ⊂ Finset.univ := by
      refine Finset.ssubset_univ_iff.2 fun h => ?_
      have := Finset.mem_univ i
      rw [← h] at this
      exact lt_irrefl _ (Finset.mem_filter.1 this).2
    simpa using Finset.card_lt_card this⟩

theorem below_lt (f : Fin 4 → α) (i j : Fin 4) : below f j < below f i ↔ f j < f i := by
  have key : ∀ i j : Fin 4, f j < f i → below f j < below f i := by
    intro i j h
    show (Finset.univ.filter fun k => f k < f j).card < (Finset.univ.filter fun k => f k < f i).card
    refine Finset.card_lt_card ?_
    refine Finset.ssubset_iff_of_subset (fun k hk => ?_) |>.2 ⟨j, ?_, ?_⟩
    · exact Finset.mem_filter.2 ⟨Finset.mem_univ _, lt_trans (Finset.mem_filter.1 hk).2 h⟩
    · exact Finset.mem_filter.2 ⟨Finset.mem_univ _, h⟩
    · exact fun h' => lt_irrefl _ (Finset.mem_filter.1 h').2
  refine ⟨fun h => ?_, key i j⟩
  by_contra hn
  rcases lt_or_eq_of_le (not_lt.1 hn) with h' | h'
  · exact absurd (key j i h') (not_lt.2 h.le)
  · have : below f i = below f j := by unfold below; simp [h']
    rw [this] at h; exact lt_irrefl _ h

theorem below_le (f : Fin 4 → α) (i j : Fin 4) : below f j ≤ below f i ↔ f j ≤ f i := by
  rw [← not_lt, ← not_lt, below_lt]

theorem sorted_of (f : Fin 4 → α) (before : Fin 4 → Fin 4 → Bool) (hb : ∀ i j, before i j = true ↔ f j < f i) :
    First f (sortedFrom before 0) ∧ Next f (sortedFrom before 0) (sortedFrom before 1) := by
  have e : before = fun i j => decide (below f j < below f i) := by
    funext i j
    apply Bool.eq_iff_iff.2
    rw [hb, decide_eq_true_iff, below_lt]
  rw [e]
  have hr : below f = ![below f 0, below f 1, below f 2, below f 3] := by funext i; fin_cases i <;> rfl
  have h := sorted_fin (below f 0) (below f 1) (below f 2) (below f 3)
  rw [← hr] at h
  simp only [below_lt, below_le] at h
  simp only [below_lt]
  exact h

theorem exists_first (f : Fin 4 → α) : ∃ p, First f p :=
  ⟨_, (sorted_of f (fun i j => decide (f j < f i)) (fun i j => decide_eq_true_iff)).1⟩

theorem exists_next (f : Fin 4 → α) (a : Fin 4) (ha : First f a) : ∃ p, Next f a p := by
  have h := sorted_of f (fun i j => decide (f j < f i)) (fun i j => decide_eq_true_iff)
  rw [h.1.unique ha] at h
  exact ⟨_, h.2⟩

/-- The first greatest of four. -/
def top (f : Fin 4 → α) : Fin 4 := (exists_first f).choose
theorem top_first (f : Fin 4 → α) : First f (top f) := (exists_first f).choose_spec
/-- The second greatest of four. -/
def second (f : Fin 4 → α) : Fin 4 := (exists_next f (top f) (top_first f)).choose
theorem second_next (f : Fin 4 → α) : Next f (top f) (second f) := (exists_next f (top f) (top_first f)).choose_spec

/-! A search of 128 lanes -/

theorem fold_max_of {n : ℕ} (f : Fin n → EReal) (p : Fin n) (h : ∀ k, f k ≤ f p) : Finset.fold max ⊥ f Finset.univ = f p := by
  apply le_antisymm
  · exact Finset.fold_max_le _ |>.2 ⟨bot_le, fun k _ => h k⟩
  · exact Finset.le_fold_max _ |>.2 (Or.inr ⟨p, Finset.mem_univ _, le_refl _⟩)

theorem minsi_int (a b : BitVec 32) : (IntOp.minsi a b).toInt = min a.toInt b.toInt := by
  unfold IntOp.minsi
  by_cases h : a.toInt < b.toInt
  · simp [BitVec.slt, h, h.le]
  · simp [BitVec.slt, h, not_lt.1 h]

theorem fold_first (f : Fin 128 → EReal) (M : EReal) (p : Fin 128) (hp : f p = M) (h : ∀ k, k < p → f k ≠ M) :
    Finset.fold IntOp.minsi (2147483647#32) (fun k : Fin 128 => if f k = M then BitVec.ofNat 32 k.val else 128#32) Finset.univ
      = BitVec.ofNat 32 p.val := by
  have hof : ∀ k : Fin 128, (BitVec.ofNat 32 k.val).toInt = (k.val : ℤ) := by decide +kernel
  apply BitVec.eq_of_toInt_eq
  rw [← Finset.fold_hom (op' := min) (m := BitVec.toInt) minsi_int, hof]
  apply le_antisymm
  · refine Finset.fold_min_le _ |>.2 (Or.inr ⟨p, Finset.mem_univ _, ?_⟩)
    rw [if_pos hp, hof]
  · refine Finset.le_fold_min _ |>.2 ⟨?_, fun k _ => ?_⟩
    · have : (2147483647#32).toInt = 2147483647 := by decide
      rw [this]; have := p.isLt; omega
    · split
      · rename_i hk
        rw [hof]
        by_contra hc
        exact h k (Fin.lt_def.2 (by omega)) hk
      · have : (128#32).toInt = 128 := by decide
        rw [this]; have := p.isLt; omega

end Cert.Proof.Moe

end
-- ==== Proof.Moe.Choice.lean ====
/- The choice of a group and of two experts, as a search of lanes and as a function of the logits. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
public import proofs.«01_k».proof.Proof.Moe.Order
public import proofs.«01_k».proof.Proof.Moe.Counts
@[expose] public section

set_option maxRecDepth 65536

noncomputable section

namespace Cert.Proof.Moe

open Cert.KernelIdeal Cert.KernelIdeal.Gen
open Idealize.ShloMosaic

/-! Words of lanes -/

theorem sel_eq {α : Type} (c : BitVec 1) (p : Prop) [Decidable p] (h : c = 1#1 ↔ p) (a b : α) : Scalar.select c a b = if p then a else b := by
  unfold Scalar.select
  by_cases hp : p
  · rw [if_pos hp]; exact if_pos (h.2 hp)
  · rw [if_neg hp]; exact if_neg (fun hc => hp (h.1 hc))

theorem lane_lt4 : ∀ l : Fin 128, IntOp.cmpi CmpIPredicate.slt (BitVec.ofNat 32 l.val) 4#32 = 1#1 ↔ l.val < 4 := by decide +kernel

theorem lane_band : ∀ (k : Fin 4) (l : Fin 128), IntOp.andi
    (IntOp.cmpi CmpIPredicate.sge (BitVec.ofNat 32 l.val) (IntOp.addi 4#32 (IntOp.muli 4#32 (BitVec.ofNat 32 k.val))))
    (IntOp.cmpi CmpIPredicate.slt (BitVec.ofNat 32 l.val) (IntOp.addi (IntOp.addi 4#32 (IntOp.muli 4#32 (BitVec.ofNat 32 k.val))) 4#32)) = 1#1
    ↔ 4 + 4 * k.val ≤ l.val ∧ l.val < 8 + 4 * k.val := by decide +kernel

theorem bot_word : Ideal.ofBits .f32 0xFF800000#32 = ⊥ := by
  pointwise []
  try rfl

/-! The choice as a function of the logits -/

/-- The probability weight of the chosen group. -/
def weight (G : Fin 4 → ℝ) : ℝ := 1 / ∑ k, Real.exp (G k - G (top G))

/-- The ratio of the second chosen expert to the first. -/
def ratio (f : Fin 4 → ℝ) : ℝ := Real.exp (f (second f) - f (top f))

/-- The weight of expert `e` in a token's result. -/
def share (G : Fin 4 → ℝ) (E : Fin 4 → Fin 4 → ℝ) (e : ℕ) : ℝ :=
  (if e = 4 * (top G).val + (top (E (top G))).val then weight G * (1 / (1 + ratio (E (top G)))) else 0)
    + if e = 4 * (top G).val + (second (E (top G))).val then weight G * (ratio (E (top G)) / (1 + ratio (E (top G)))) else 0

/-- Four lanes from lane `o`. -/
def four (f : Fin 128 → ℝ) (o : ℕ) (ho : o ≤ 124) (k : Fin 4) : ℝ := f ⟨o + k.val, by omega⟩

/-- The group logits among the lanes. -/
abbrev groups (f : Fin 128 → ℝ) : Fin 4 → ℝ := four f 0 (by omega)
/-- The expert logits among the lanes. -/
abbrev experts (f : Fin 128 → ℝ) (k : Fin 4) : Fin 4 → ℝ := four f (4 + 4 * k.val) (by omega)

/-- Lanes `o` to `o + 3` of `f`, the least number elsewhere. -/
def masked (f : Fin 128 → ℝ) (o : ℕ) (l : Fin 128) : EReal := if o ≤ l.val ∧ l.val < o + 4 then ((f l : ℝ) : EReal) else ⊥

theorem masked_at (f : Fin 128 → ℝ) (o : ℕ) (ho : o ≤ 124) (k : Fin 4) : masked f o ⟨o + k.val, by omega⟩ = ((four f o ho k : ℝ) : EReal) := by
  unfold masked; rw [if_pos ⟨by show o ≤ o + k.val; omega, by show o + k.val < o + 4; omega⟩]; rfl

theorem masked_cases (f : Fin 128 → ℝ) (o : ℕ) (ho : o ≤ 124) (l : Fin 128) :
    (∃ k : Fin 4, l.val = o + k.val ∧ masked f o l = ((four f o ho k : ℝ) : EReal)) ∨ masked f o l = ⊥ := by
  by_cases h : o ≤ l.val ∧ l.val < o + 4
  · refine Or.inl ⟨⟨l.val - o, by omega⟩, by show l.val = o + (l.val - o); omega, ?_⟩
    have := masked_at f o ho ⟨l.val - o, by omega⟩
    rw [← this]; congr 1; apply Fin.ext; show l.val = o + (l.val - o); omega
  · exact Or.inr (by unfold masked; rw [if_neg h])

theorem masked_max (f : Fin 128 → ℝ) (o : ℕ) (ho : o ≤ 124) :
    Finset.fold max ⊥ (masked f o) Finset.univ = ((four f o ho (top (four f o ho)) : ℝ) : EReal) := by
  have ht := top_first (four f o ho)
  rw [← masked_at f o ho]
  apply fold_max_of
  intro l
  rw [masked_at f o ho]
  rcases masked_cases f o ho l with ⟨k, _, h⟩ | h
  · rw [h]; exact EReal.coe_le_coe_iff.2 (ht.1 k)
  · rw [h]; exact bot_le

theorem masked_first (f : Fin 128 → ℝ) (o : ℕ) (ho : o ≤ 124) :
    Finset.fold IntOp.minsi (2147483647#32) (fun k : Fin 128 => if masked f o k = ((four f o ho (top (four f o ho)) : ℝ) : EReal) then BitVec.ofNat 32 k.val else 128#32) Finset.univ
      = BitVec.ofNat 32 (o + (top (four f o ho)).val) := by
  have ht := top_first (four f o ho)
  refine fold_first (masked f o) _ ⟨o + (top (four f o ho)).val, by omega⟩ (masked_at f o ho _) (fun l hl => ?_)
  rcases masked_cases f o ho l with ⟨k, hk, h⟩ | h
  · rw [h]
    have : k < top (four f o ho) := by
      have := Fin.lt_def.1 hl
      rw [hk] at this
      exact Fin.lt_def.2 (by simpa using this)
    exact ne_of_lt (EReal.coe_lt_coe_iff.2 (ht.2 k this))
  · rw [h]; exact (EReal.bot_lt_coe _).ne

/-- The lanes with one more left out. -/
def masked' (f : Fin 128 → ℝ) (o p : ℕ) (l : Fin 128) : EReal := if l.val = p then ⊥ else masked f o l

theorem masked'_at (f : Fin 128 → ℝ) (o : ℕ) (ho : o ≤ 124) (a k : Fin 4) (h : k ≠ a) :
    masked' f o (o + a.val) ⟨o + k.val, by omega⟩ = ((four f o ho k : ℝ) : EReal) := by
  unfold masked'; rw [if_neg, masked_at f o ho]
  intro h'; exact h (Fin.ext (by have : o + k.val = o + a.val := h'; omega))

theorem masked'_cases (f : Fin 128 → ℝ) (o : ℕ) (ho : o ≤ 124) (a : Fin 4) (l : Fin 128) :
    (∃ k : Fin 4, k ≠ a ∧ l.val = o + k.val ∧ masked' f o (o + a.val) l = ((four f o ho k : ℝ) : EReal)) ∨ masked' f o (o + a.val) l = ⊥ := by
  by_cases hl : l.val = o + a.val
  · exact Or.inr (by unfold masked'; rw [if_pos hl])
  · unfold masked'; rw [if_neg hl]
    rcases masked_cases f o ho l with ⟨k, hk, h⟩ | h
    · exact Or.inl ⟨k, fun e => hl (by rw [hk, e]), hk, h⟩
    · exact Or.inr h

theorem masked'_max (f : Fin 128 → ℝ) (o : ℕ) (ho : o ≤ 124) :
    Finset.fold max ⊥ (masked' f o (o + (top (four f o ho)).val)) Finset.univ = ((four f o ho (second (four f o ho)) : ℝ) : EReal) := by
  have ht := second_next (four f o ho)
  rw [← masked'_at f o ho _ _ ht.1]
  apply fold_max_of
  intro l
  rw [masked'_at f o ho _ _ ht.1]
  rcases masked'_cases f o ho (top (four f o ho)) l with ⟨k, hk, _, h⟩ | h
  · rw [h]; exact EReal.coe_le_coe_iff.2 (ht.2.1 k hk)
  · rw [h]; exact bot_le

theorem masked'_first (f : Fin 128 → ℝ) (o : ℕ) (ho : o ≤ 124) :
    Finset.fold IntOp.minsi (2147483647#32) (fun k : Fin 128 => if masked' f o (o + (top (four f o ho)).val) k = ((four f o ho (second (four f o ho)) : ℝ) : EReal) then BitVec.ofNat 32 k.val else 128#32) Finset.univ
      = BitVec.ofNat 32 (o + (second (four f o ho)).val) := by
  have ht := second_next (four f o ho)
  refine fold_first (masked' f o _) _ ⟨o + (second (four f o ho)).val, by omega⟩ (masked'_at f o ho _ _ ht.1) (fun l hl => ?_)
  rcases masked'_cases f o ho (top (four f o ho)) l with ⟨k, hka, hk, h⟩ | h
  · rw [h]
    have : k < second (four f o ho) := by
      have := Fin.lt_def.1 hl
      rw [hk] at this
      exact Fin.lt_def.2 (by simpa using this)
    exact ne_of_lt (EReal.coe_lt_coe_iff.2 (ht.2.2 k hka this))
  · rw [h]; exact (EReal.bot_lt_coe _).ne

theorem masked_sum (f : Fin 128 → ℝ) (o : ℕ) (ho : o ≤ 124) (c : ℝ) :
    ∑ l : Fin 128, Ideal.exp (masked f o l - (c : EReal)) = ((∑ k : Fin 4, Real.exp (four f o ho k - c) : ℝ) : EReal) := by
  rw [sum_coe]
  have e : ∀ l : Fin 128, Ideal.exp (masked f o l - (c : EReal)) = ∑ k : Fin 4, if l.val = o + k.val then ((Real.exp (four f o ho k - c) : ℝ) : EReal) else 0 := by
    intro l
    by_cases hl : o ≤ l.val ∧ l.val < o + 4
    · rw [Finset.sum_eq_single (⟨l.val - o, by omega⟩ : Fin 4)]
      · rw [if_pos (by show l.val = o + (l.val - o); omega)]
        have : masked f o l = ((four f o ho ⟨l.val - o, by omega⟩ : ℝ) : EReal) := by
          rw [← masked_at f o ho]; congr 1; apply Fin.ext; show l.val = o + (l.val - o); omega
        rw [this, ← EReal.coe_sub]; rfl
      · intro k _ hk; rw [if_neg]; intro h; exact hk (Fin.ext (by show k.val = l.val - o; omega))
      · intro h; exact absurd (Finset.mem_univ _) h
    · have : masked f o l = ⊥ := by unfold masked; rw [if_neg hl]
      rw [this, Finset.sum_eq_zero (fun k _ => if_neg (by omega))]
      rw [EReal.bot_sub]; rfl
  rw [Finset.sum_congr rfl (fun l _ => e l), Finset.sum_comm]
  refine Finset.sum_congr rfl (fun k _ => ?_)
  rw [Finset.sum_eq_single (⟨o + k.val, by omega⟩ : Fin 128)]
  · rw [if_pos rfl]
  · intro l _ hl; rw [if_neg]; intro h; exact hl (Fin.ext h)
  · intro h; exact absurd (Finset.mem_univ _) h

end Cert.Proof.Moe

end
-- ==== Proof.Moe.Route.lean ====
/- The routing of a token: its group, the group's weight, and the weights of its two experts. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
public import proofs.«01_k».proof.Proof.Moe.Choice
@[expose] public section

set_option maxRecDepth 65536

noncomputable section

namespace Cert.Proof.Moe

open Cert.KernelIdeal Cert.KernelIdeal.Gen
open Idealize.ShloMosaic

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul]; rfl

theorem exp_coe (a : ℝ) : Ideal.exp (a : EReal) = ((Real.exp a : ℝ) : EReal) := rfl

theorem lane_at (r : Fin 1024) (l : Fin 128) : lane (ix2 r l) = BitVec.ofNat 32 l.val := by
  unfold lane
  pointwise []
  try rfl

theorem weight_den (G : Fin 4 → ℝ) : (0 : ℝ) < ∑ k, Real.exp (G k - G (top G)) :=
  Finset.sum_pos (fun k _ => Real.exp_pos _) ⟨0, Finset.mem_univ _⟩

section Row

variable (x : Vec Ideal S1024x1024 .f32) (wr : Vec Ideal S1024x128 .f32) (br : Vec Ideal S1x128 .f32)
variable (r : Fin 1024) (f : Fin 128 → ℝ) (hf : ∀ l, k0_pay5 x wr wr br (ix2 r l) = ((f l : ℝ) : EReal))
include hf

theorem group_lane (l : Fin 128) : Scalar.select (IntOp.cmpi CmpIPredicate.slt (BitVec.ofNat 32 l.val) 4#32) (k0_pay5 x wr wr br (ix2 r l))
    (Ideal.ofBits FTy.f32 4286578688#32) = masked f 0 l := by
  rw [sel_eq _ _ (lane_lt4 l), hf, bot_word]
  unfold masked
  by_cases h : l.val < 4
  · rw [if_pos h, if_pos (by omega)]
  · rw [if_neg h, if_neg (by omega)]

theorem gsel_at : gsel x wr br (ix2 r 0) = BitVec.ofNat 32 (top (groups f)).val := by
  have h := masked_first f 0 (by omega)
  rw [Nat.zero_add] at h
  unfold gsel k0_pay9 k0_pay7 k0_pay6
  pointwise [lane]
  simp only [group_lane x wr br r f hf]
  simp only [bot_word, masked_max f 0 (by omega)]
  exact h

theorem gw_at : gw x wr br (ix2 r 0) = ((weight (groups f) : ℝ) : EReal) := by
  unfold gw k0_pay8 k0_pay7 k0_pay6
  pointwise [lane]
  simp only [group_lane x wr br r f hf]
  simp only [bot_word, masked_max f 0 (by omega)]
  rw [masked_sum f 0 (by omega), ← EReal.coe_one, div_coe _ _ (weight_den (groups f)).ne']
  rfl

end Row

section Experts

variable (L : FVec Ideal S1024x128 .f32) (g : IVec S1024x1 32) (r : Fin 1024) (f : Fin 128 → ℝ) (k : Fin 4)
variable (hL : ∀ l, L (ix2 r l) = ((f l : ℝ) : EReal)) (hg : g (ix2 r 0) = BitVec.ofNat 32 k.val)
include hL hg

theorem pay10_at (l : Fin 128) : k0_pay10 (F := Ideal) lane L g (ix2 r l) = masked f (4 + 4 * k.val) l := by
  unfold k0_pay10
  pointwise [lane]
  rw [hg, sel_eq _ _ (lane_band k l), hL, bot_word]
  unfold masked
  by_cases h : 4 + 4 * k.val ≤ l.val ∧ l.val < 8 + 4 * k.val
  · rw [if_pos h, if_pos (by omega)]
  · rw [if_neg h, if_neg (by omega)]

theorem pay11_at : k0_pay11 (F := Ideal) lane L g (ix2 r 0) = ((experts f k (top (experts f k)) : ℝ) : EReal) := by
  have e := pay10_at L g r f k hL hg
  unfold k0_pay11
  generalize k0_pay10 (F := Ideal) lane L g = M at e ⊢
  pointwise []
  simp only [e]
  rw [bot_word]
  exact masked_max f (4 + 4 * k.val) (by omega)

theorem pay12_at : k0_pay12 (F := Ideal) lane L g (ix2 r 0) = BitVec.ofNat 32 (4 + 4 * k.val + (top (experts f k)).val) := by
  have e := pay10_at L g r f k hL hg
  have e' := pay11_at L g r f k hL hg
  unfold k0_pay12
  generalize k0_pay10 (F := Ideal) lane L g = M at e ⊢
  generalize k0_pay11 (F := Ideal) lane L g = m at e' ⊢
  pointwise [lane]
  simp only [e, e']
  exact masked_first f (4 + 4 * k.val) (by omega)

theorem pay13_at (l : Fin 128) : k0_pay13 (F := Ideal) lane L g (ix2 r l) = masked' f (4 + 4 * k.val) (4 + 4 * k.val + (top (experts f k)).val) l := by
  have e := pay10_at L g r f k hL hg
  have e' := pay12_at L g r f k hL hg
  unfold k0_pay13
  generalize k0_pay10 (F := Ideal) lane L g = M at e ⊢
  generalize k0_pay12 (F := Ideal) lane L g = m at e' ⊢
  pointwise [lane]
  rw [e', sel_eq _ _ (lane_word l ⟨4 + 4 * k.val + (top (experts f k)).val, by omega⟩), e, bot_word]
  unfold masked'
  by_cases h : l.val = 4 + 4 * k.val + (top (experts f k)).val
  · rw [if_pos (Fin.ext h), if_pos h]
  · rw [if_neg (fun h' => h (congrArg Fin.val h')), if_neg h]

theorem pay14_at : k0_pay14 (F := Ideal) lane L g (ix2 r 0) = ((experts f k (second (experts f k)) : ℝ) : EReal) := by
  have e := pay13_at L g r f k hL hg
  unfold k0_pay14
  generalize k0_pay13 (F := Ideal) lane L g = M at e ⊢
  pointwise []
  simp only [e]
  rw [bot_word]
  exact masked'_max f (4 + 4 * k.val) (by omega)

theorem pay15_at : k0_pay15 (F := Ideal) lane L g (ix2 r 0) = BitVec.ofNat 32 (4 + 4 * k.val + (second (experts f k)).val) := by
  have e := pay13_at L g r f k hL hg
  have e' := pay14_at L g r f k hL hg
  unfold k0_pay15
  generalize k0_pay13 (F := Ideal) lane L g = M at e ⊢
  generalize k0_pay14 (F := Ideal) lane L g = m at e' ⊢
  pointwise [lane]
  simp only [e, e']
  exact masked'_first f (4 + 4 * k.val) (by omega)

theorem pay20_at (W : ℝ) (w : FVec Ideal S1024x1 .f32) (hw : w (ix2 r 0) = ((W : ℝ) : EReal)) (l : Fin 128) :
    k0_pay20 (F := Ideal) lane w (k0_pay15 lane L g) (k0_pay17 lane L g) (k0_pay18 lane L g) (k0_pay19 lane L w g) (Scalar.ofBits .f32 0x00000000#32) (ix2 r l)
      = (((if l.val = 4 + 4 * k.val + (top (experts f k)).val then W * (1 / (1 + ratio (experts f k))) else 0)
        + (if l.val = 4 + 4 * k.val + (second (experts f k)).val then W * (ratio (experts f k) / (1 + ratio (experts f k))) else 0) : ℝ) : EReal) := by
  have e12 := pay12_at L g r f k hL hg
  have e11 := pay11_at L g r f k hL hg
  have e14 := pay14_at L g r f k hL hg
  have e15 := pay15_at L g r f k hL hg
  have hp : (0 : ℝ) < 1 + ratio (experts f k) := by unfold ratio; positivity
  unfold k0_pay20 k0_pay17 k0_pay18 k0_pay19 k0_pay16
  generalize k0_pay12 (F := Ideal) lane L g = m12 at e12 ⊢
  generalize k0_pay11 (F := Ideal) lane L g = m11 at e11 ⊢
  generalize k0_pay14 (F := Ideal) lane L g = m14 at e14 ⊢
  generalize k0_pay15 (F := Ideal) lane L g = m15 at e15 ⊢
  pointwise [lane]
  rw [e12, e11, e14, e15, hw, sel_eq _ _ (lane_word l ⟨4 + 4 * k.val + (top (experts f k)).val, by omega⟩),
    sel_eq _ _ (lane_word l ⟨4 + 4 * k.val + (second (experts f k)).val, by omega⟩), ← EReal.coe_sub, exp_coe]
  rw [show Real.exp (experts f k (second (experts f k)) - experts f k (top (experts f k))) = ratio (experts f k) from rfl]
  rw [← EReal.coe_one, ← EReal.coe_add, div_coe _ _ hp.ne', div_coe _ _ hp.ne', ← EReal.coe_mul, ← EReal.coe_mul, EReal.coe_add]
  simp only [Fin.ext_iff]
  split <;> split <;> simp

end Experts

section Row

variable (x : Vec Ideal S1024x1024 .f32) (wr : Vec Ideal S1024x128 .f32) (br : Vec Ideal S1x128 .f32)
variable (r : Fin 1024) (f : Fin 128 → ℝ) (hf : ∀ l, k0_pay5 x wr wr br (ix2 r l) = ((f l : ℝ) : EReal))
include hf

theorem comb_at (l : Fin 128) : ∃ v : ℝ, combHi x wr br (ix2 r l) = (v : EReal) ∧ combLo x wr br (ix2 r l) = 0
    ∧ (4 ≤ l.val → v = share (groups f) (experts f) (l.val - 4)) := by
  have h := pay20_at (logits x wr br) (gsel x wr br) r f (top (groups f)) hf (gsel_at x wr br r f hf) _ (gw x wr br) (gw_at x wr br r f hf) l
  refine ⟨(if l.val = 4 + 4 * (top (groups f)).val + (top (experts f (top (groups f)))).val then weight (groups f) * (1 / (1 + ratio (experts f (top (groups f))))) else 0)
        + (if l.val = 4 + 4 * (top (groups f)).val + (second (experts f (top (groups f)))).val then weight (groups f) * (ratio (experts f (top (groups f))) / (1 + ratio (experts f (top (groups f))))) else 0), ?_, ?_, ?_⟩
  · unfold combHi k0_pay21
    generalize k0_pay20 (F := Ideal) _ _ _ _ _ _ _ = M at h ⊢
    pointwise []
    rw [h]
  · unfold combLo k0_pay22 k0_pay21
    generalize k0_pay20 (F := Ideal) _ _ _ _ _ _ _ = M at h ⊢
    pointwise []
    rw [h, ← EReal.coe_sub, sub_self, EReal.coe_zero]
  · intro hl
    unfold share
    exact congrArg₂ (· + ·) (if_congr (by omega) rfl rfl) (if_congr (by omega) rfl rfl)

end Row

end Cert.Proof.Moe

end
-- ==== Proof.Moe.Slots.lean ====
/- The packed row of a token: its group's first row plus its place in the group. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
public import proofs.«01_k».proof.Proof.Moe.Choice
@[expose] public section

set_option maxRecDepth 65536

noncomputable section

namespace Cert.Proof.Moe

open Cert.KernelIdeal Cert.KernelIdeal.Gen
open Idealize.ShloMosaic

variable (g : IVec S1024x1 32) (k : Fin 1024 → Fin 4) (hg : ∀ r, g (ix2 r 0) = BitVec.ofNat 32 (k r).val)

/-- A token's place among the tokens of its group. -/
def place (r : Fin 1024) : ℕ := (Finset.univ.filter fun q : Fin 1024 => q < r ∧ k q = k r).card

/-- The first tile of a group. -/
def startTile (j : ℕ) : ℕ := match j with
  | 0 => 0
  | 1 => tl g 0
  | 2 => tl g 0 + tl g 1
  | _ => tl g 0 + tl g 1 + tl g 2

/-- A token's packed row. -/
def slotN (r : Fin 1024) : ℕ := 128 * startTile g (k r).val + place k r

theorem word_inj4 : ∀ (a b : Fin 4), BitVec.ofNat 32 a.val = BitVec.ofNat 32 b.val ↔ a = b := by decide +kernel
theorem lane_word4 : ∀ (l : Fin 128) (b : Fin 4), BitVec.ofNat 32 l.val = BitVec.ofNat 32 b.val ↔ l.val = b.val := by decide +kernel

include hg in
theorem cnt_eq (j : Fin 4) : cnt g j.val = (Finset.univ.filter fun q : Fin 1024 => k q = j).card := by
  unfold cnt
  congr 1
  ext q
  simp only [Finset.mem_filter, Finset.mem_univ, true_and]
  rw [hg q, word_inj4]
  exact eq_comm

include hg in
theorem place_lt (r : Fin 1024) : place k r < cnt g (k r).val := by
  rw [cnt_eq g k hg]
  unfold place
  refine Finset.card_lt_card (Finset.ssubset_iff_of_subset (fun q hq => ?_) |>.2 ⟨r, ?_, ?_⟩)
  · exact Finset.mem_filter.2 ⟨Finset.mem_univ _, (Finset.mem_filter.1 hq).2.2⟩
  · exact Finset.mem_filter.2 ⟨Finset.mem_univ _, rfl⟩
  · exact fun h => lt_irrefl _ (Finset.mem_filter.1 h).2.1

theorem place_mono (q r : Fin 1024) (h : q < r) (hk : k q = k r) : place k q < place k r := by
  unfold place
  refine Finset.card_lt_card (Finset.ssubset_iff_of_subset (fun p hp => ?_) |>.2 ⟨q, ?_, ?_⟩)
  · have := (Finset.mem_filter.1 hp).2
    exact Finset.mem_filter.2 ⟨Finset.mem_univ _, lt_trans this.1 h, this.2.trans hk⟩
  · exact Finset.mem_filter.2 ⟨Finset.mem_univ _, h, hk⟩
  · exact fun h' => lt_irrefl _ (Finset.mem_filter.1 h').2.1

include hg in
theorem slot_in (r : Fin 1024) : 128 * startTile g (k r).val ≤ slotN g k r ∧ slotN g k r < 128 * (startTile g (k r).val + tl g (k r).val) := by
  have := place_lt g k hg r
  unfold slotN tl
  omega

theorem starts_le (a b : Fin 4) (h : a < b) : startTile g a.val + tl g a.val ≤ startTile g b.val := by
  have h' := Fin.lt_def.1 h
  match a, b with
  | ⟨0, _⟩, ⟨1, _⟩ => show 0 + tl g 0 ≤ tl g 0; omega
  | ⟨0, _⟩, ⟨2, _⟩ => show 0 + tl g 0 ≤ tl g 0 + tl g 1; omega
  | ⟨0, _⟩, ⟨3, _⟩ => show 0 + tl g 0 ≤ tl g 0 + tl g 1 + tl g 2; omega
  | ⟨1, _⟩, ⟨2, _⟩ => show tl g 0 + tl g 1 ≤ tl g 0 + tl g 1; omega
  | ⟨1, _⟩, ⟨3, _⟩ => show tl g 0 + tl g 1 ≤ tl g 0 + tl g 1 + tl g 2; omega
  | ⟨2, _⟩, ⟨3, _⟩ => show tl g 0 + tl g 1 + tl g 2 ≤ tl g 0 + tl g 1 + tl g 2; omega
  | ⟨0, _⟩, ⟨0, _⟩ => simp at h'
  | ⟨1, _⟩, ⟨0, _⟩ => simp at h'
  | ⟨1, _⟩, ⟨1, _⟩ => simp at h'
  | ⟨2, _⟩, ⟨0, _⟩ => simp at h'
  | ⟨2, _⟩, ⟨1, _⟩ => simp at h'
  | ⟨2, _⟩, ⟨2, _⟩ => simp at h'
  | ⟨3, _⟩, ⟨b, hb⟩ => simp at h'; omega

theorem starts_all : startTile g 3 + tl g 3 ≤ 12 := by
  have h := cnt_sum g
  show tl g 0 + tl g 1 + tl g 2 + tl g 3 ≤ 12
  unfold tl
  omega

theorem tile_le (j : Fin 4) : startTile g j.val + tl g j.val ≤ 12 := by
  have h := starts_all g
  rcases lt_or_eq_of_le (show j ≤ 3 from Fin.le_def.2 (by have := j.isLt; show j.val ≤ 3; omega)) with h' | h'
  · have := starts_le g j 3 h'
    have e : startTile g (3 : Fin 4).val = startTile g 3 := rfl
    omega
  · subst h'; exact h

include hg in
theorem slot_lt (r : Fin 1024) : slotN g k r < 1536 := by
  have := slot_in g k hg r
  have := tile_le g (k r)
  omega

include hg in
theorem slot_inj (q r : Fin 1024) : slotN g k q = slotN g k r ↔ q = r := by
  refine ⟨fun h => ?_, fun h => by rw [h]⟩
  have hq := slot_in g k hg q
  have hr := slot_in g k hg r
  rcases lt_trichotomy (k q) (k r) with hk | hk | hk
  · have := starts_le g _ _ hk; omega
  · have e : place k q = place k r := by unfold slotN at h; rw [hk] at h; omega
    rcases lt_trichotomy q r with h' | h' | h'
    · have := place_mono k q r h' hk; omega
    · exact h'
    · have := place_mono k r q h' hk.symm; omega
  · have := starts_le g _ _ hk; omega

/-! The computed packed row -/

theorem before_word : ∀ (a b : Fin 1024), IntOp.cmpi CmpIPredicate.slt (BitVec.ofNat 32 a.val) (BitVec.ofNat 32 b.val) = 1#1 ↔ a < b := by
  intro a b
  have h : ∀ c : Fin 1024, (BitVec.ofNat 32 c.val).toInt = (c.val : ℤ) := by
    intro c
    have := c.isLt
    rw [BitVec.toInt_eq_toNat_of_lt] <;> rw [BitVec.toNat_ofNat] <;> omega
  unfold IntOp.cmpi
  simp only [BitVec.slt, h]
  by_cases hab : a < b
  · have : (a.val : ℤ) < b.val := by exact_mod_cast hab
    simp [hab, this]
  · have : ¬ (a.val : ℤ) < b.val := by exact_mod_cast hab
    simp [hab, this]

theorem tril_at (r q : Fin 1024) : k0_pay46 (F := Ideal) (ix2 r q) = if q < r then 1 else 0 := by
  unfold k0_pay46
  pointwise []
  rw [sel_eq _ _ (before_word q r)]

include hg in
theorem rank_at (r : Fin 1024) : rank (F := Ideal) (k0_pay46 (F := Ideal)) g (ix2 r 0) = (((place k r : ℕ) : ℝ) : EReal) := by
  have e := tril_at r
  unfold rank k0_pay24 k0_pay23
  generalize k0_pay46 (F := Ideal) = T at e ⊢
  pointwise [lane]
  rw [Finset.sum_eq_single (⟨(k r).val, by omega⟩ : Fin 128)]
  · rw [hg r, sel_eq _ _ (eq_word _ _), if_pos rfl]
    have : ∀ q : Fin 1024, Scalar.select (IntOp.cmpi CmpIPredicate.eq (BitVec.ofNat 32 (k r).val) (g (ix2 q 0))) (T (ix2 r q)) 0
        = (((if q < r ∧ k q = k r then 1 else 0 : ℝ)) : EReal) := by
      intro q
      rw [hg q, sel_eq _ _ (eq_word _ _), e q]
      by_cases h1 : k q = k r
      · rw [if_pos (by rw [h1])]
        by_cases h2 : q < r
        · rw [if_pos h2, if_pos ⟨h2, h1⟩]; rfl
        · rw [if_neg h2, if_neg (fun h => h2 h.1)]; rfl
      · rw [if_neg (fun h => h1 ((word_inj4 _ _).1 h).symm), if_neg (fun h => h1 h.2)]; rfl
    rw [Finset.sum_congr rfl (fun q _ => this q), ← sum_coe]
    congr 1
    unfold place
    rw [Finset.sum_boole]
  · intro l _ hl
    rw [hg r, sel_eq _ _ (eq_word _ _), if_neg]
    exact fun h => hl (Fin.ext ((lane_word4 l (k r)).1 h))
  · intro h; exact absurd (Finset.mem_univ _) h

theorem tile_int (n : ℕ) (h : n ≤ 12) : (FloatOps.sitofp (F := Ideal) .f32 (IntOp.muli (BitVec.ofNat 32 n) 128#32) : EReal) = (((128 * n : ℕ) : ℝ) : EReal) := by
  have : ∀ n : Fin 13, (IntOp.muli (BitVec.ofNat 32 n.val) 128#32).toInt = ((128 * n.val : ℕ) : ℤ) := by decide +kernel
  show (((IntOp.muli (BitVec.ofNat 32 n) 128#32).toInt : ℝ) : EReal) = _
  rw [this ⟨n, by omega⟩]; norm_cast

include hg in
theorem slot_at (r : Fin 1024) : k0_pay35 (F := Ideal) g (rank (k0_pay46 (F := Ideal)) g) (starts Ideal g) (s3 Ideal g) (ix2 r 0) = (((slotN g k r : ℕ) : ℝ) : EReal) := by
  have hc := counted_ideal g
  have hs := rank_at g k hg r
  have t1 := tile_le g 1
  have t2 := tile_le g 2
  have t3 := tile_le g 3
  unfold k0_pay35 k0_pay34 starts k0_pay32 k0_pay30 k0_pay28 k0_pay26
  rw [s1_nat hc, s2_nat hc, s3_nat hc]
  generalize rank (F := Ideal) (k0_pay46 (F := Ideal)) g = R at hs ⊢
  pointwise []
  rw [hs, hg r]
  have f1 := tile_int (tl g 0) (by have : startTile g (1 : Fin 4).val = tl g 0 := rfl; omega)
  have f2 := tile_int (tl g 0 + tl g 1) (by have : startTile g (2 : Fin 4).val = tl g 0 + tl g 1 := rfl; omega)
  have f3 := tile_int (tl g 0 + tl g 1 + tl g 2) (by have : startTile g (3 : Fin 4).val = tl g 0 + tl g 1 + tl g 2 := rfl; omega)
  have f0 := tile_int 0 (by omega)
  unfold slotN
  generalize place k r = p
  have hk := (k r).isLt
  generalize (k r).val = j at hk ⊢
  rw [sel_eq _ _ (eq_word _ _), sel_eq _ _ (eq_word _ _), sel_eq _ _ (eq_word _ _), sel_eq _ _ (eq_word _ _)]
  have fin : ∀ (a : EReal) (n : ℕ), a = ((n : ℝ) : EReal) → a + ((p : ℝ) : EReal) = (((n + p : ℕ) : ℝ) : EReal) := by
    intro a n h; rw [h, ← EReal.coe_add]; norm_cast
  interval_cases j
  · rw [if_neg (by decide), if_neg (by decide), if_neg (by decide), if_pos rfl]
    exact fin _ _ f0
  · rw [if_neg (by decide), if_neg (by decide), if_pos rfl]
    exact fin _ _ f1
  · rw [if_neg (by decide), if_pos rfl]
    exact fin _ _ f2
  · rw [if_pos rfl]
    exact fin _ _ f3

end Cert.Proof.Moe

end
-- ==== Proof.Moe.Packed.lean ====
/- A token on its packed row: its entries, its combine weights, and what a pair of experts adds. -/
module

public import proofs.«01_k».proof.Proof.Moe.Step
public import proofs.«01_k».proof.Proof.Moe.PipeData
public import proofs.«01_k».proof.Proof.Row
public import proofs.«01_k».proof.Proof.Moe.Pack
public import proofs.«01_k».proof.Proof.Moe.StepRows
public import proofs.«01_k».proof.Proof.Moe.Route
public import proofs.«01_k».proof.Proof.Moe.Slots
public import proofs.«01_k».proof.Proof.Moe.Words
public import proofs.«01_k».proof.Proof.Moe.Counts
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

variable (x : Vec Ideal S1024x1024 .f32) (wr : Vec Ideal S1024x128 .f32) (br : Vec Ideal S1x128 .f32)
variable (f : Fin 1024 → Fin 128 → ℝ) (hf : ∀ r l, k0_pay5 (F := Ideal) x wr wr br (ix2 r l) = ((f r l : ℝ) : EReal))

/-- A token's group. -/
def kOf (r : Fin 1024) : Fin 4 := top (groups (f r))

include hf in
theorem gsel_k (r : Fin 1024) : gsel (F := Ideal) x wr br (ix2 r 0) = BitVec.ofNat 32 (kOf f r).val := gsel_at x wr br r (f r) (hf r)

include hf in
theorem slotOf_at (r : Fin 1024) : slotOf (F := Ideal) x wr br (k0_pay46 (F := Ideal)) (ix2 r 0) = (((slotN (gsel (F := Ideal) x wr br) (kOf f) r : ℕ) : ℝ) : EReal) := by
  unfold slotOf
  exact slot_at _ _ (gsel_k x wr br f hf) r

/-- A token's packed row, within the packed rows. -/
def slotF (r : Fin 1024) : Fin 1536 := ⟨slotN (gsel (F := Ideal) x wr br) (kOf f) r, slot_lt _ _ (gsel_k x wr br f hf) r⟩

include hf in
theorem row_iff (r q : Fin 1024) : (k0_pay35 (F := Ideal) (gsel (F := Ideal) x wr br) (rank (k0_pay46 (F := Ideal)) (gsel (F := Ideal) x wr br)) (starts Ideal (gsel (F := Ideal) x wr br)) (s3 Ideal (gsel (F := Ideal) x wr br)) (ix2 q 0)
    = ((((slotF x wr br f hf r).val : ℕ) : ℝ) : EReal)) ↔ q = r := by
  rw [slot_at _ _ (gsel_k x wr br f hf) q, ← slot_inj _ _ (gsel_k x wr br f hf) q r]
  show _ = (((slotN (gsel (F := Ideal) x wr br) (kOf f) r : ℕ) : ℝ) : EReal) ↔ _
  constructor
  · intro h; exact_mod_cast h
  · intro h; rw [h]

/-- A packed row that one token alone names holds that token's row. -/
theorem packed_row (g : IVec S1024x1 32) (rk st : FVec Ideal S1024x1 .f32) (w3 : BitVec 32) (y : FVec Ideal S1024x1024 .bf16) (s : Fin 1536) (r : Fin 1024)
    (h : ∀ q, k0_pay35 (F := Ideal) g rk st w3 (ix2 q 0) = (((s.val : ℕ) : ℝ) : EReal) ↔ q = r) (d : Fin 1024) :
    k0_pay37 (F := Ideal) y g rk st w3 (ix2 s d) = y (ix2 r d) := by
  refine (packed_at g rk st w3 y s d).trans ?_
  simp only [onehot_at g rk st w3]
  exact sum_pick (fun q => y (ix2 q d)) _ r h

theorem packedw_row (g : IVec S1024x1 32) (rk st : FVec Ideal S1024x1 .f32) (w3 : BitVec 32) (hi lo : FVec Ideal S1024x128 .bf16) (s : Fin 1536) (r : Fin 1024)
    (h : ∀ q, k0_pay35 (F := Ideal) g rk st w3 (ix2 q 0) = (((s.val : ℕ) : ℝ) : EReal) ↔ q = r) (l : Fin 128) :
    k0_pay47 (F := Ideal) (k0_pay38 (F := Ideal) g hi lo rk st w3) (k0_pay39 (F := Ideal) g hi lo rk st w3) (ix2 s l) = hi (ix2 r l) + lo (ix2 r l) := by
  refine (packedw_at g rk st w3 hi lo s l).trans ?_
  simp only [onehot_at g rk st w3]
  exact congrArg₂ (· + ·) (sum_pick (fun q => hi (ix2 q l)) _ r h) (sum_pick (fun q => lo (ix2 q l)) _ r h)

theorem xg_at (r d : Fin 1024) : xgOf (F := Ideal) x wr br (k0_pay46 (F := Ideal)) (ix2 (slotF x wr br f hf r) d) = x (ix2 r d) := by
  unfold xgOf
  exact packed_row _ _ _ _ (k0_pay4 (F := Ideal) x) _ r (row_iff x wr br f hf r) d

theorem cw_at (r : Fin 1024) (l : Fin 128) (hl : 4 ≤ l.val) : cwOf (F := Ideal) x wr br (k0_pay46 (F := Ideal)) (ix2 (slotF x wr br f hf r) l)
    = ((share (groups (f r)) (experts (f r)) (l.val - 4) : ℝ) : EReal) := by
  obtain ⟨v, hv, h0, hs⟩ := comb_at x wr br r (f r) (hf r) l
  unfold cwOf
  refine (packedw_row _ _ _ _ _ _ _ r (row_iff x wr br f hf r) l).trans ?_
  rw [h0, hv, hs hl, add_zero]

theorem pick_at (c : Fin 128 → EReal) (p : Fin 128) : pick c (BitVec.ofNat 32 p.val) = c p := by
  unfold pick
  rw [Finset.sum_eq_single p]
  · rw [sel_eq _ _ (eq_word _ _), if_pos rfl]
  · intro l _ hl
    rw [sel_eq _ _ (eq_word _ _), if_neg]
    intro h
    have h1 := congrArg BitVec.toNat h
    rw [BitVec.toNat_ofNat, BitVec.toNat_ofNat] at h1
    exact hl (Fin.ext (by have := l.isLt; have := p.isLt; omega))
  · intro h; exact absurd (Finset.mem_univ _) h

theorem first_word : ∀ e : Fin 8, IntOp.addi (IntOp.addi 4#32 (IntOp.muli (BitVec.ofNat 32 e.val) 2#32)) 0#32 = BitVec.ofNat 32 (4 + 2 * e.val) := by decide +kernel
theorem second_word : ∀ e : Fin 8, IntOp.addi (IntOp.addi 4#32 (IntOp.muli (BitVec.ofNat 32 e.val) 2#32)) 1#32 = BitVec.ofNat 32 (4 + (2 * e.val + 1)) := by decide +kernel

theorem gain_at (e : Fin 8) (wg wu : Vec Ideal S2x1024x512 .bf16) (wd : Vec Ideal S2x512x1024 .bf16) (r d : Fin 1024) :
    gain (IntOp.muli (BitVec.ofNat 32 e.val) 2#32) (xgOf (F := Ideal) x wr br (k0_pay46 (F := Ideal))) (cwOf (F := Ideal) x wr br (k0_pay46 (F := Ideal))) wg wu wd (slotF x wr br f hf r) d
      = ((share (groups (f r)) (experts (f r)) (2 * e.val) : ℝ) : EReal) * ff (fun k => x (ix2 r k)) (fun k j => wg (ix3 0 k j)) (fun k j => wu (ix3 0 k j)) (fun j d => wd (ix3 0 j d)) d
        + ((share (groups (f r)) (experts (f r)) (2 * e.val + 1) : ℝ) : EReal) * ff (fun k => x (ix2 r k)) (fun k j => wg (ix3 1 k j)) (fun k j => wu (ix3 1 k j)) (fun j d => wd (ix3 1 j d)) d := by
  have he := e.isLt
  unfold gain
  rw [first_word e, second_word e, pick_at _ ⟨4 + 2 * e.val, by omega⟩, pick_at _ ⟨4 + (2 * e.val + 1), by omega⟩]
  rw [cw_at x wr br f hf r _ (by show 4 ≤ 4 + 2 * e.val; omega), cw_at x wr br f hf r _ (by show 4 ≤ 4 + (2 * e.val + 1); omega)]
  have hx : (fun k => xgOf (F := Ideal) x wr br (k0_pay46 (F := Ideal)) (ix2 (slotF x wr br f hf r) k)) = fun k => x (ix2 r k) := funext fun k => xg_at x wr br f hf r k
  rw [hx, show (4 + 2 * e.val) - 4 = 2 * e.val by omega, show (4 + (2 * e.val + 1)) - 4 = 2 * e.val + 1 by omega]

/-! The tile words -/

theorem wd_start (g : IVec S1024x1 32) (j : Fin 4) (h : j.val < 8) : Cert.Proof.Moe.wd Ideal g j.val h = BitVec.ofNat 32 (startTile g j.val) := by
  have hc := counted_ideal g
  match j with
  | ⟨0, _⟩ => exact words_0 _ _ _ rfl
  | ⟨1, _⟩ => exact (words_1 _ _ _ rfl).trans (s1_nat hc)
  | ⟨2, _⟩ => exact (words_2 _ _ _ rfl).trans (s2_nat hc)
  | ⟨3, _⟩ => exact (words_3 _ _ _ rfl).trans (s3_nat hc)

theorem wd_tiles (g : IVec S1024x1 32) (j : Fin 4) (h : 4 + j.val < 8) : Cert.Proof.Moe.wd Ideal g (4 + j.val) h = BitVec.ofNat 32 (tl g j.val) := by
  have hc := counted_ideal g
  match j with
  | ⟨0, _⟩ => exact (words_4 _ _ _ rfl).trans (n0_nat hc)
  | ⟨1, _⟩ => exact (words_5 _ _ _ rfl).trans (n1_nat hc)
  | ⟨2, _⟩ => exact (words_6 _ _ _ rfl).trans (n2_nat hc)
  | ⟨3, _⟩ => exact (words_7 _ _ _ rfl).trans (n3_nat hc)

/-- One point's step on a token's packed row: its pair's terms where the pair is of the token's group. -/
theorem step_at (i : grid0.Coords) (wg wu : Vec Ideal S2x1024x512 .bf16) (wd : Vec Ideal S2x512x1024 .bf16) (y : Vec Ideal S1536x1024 .f32) (j : Fin 4)
    (hj : j.val = (i 1).val / 2) (h1 : j.val < 8) (h2 : 4 + j.val < 8) (r d : Fin 1024) :
    yS (Cert.Proof.Moe.wd Ideal (gsel (F := Ideal) x wr br) j.val h1) (Cert.Proof.Moe.wd Ideal (gsel (F := Ideal) x wr br) (4 + j.val) h2) i
        (xgOf (F := Ideal) x wr br (k0_pay46 (F := Ideal))) (cwOf (F := Ideal) x wr br (k0_pay46 (F := Ideal))) wg wu wd y (ix2 (slotF x wr br f hf r) d)
      = if j = kOf f r then y (ix2 (slotF x wr br f hf r) d)
          + (((share (groups (f r)) (experts (f r)) (2 * (i 1).val) : ℝ) : EReal) * ff (fun k => x (ix2 r k)) (fun k j => wg (ix3 0 k j)) (fun k j => wu (ix3 0 k j)) (fun j d => wd (ix3 0 j d)) d
            + ((share (groups (f r)) (experts (f r)) (2 * (i 1).val + 1) : ℝ) : EReal) * ff (fun k => x (ix2 r k)) (fun k j => wg (ix3 1 k j)) (fun k j => wu (ix3 1 k j)) (fun j d => wd (ix3 1 j d)) d)
        else y (ix2 (slotF x wr br f hf r) d) := by
  have hg := gsel_k x wr br f hf
  have hin := slot_in _ _ hg r
  rw [wd_start, wd_tiles, yS_at _ _ _ _ _ i _ _ (tile_le _ j)]
  unfold upd
  refine (if_congr ?_ ?_ rfl)
  · show _ ≤ slotN _ _ r ∧ slotN _ _ r < _ ↔ _
    constructor
    · intro h
      rcases lt_trichotomy j (kOf f r) with hk | hk | hk
      · have := starts_le (gsel (F := Ideal) x wr br) _ _ hk; omega
      · exact hk
      · have := starts_le (gsel (F := Ideal) x wr br) _ _ hk; omega
    · rintro rfl; exact hin
  · exact congrArg (_ + ·) (gain_at x wr br f hf (i 1) wg wu wd r d)

end Cert.Proof.Moe

end
-- ==== Proof.Moe.Blocks.lean ====
/- The arrays the host prepares, and the blocks a grid point sees. -/
module

public import proofs.«01_k».proof.Proof.Moe.Step
public import proofs.«01_k».proof.Proof.Moe.PipeData
public import proofs.«01_k».proof.Proof.Row
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

open Idealize.ShloMosaic.TcCoe

variable (m : (ℓ : Loc nD τ sig) → Buf (Elt Ideal) ℓ) (c : Dev nD)

/-! The prepared arrays -/

theorem V_v1 : @Eq (FVec Ideal S1024x128 .f32) (V m c main_v1)
    (pad S1024x128 ![0, 0] ![0, 108] ![0, 0] (concatenate S1024x20 1 [⟨S1024x4, (m ((c : Thread nD τ).loc main_arg1) : Vec Ideal S1024x4 .f32)⟩, ⟨S1024x16, (m ((c : Thread nD τ).loc main_arg3) : Vec Ideal S1024x16 .f32)⟩] concatenates_S1024x4_S1024x16_S1024x20_d1)
      (sitofp (F := Ideal) .f32 (constantI S_ 32 0#32)) pads_S1024x20_S1024x128_000_01080 h_S_) := by
  unfold V hostOps0 hostOps0_1 hostOps0_2 hostOps0_3 hostOps0_4; after_results_simp <;> rfl
theorem V_v4 : @Eq (FVec Ideal S1x128 .f32) (V m c main_v4)
    (broadcastInDim S1x128 ![1] bcast_S128_S1x128_1 (pad S128 ![0] ![108] ![0] (concatenate S20 0 [⟨S4, (m ((c : Thread nD τ).loc main_arg2) : Vec Ideal S4 .f32)⟩, ⟨S16, (m ((c : Thread nD τ).loc main_arg4) : Vec Ideal S16 .f32)⟩] concatenates_S4_S16_S20_d0)
      (sitofp (F := Ideal) .f32 (constantI S_ 32 0#32)) pads_S20_S128_01080 h_S_)) := by
  unfold V hostOps0 hostOps0_1 hostOps0_2 hostOps0_3 hostOps0_4; after_results_simp <;> rfl
theorem V_v5 : @Eq (FVec Ideal S16x1024x512 .bf16) (V m c main_v5)
    (truncf (F := Ideal) (s := _) .bf16 (m ((c : Thread nD τ).loc main_arg5) : Vec Ideal S16x1024x512 .f32) bitsLt_bf16_f32) := by
  unfold V hostOps0 hostOps0_1 hostOps0_2 hostOps0_3 hostOps0_4; after_results_simp <;> rfl
theorem V_v6 : @Eq (FVec Ideal S16x1024x512 .bf16) (V m c main_v6)
    (truncf (F := Ideal) (s := _) .bf16 (m ((c : Thread nD τ).loc main_arg6) : Vec Ideal S16x1024x512 .f32) bitsLt_bf16_f32) := by
  unfold V hostOps0 hostOps0_1 hostOps0_2 hostOps0_3 hostOps0_4; after_results_simp <;> rfl
theorem V_v7 : @Eq (FVec Ideal S16x512x1024 .bf16) (V m c main_v7)
    (truncf (F := Ideal) (s := _) .bf16 (m ((c : Thread nD τ).loc main_arg7) : Vec Ideal S16x512x1024 .f32) bitsLt_bf16_f32) := by
  unfold V hostOps0 hostOps0_1 hostOps0_2 hostOps0_3 hostOps0_4; after_results_simp <;> rfl
theorem V_v8 : @Eq (FVec Ideal S1x1024 .f32) (V m c main_v8)
    (broadcastInDim S1x1024 ![1] bcast_S1024_S1x1024_1 (m ((c : Thread nD τ).loc main_arg8) : Vec Ideal S1024 .f32)) := by
  unfold V hostOps0 hostOps0_1 hostOps0_2 hostOps0_3 hostOps0_4; after_results_simp <;> rfl
theorem V_v9 : @Eq (FVec Ideal S1x1024 .f32) (V m c main_v9)
    (broadcastInDim S1x1024 ![1] bcast_S1024_S1x1024_1 (m ((c : Thread nD τ).loc main_arg9) : Vec Ideal S1024 .f32)) := by
  unfold V hostOps0 hostOps0_1 hostOps0_2 hostOps0_3 hostOps0_4; after_results_simp <;> rfl

/-! The blocks of a grid point -/

theorem idx_row : ∀ t : Fin cfg0.N, (win0_0.index t (0 : Fin 2) = t.val / 8 ∧ win0_0.index t (1 : Fin 2) = 0)
    ∧ (win0_8.index t (0 : Fin 2) = t.val / 8 ∧ win0_8.index t (1 : Fin 2) = 0) :=
  (by decide +kernel : ∀ t : Fin grid0.N, _)
theorem idx_pair : ∀ t : Fin cfg0.N, (win0_3.index t (0 : Fin 3) = t.val % 8 ∧ win0_3.index t (1 : Fin 3) = 0 ∧ win0_3.index t (2 : Fin 3) = 0)
    ∧ (win0_4.index t (0 : Fin 3) = t.val % 8 ∧ win0_4.index t (1 : Fin 3) = 0 ∧ win0_4.index t (2 : Fin 3) = 0)
    ∧ (win0_5.index t (0 : Fin 3) = t.val % 8 ∧ win0_5.index t (1 : Fin 3) = 0 ∧ win0_5.index t (2 : Fin 3) = 0) :=
  (by decide +kernel : ∀ t : Fin grid0.N, _)
theorem idx_const : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)
theorem idx_coord : ∀ t : Fin cfg0.N, (grid0.coords t 1).val = t.val % 8 := (by decide +kernel : ∀ t : Fin grid0.N, _)

/-- Row `r` of the block of point `t`. -/
abbrev rowOf (t : Fin cfg0.N) (r : Fin 1024) : Fin 32768 := ⟨t.val / 8 * 1024 + r.val, by have : t.val < 256 := t.isLt; omega⟩

/-- The `p`-th expert of the pair of point `t`. -/
abbrev expOf (t : Fin cfg0.N) (p : Fin 2) : Fin 16 := ⟨t.val % 8 * 2 + p.val, by omega⟩

theorem emb0 (t : Fin cfg0.N) (r : Fin 1024) (l : Fin 1024) :
    ((cfg0.win 0).blk t).view.emb (ix2 r l : S1024x1024.Idx) = (ix2 (rowOf t r) l : S32768x1024.Idx) := by
  obtain ⟨⟨e0, e1⟩, -⟩ := idx_row t
  funext a; apply Fin.ext
  match a with
  | ⟨0, _⟩ => show win0_0.index t (0 : Fin 2) * 1024 + 1 * r.val = t.val / 8 * 1024 + r.val; omega
  | ⟨1, _⟩ => show win0_0.index t (1 : Fin 2) * 1024 + 1 * l.val = l.val; omega
theorem emb8 (t : Fin cfg0.N) (r : Fin 1024) (l : Fin 1024) :
    ((cfg0.win 8).blk t).view.emb (ix2 r l : S1024x1024.Idx) = (ix2 (rowOf t r) l : S32768x1024.Idx) := by
  obtain ⟨-, ⟨e0, e1⟩⟩ := idx_row t
  funext a; apply Fin.ext
  match a with
  | ⟨0, _⟩ => show win0_8.index t (0 : Fin 2) * 1024 + 1 * r.val = t.val / 8 * 1024 + r.val; omega
  | ⟨1, _⟩ => show win0_8.index t (1 : Fin 2) * 1024 + 1 * l.val = l.val; omega
theorem emb1 (t : Fin cfg0.N) (r : Fin 1024) (l : Fin 128) :
    ((cfg0.win 1).blk t).view.emb (ix2 r l : S1024x128.Idx) = (ix2 r l : S1024x128.Idx) := by
  obtain ⟨⟨e0, e1⟩, -⟩ := idx_const t
  funext a; apply Fin.ext
  match a with
  | ⟨0, _⟩ => show win0_1.index t (0 : Fin 2) * 1024 + 1 * r.val = r.val; omega
  | ⟨1, _⟩ => show win0_1.index t (1 : Fin 2) * 128 + 1 * l.val = l.val; omega
theorem emb2 (t : Fin cfg0.N) (r : Fin 1) (l : Fin 128) :
    ((cfg0.win 2).blk t).view.emb (ix2 r l : S1x128.Idx) = (ix2 r l : S1x128.Idx) := by
  obtain ⟨-, ⟨e0, e1⟩, -⟩ := idx_const t
  funext a; apply Fin.ext
  match a with
  | ⟨0, _⟩ => show win0_2.index t (0 : Fin 2) * 1 + 1 * r.val = r.val; omega
  | ⟨1, _⟩ => show win0_2.index t (1 : Fin 2) * 128 + 1 * l.val = l.val; omega
theorem emb6 (t : Fin cfg0.N) (r : Fin 1) (l : Fin 1024) :
    ((cfg0.win 6).blk t).view.emb (ix2 r l : S1x1024.Idx) = (ix2 r l : S1x1024.Idx) := by
  obtain ⟨-, -, ⟨e0, e1⟩, -⟩ := idx_const t
  funext a; apply Fin.ext
  match a with
  | ⟨0, _⟩ => show win0_6.index t (0 : Fin 2) * 1 + 1 * r.val = r.val; omega
  | ⟨1, _⟩ => show win0_6.index t (1 : Fin 2) * 1024 + 1 * l.val = l.val; omega
theorem emb7 (t : Fin cfg0.N) (r : Fin 1) (l : Fin 1024) :
    ((cfg0.win 7).blk t).view.emb (ix2 r l : S1x1024.Idx) = (ix2 r l : S1x1024.Idx) := by
  obtain ⟨-, -, -, ⟨e0, e1⟩⟩ := idx_const t
  funext a; apply Fin.ext
  match a with
  | ⟨0, _⟩ => show win0_7.index t (0 : Fin 2) * 1 + 1 * r.val = r.val; omega
  | ⟨1, _⟩ => show win0_7.index t (1 : Fin 2) * 1024 + 1 * l.val = l.val; omega
theorem emb3 (t : Fin cfg0.N) (p : Fin 2) (k : Fin 1024) (l : Fin 512) :
    ((cfg0.win 3).blk t).view.emb (ix3 p k l : S2x1024x512.Idx) = (ix3 (expOf t p) k l : S16x1024x512.Idx) := by
  obtain ⟨⟨e0, e1, e2⟩, -⟩ := idx_pair t
  funext a; apply Fin.ext
  match a with
  | ⟨0, _⟩ => show win0_3.index t (0 : Fin 3) * 2 + 1 * p.val = t.val % 8 * 2 + p.val; omega
  | ⟨1, _⟩ => show win0_3.index t (1 : Fin 3) * 1024 + 1 * k.val = k.val; omega
  | ⟨2, _⟩ => show win0_3.index t (2 : Fin 3) * 512 + 1 * l.val = l.val; omega
theorem emb4 (t : Fin cfg0.N) (p : Fin 2) (k : Fin 1024) (l : Fin 512) :
    ((cfg0.win 4).blk t).view.emb (ix3 p k l : S2x1024x512.Idx) = (ix3 (expOf t p) k l : S16x1024x512.Idx) := by
  obtain ⟨-, ⟨e0, e1, e2⟩, -⟩ := idx_pair t
  funext a; apply Fin.ext
  match a with
  | ⟨0, _⟩ => show win0_4.index t (0 : Fin 3) * 2 + 1 * p.val = t.val % 8 * 2 + p.val; omega
  | ⟨1, _⟩ => show win0_4.index t (1 : Fin 3) * 1024 + 1 * k.val = k.val; omega
  | ⟨2, _⟩ => show win0_4.index t (2 : Fin 3) * 512 + 1 * l.val = l.val; omega
theorem emb5 (t : Fin cfg0.N) (p : Fin 2) (k : Fin 512) (l : Fin 1024) :
    ((cfg0.win 5).blk t).view.emb (ix3 p k l : S2x512x1024.Idx) = (ix3 (expOf t p) k l : S16x512x1024.Idx) := by
  obtain ⟨-, -, ⟨e0, e1, e2⟩⟩ := idx_pair t
  funext a; apply Fin.ext
  match a with
  | ⟨0, _⟩ => show win0_5.index t (0 : Fin 3) * 2 + 1 * p.val = t.val % 8 * 2 + p.val; omega
  | ⟨1, _⟩ => show win0_5.index t (1 : Fin 3) * 512 + 1 * k.val = k.val; omega
  | ⟨2, _⟩ => show win0_5.index t (2 : Fin 3) * 1024 + 1 * l.val = l.val; omega

theorem bx_at (t : Fin cfg0.N) (r l : Fin 1024) : bx m c t (ix2 r l) = (m ((c : Thread nD τ).loc main_arg0) : Vec Ideal S32768x1024 .f32) (ix2 (rowOf t r) l) := by
  have h := V_main_arg0 m c
  show (V m c main_arg0 : Vec Ideal S32768x1024 .f32) (((cfg0.win 0).blk t).view.emb (ix2 r l : S1024x1024.Idx)) = _
  rw [emb0, h]
theorem bwr_at (t : Fin cfg0.N) (k : Fin 1024) (l : Fin 128) : bwr m c t (ix2 k l) = (V m c main_v1 : Vec Ideal S1024x128 .f32) (ix2 k l) := by
  show (V m c main_v1 : Vec Ideal S1024x128 .f32) (((cfg0.win 1).blk t).view.emb (ix2 k l : S1024x128.Idx)) = _
  rw [emb1]
theorem bbr_at (t : Fin cfg0.N) (r : Fin 1) (l : Fin 128) : bbr m c t (ix2 r l) = (V m c main_v4 : Vec Ideal S1x128 .f32) (ix2 r l) := by
  show (V m c main_v4 : Vec Ideal S1x128 .f32) (((cfg0.win 2).blk t).view.emb (ix2 r l : S1x128.Idx)) = _
  rw [emb2]
theorem bwg_at (t : Fin cfg0.N) (p : Fin 2) (k : Fin 1024) (l : Fin 512) : bwg m c t (ix3 p k l) = (m ((c : Thread nD τ).loc main_arg5) : Vec Ideal S16x1024x512 .f32) (ix3 (expOf t p) k l) := by
  show (V m c main_v5 : Vec Ideal S16x1024x512 .bf16) (((cfg0.win 3).blk t).view.emb (ix3 p k l : S2x1024x512.Idx)) = _
  rw [emb3, V_v5]; rfl
theorem bwu_at (t : Fin cfg0.N) (p : Fin 2) (k : Fin 1024) (l : Fin 512) : bwu m c t (ix3 p k l) = (m ((c : Thread nD τ).loc main_arg6) : Vec Ideal S16x1024x512 .f32) (ix3 (expOf t p) k l) := by
  show (V m c main_v6 : Vec Ideal S16x1024x512 .bf16) (((cfg0.win 4).blk t).view.emb (ix3 p k l : S2x1024x512.Idx)) = _
  rw [emb4, V_v6]; rfl
theorem bwd_at (t : Fin cfg0.N) (p : Fin 2) (k : Fin 512) (l : Fin 1024) : bwd m c t (ix3 p k l) = (m ((c : Thread nD τ).loc main_arg7) : Vec Ideal S16x512x1024 .f32) (ix3 (expOf t p) k l) := by
  show (V m c main_v7 : Vec Ideal S16x512x1024 .bf16) (((cfg0.win 5).blk t).view.emb (ix3 p k l : S2x512x1024.Idx)) = _
  rw [emb5, V_v7]; rfl
theorem bga_at (t : Fin cfg0.N) (l : Fin 1024) : bga m c t (ix2 0 l) = (m ((c : Thread nD τ).loc main_arg8) : Vec Ideal S1024 .f32) (ix1 l) := by
  show (V m c main_v8 : Vec Ideal S1x1024 .f32) (((cfg0.win 6).blk t).view.emb (ix2 0 l : S1x1024.Idx)) = _
  rw [emb6, V_v8]; pointwise []
theorem bbi_at (t : Fin cfg0.N) (l : Fin 1024) : bbi m c t (ix2 0 l) = (m ((c : Thread nD τ).loc main_arg9) : Vec Ideal S1024 .f32) (ix1 l) := by
  show (V m c main_v9 : Vec Ideal S1x1024 .f32) (((cfg0.win 7).blk t).view.emb (ix2 0 l : S1x1024.Idx)) = _
  rw [emb7, V_v9]; pointwise []

/-! The router's columns -/

theorem zero_word : (FloatOps.sitofp (F := Ideal) FTy.f32 0#32) = (0 : EReal) := by
  show (((0#32 : BitVec 32).toInt : ℝ) : EReal) = 0
  simp

theorem wr_group (k : Fin 1024) (l : Fin 4) : (V m c main_v1 : Vec Ideal S1024x128 .f32) (ix2 k ⟨l.val, by omega⟩) = (m ((c : Thread nD τ).loc main_arg1) : Vec Ideal S1024x4 .f32) (ix2 k l) := by
  rw [V_v1]; pointwise []
  split_ifs <;> first | rfl | omega | exact zero_word
theorem wr_expert (k : Fin 1024) (l : Fin 16) : (V m c main_v1 : Vec Ideal S1024x128 .f32) (ix2 k ⟨4 + l.val, by omega⟩) = (m ((c : Thread nD τ).loc main_arg3) : Vec Ideal S1024x16 .f32) (ix2 k l) := by
  rw [V_v1]; pointwise []
  split_ifs <;> first | rfl | omega | exact zero_word
theorem wr_rest (k : Fin 1024) (l : Fin 128) (h : 20 ≤ l.val) : @Eq EReal ((V m c main_v1 : Vec Ideal S1024x128 .f32) (ix2 k l)) 0 := by
  rw [V_v1]; pointwise []
  split_ifs <;> first | rfl | omega | exact zero_word
theorem br_group (l : Fin 4) : (V m c main_v4 : Vec Ideal S1x128 .f32) (ix2 0 ⟨l.val, by omega⟩) = (m ((c : Thread nD τ).loc main_arg2) : Vec Ideal S4 .f32) (ix1 l) := by
  rw [V_v4]; pointwise []
  split_ifs <;> first | rfl | omega | exact zero_word
theorem br_expert (l : Fin 16) : (V m c main_v4 : Vec Ideal S1x128 .f32) (ix2 0 ⟨4 + l.val, by omega⟩) = (m ((c : Thread nD τ).loc main_arg4) : Vec Ideal S16 .f32) (ix1 l) := by
  rw [V_v4]; pointwise []
  split_ifs <;> first | rfl | omega | exact zero_word
theorem br_rest (l : Fin 128) (h : 20 ≤ l.val) : @Eq EReal ((V m c main_v4 : Vec Ideal S1x128 .f32) (ix2 0 l)) 0 := by
  rw [V_v4]; pointwise []
  split_ifs <;> first | rfl | omega | exact zero_word

end Cert.Proof.Moe

end
-- ==== Proof.Moe.Total.lean ====
/- The packed results of a block, point by point. -/
module

public import proofs.«01_k».proof.Proof.Moe.Step
public import proofs.«01_k».proof.Proof.Moe.PipeData
public import proofs.«01_k».proof.Proof.Row
public import proofs.«01_k».proof.Proof.Moe.Packed
public import proofs.«01_k».proof.Proof.Moe.Blocks
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

open Idealize.ShloMosaic.TcCoe
open Idealize.ShloMosaic.Pipeline (RDat)

variable (m : (ℓ : Loc nD τ sig) → Buf (Elt Ideal) ℓ) (c : Dev nD)

/-- A token's row. -/
def xrow (i : Fin 32768) (k : Fin 1024) : EReal := (m ((c : Thread nD τ).loc main_arg0) : Vec Ideal S32768x1024 .f32) (ix2 i k)

/-- A token's logits, by lane. -/
def lg (i : Fin 32768) (l : Fin 128) : ℝ :=
  (∑ k : Fin 1024, (xrow m c i k).toReal * ((V m c main_v1 : Vec Ideal S1024x128 .f32) (ix2 k l) : EReal).toReal)
    + ((V m c main_v4 : Vec Ideal S1x128 .f32) (ix2 0 l) : EReal).toReal

/-- The token's share of expert `e`. -/
def shareOf (i : Fin 32768) (e : ℕ) : EReal := ((share (groups (lg m c i)) (experts (lg m c i)) e : ℝ) : EReal)

/-- Expert `e` on a token. -/
def ffOf (i : Fin 32768) (e : Fin 16) (d : Fin 1024) : EReal :=
  ff (xrow m c i) (fun k j => (m ((c : Thread nD τ).loc main_arg5) : Vec Ideal S16x1024x512 .f32) (ix3 e k j))
    (fun k j => (m ((c : Thread nD τ).loc main_arg6) : Vec Ideal S16x1024x512 .f32) (ix3 e k j))
    (fun j d => (m ((c : Thread nD τ).loc main_arg7) : Vec Ideal S16x512x1024 .f32) (ix3 e j d)) d

/-- The router's arrays are finite. -/
structure Finite : Prop where
  hx : ∀ i k, ∃ v : ℝ, xrow m c i k = (v : EReal)
  hw : ∀ k l, ∃ v : ℝ, (V m c main_v1 : Vec Ideal S1024x128 .f32) (ix2 k l) = (v : EReal)
  hb : ∀ l, ∃ v : ℝ, (V m c main_v4 : Vec Ideal S1x128 .f32) (ix2 0 l) = (v : EReal)

theorem logit_real (x w : Fin 1024 → EReal) (b : EReal) (hx : ∀ k, ∃ v : ℝ, x k = (v : EReal)) (hw : ∀ k, ∃ v : ℝ, w k = (v : EReal))
    (hb : ∃ v : ℝ, b = (v : EReal)) :
    (∑ k, x k * w k) + b = (((∑ k, (x k).toReal * (w k).toReal) + b.toReal : ℝ) : EReal) := by
  choose X hX using hx
  choose W hW using hw
  obtain ⟨B, rfl⟩ := hb
  obtain rfl : x = fun k => (X k : EReal) := funext hX
  obtain rfl : w = fun k => (W k : EReal) := funext hW
  simp only [EReal.toReal_coe]
  rw [EReal.coe_add, sum_coe]
  simp only [EReal.coe_mul]

theorem less_self (x : EReal) (h : ∃ v : ℝ, x = (v : EReal)) : x - x = 0 := by
  obtain ⟨v, rfl⟩ := h
  rw [← EReal.coe_sub, sub_self]; rfl

theorem logits_at (x : Vec Ideal S1024x1024 .f32) (wr : Vec Ideal S1024x128 .f32) (br : Vec Ideal S1x128 .f32) (r : Fin 1024) (l : Fin 128)
    (hx : ∀ k, ∃ v : ℝ, x (ix2 r k) = (v : EReal)) (hw : ∀ k, ∃ v : ℝ, wr (ix2 k l) = (v : EReal)) (hb : ∃ v : ℝ, br (ix2 0 l) = (v : EReal)) :
    k0_pay5 (F := Ideal) x wr wr br (ix2 r l) = (((∑ k : Fin 1024, EReal.toReal (x (ix2 r k)) * EReal.toReal (wr (ix2 k l))) + EReal.toReal (br (ix2 0 l)) : ℝ) : EReal) := by
  have e : k0_pay5 (F := Ideal) x wr wr br (ix2 r l) = (∑ k : Fin 1024, x (ix2 r k) * wr (ix2 k l)) + (∑ k : Fin 1024, (x (ix2 r k) - x (ix2 r k)) * wr (ix2 k l))
      + (∑ k : Fin 1024, x (ix2 r k) * (wr (ix2 k l) - wr (ix2 k l))) + br (ix2 0 l) := by
    unfold k0_pay5 k0_pay4
    pointwise []
    try rfl
  rw [e, ← logit_real (fun k => x (ix2 r k)) (fun k => wr (ix2 k l)) _ hx hw hb]
  have h1 : (∑ k : Fin 1024, (x (ix2 r k) - x (ix2 r k)) * wr (ix2 k l)) = 0 := by
    refine Finset.sum_eq_zero fun k _ => ?_
    rw [less_self _ (hx k), zero_mul]
  have h2 : (∑ k : Fin 1024, x (ix2 r k) * (wr (ix2 k l) - wr (ix2 k l))) = 0 := by
    refine Finset.sum_eq_zero fun k _ => ?_
    rw [less_self _ (hw k), mul_zero]
  rw [h1, h2, add_zero, add_zero]

variable (fin : Finite m c)

include fin in
theorem block_logits (t : Fin cfg0.N) (r : Fin 1024) (l : Fin 128) :
    k0_pay5 (F := Ideal) (bx m c t) (bwr m c t) (bwr m c t) (bbr m c t) (ix2 r l) = ((lg m c (rowOf t r) l : ℝ) : EReal) := by
  have hx : ∀ k, bx m c t (ix2 r k) = xrow m c (rowOf t r) k := fun k => bx_at m c t r k
  have hw : ∀ k, bwr m c t (ix2 k l) = (V m c main_v1 : Vec Ideal S1024x128 .f32) (ix2 k l) := fun k => bwr_at m c t k l
  have hb := bbr_at m c t 0 l
  refine (logits_at _ _ _ r l (fun k => ?_) (fun k => ?_) ?_).trans ?_
  · rw [hx k]; exact fin.hx _ k
  · rw [hw k]; exact fin.hw k l
  · rw [hb]; exact fin.hb l
  · unfold lg
    simp only [hx, hw, hb]

/-- The pair of experts of point `e`, where its group is the token's. -/
def pairOf (i : Fin 32768) (d : Fin 1024) (e : ℕ) : EReal :=
  if h : e < 8 then
    if e / 2 = (top (groups (lg m c i))).val then
      shareOf m c i (2 * e) * ffOf m c i ⟨2 * e, by omega⟩ d + shareOf m c i (2 * e + 1) * ffOf m c i ⟨2 * e + 1, by omega⟩ d
    else 0
  else 0

/-- The token's packed row. -/
def slotT (t : Fin cfg0.N) (r : Fin 1024) : Fin 1536 :=
  slotF (bx m c (base t)) (bwr m c (base t)) (bbr m c (base t)) (fun r l => lg m c (rowOf (base t) r) l) (fun r l => block_logits m c fin (base t) r l) r

theorem base_row (t : Fin cfg0.N) (r : Fin 1024) : rowOf (base t) r = rowOf t r := by
  apply Fin.ext; show (t.val - t.val % 8) / 8 * 1024 + r.val = t.val / 8 * 1024 + r.val; omega

theorem point_step (t : Fin cfg0.N) (y : Vec Ideal S1536x1024 .f32) (r d : Fin 1024) :
    stepAt m c t y (ix2 (slotT m c fin t r) d) = y (ix2 (slotT m c fin t r) d) + pairOf m c (rowOf t r) d (t.val % 8) := by
  have hc : (grid0.coords t 1).val = t.val % 8 := idx_coord t
  unfold stepAt
  refine (step_at (bx m c (base t)) (bwr m c (base t)) (bbr m c (base t)) (fun r l => lg m c (rowOf (base t) r) l) (fun r l => block_logits m c fin (base t) r l)
    (grid0.coords t) (bwg m c t) (bwu m c t) (bwd m c t) y ⟨t.val % 8 / 2, by omega⟩ (by rw [hc]) (by show t.val % 8 / 2 < 8; omega) (by show 4 + t.val % 8 / 2 < 8; omega) r d).trans ?_
  show (if _ then y (ix2 (slotT m c fin t r) d) + _ else y (ix2 (slotT m c fin t r) d)) = _
  unfold pairOf
  rw [dif_pos (show t.val % 8 < 8 by omega)]
  have hk : ((⟨t.val % 8 / 2, by omega⟩ : Fin 4) = kOf (fun r l => lg m c (rowOf (base t) r) l) r) ↔ t.val % 8 / 2 = (top (groups (lg m c (rowOf t r)))).val := by
    unfold kOf
    show (⟨t.val % 8 / 2, by omega⟩ : Fin 4) = top (groups (lg m c (rowOf (base t) r))) ↔ _
    rw [base_row t r, Fin.ext_iff]
  by_cases h : t.val % 8 / 2 = (top (groups (lg m c (rowOf t r)))).val
  · rw [if_pos (hk.2 h), if_pos h]
    refine congrArg (_ + ·) ?_
    have hx : (fun k => bx m c (base t) (ix2 r k)) = xrow m c (rowOf t r) := by
      funext k
      refine (bx_at m c (base t) r k).trans ?_
      rw [base_row]; rfl
    have hff : ∀ (p : Fin 2) (e : Fin 16), expOf t p = e →
        ff (xrow m c (rowOf t r)) (fun k j => bwg m c t (ix3 p k j)) (fun k j => bwu m c t (ix3 p k j)) (fun j d => bwd m c t (ix3 p j d)) d = ffOf m c (rowOf t r) e d := by
      rintro p e rfl
      have h1 : (fun k j => bwg m c t (ix3 p k j)) = _ := funext fun k => funext fun j => bwg_at m c t p k j
      have h2 : (fun k j => bwu m c t (ix3 p k j)) = _ := funext fun k => funext fun j => bwu_at m c t p k j
      have h3 : (fun j d => bwd m c t (ix3 p j d)) = _ := funext fun k => funext fun j => bwd_at m c t p k j
      rw [h1, h2, h3]
      rfl
    rw [hx, hff 0 ⟨2 * (t.val % 8), by omega⟩ (Fin.ext (by show t.val % 8 * 2 + 0 = 2 * (t.val % 8); omega)),
      hff 1 ⟨2 * (t.val % 8) + 1, by omega⟩ (Fin.ext (by show t.val % 8 * 2 + 1 = 2 * (t.val % 8) + 1; omega)), hc, base_row t r]
    rfl
  · rw [if_neg (fun h' => h (hk.1 h')), if_neg h, add_zero]

theorem zeros_at (s : Fin 1536) (d : Fin 1024) : k0_pay48 (F := Ideal) (ix2 s d) = 0 := by
  unfold k0_pay48
  pointwise []
  try rfl

theorem slot_same (t u : Fin cfg0.N) (h : base t = base u) (r : Fin 1024) : slotT m c fin t r = slotT m c fin u r := by
  unfold slotT
  congr 1 <;> first | rw [h] | skip

/-- The packed results after the point `e` of a block. -/
theorem packed_sum (e : ℕ) : ∀ t : Fin cfg0.N, t.val % 8 = e → ∀ r d : Fin 1024,
    yAt m c t (ix2 (slotT m c fin t r) d) = ∑ e' ∈ Finset.range (e + 1), pairOf m c (rowOf t r) d e' := by
  induction e with
  | zero =>
    intro t ht r d
    rw [yAt_first m c ht, point_step, zeros_at, zero_add, ht, Finset.sum_range_one]
  | succ e ih =>
    intro t ht r d
    have hu : t.val - 1 < cfg0.N := lt_of_le_of_lt (Nat.sub_le _ _) t.isLt
    have hut : (⟨t.val - 1, hu⟩ : Fin cfg0.N).val + 1 = t.val := by show t.val - 1 + 1 = t.val; omega
    have hb : base t = base ⟨t.val - 1, hu⟩ := base_next (by omega) hut
    have hr : rowOf (⟨t.val - 1, hu⟩ : Fin cfg0.N) r = rowOf t r := by
      apply Fin.ext; show (t.val - 1) / 8 * 1024 + r.val = t.val / 8 * 1024 + r.val; omega
    have i := ih ⟨t.val - 1, hu⟩ (by show (t.val - 1) % 8 = e; omega) r d
    rw [hr, ← slot_same m c fin t _ hb] at i
    rw [yAt_next m c (by omega) hut, point_step, i, Finset.sum_range_succ _ (e + 1), ht]

end Cert.Proof.Moe

end
-- ==== Proof.Moe.Out.lean ====
/- The result's rows. -/
module

public import proofs.«01_k».proof.Proof.Moe.Step
public import proofs.«01_k».proof.Proof.Moe.PipeData
public import proofs.«01_k».proof.Proof.Row
public import proofs.«01_k».proof.Proof.Moe.Total
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

open Idealize.ShloMosaic.TcCoe
open Idealize.ShloMosaic.Pipeline (RDat)

theorem one_hot (s : Fin 1536) (v : EReal) (h : v = (((s.val : ℕ) : ℝ) : EReal)) (f : Fin 1536 → EReal) :
    (∑ q : Fin 1536, (if v = (FloatOps.sitofp (F := Ideal) .f32 (BitVec.ofNat 32 q.val) : EReal) then (1 : EReal) else 0) * f q) = f s := by
  have hq : ∀ q : Fin 1536, (FloatOps.sitofp (F := Ideal) .f32 (BitVec.ofNat 32 q.val) : EReal) = (((q.val : ℕ) : ℝ) : EReal) := by
    intro q
    have e : ((BitVec.ofNat 32 q.val).toInt) = (q.val : ℤ) := by
      have := q.isLt
      rw [BitVec.toInt_eq_toNat_of_lt] <;> simp <;> omega
    show ((((BitVec.ofNat 32 q.val).toInt : ℤ) : ℝ) : EReal) = _
    rw [e]; norm_cast
  rw [Finset.sum_eq_single s]
  · rw [hq, h, if_pos rfl, one_mul]
  · intro q _ hne
    rw [hq, h, if_neg, zero_mul]
    intro e
    exact hne (Fin.ext (by exact_mod_cast (EReal.coe_eq_coe_iff.1 e).symm))
  · intro h'; exact absurd (Finset.mem_univ _) h'

theorem norm_at (v : Vec Ideal S1024x1 .f32) (y : Vec Ideal S1536x1024 .f32) (x : Vec Ideal S1024x1024 .f32) (ga bi : Vec Ideal S1x1024 .f32)
    (s : Fin 1536) (r d : Fin 1024) (h : v (ix2 r 0) = (((s.val : ℕ) : ℝ) : EReal)) :
    k0_pay45 v y x ga bi (ix2 r d) = Row.lnorm (fun l => Row.alpha * x (ix2 r l) + y (ix2 s l)) (ga (ix2 0 d)) (bi (ix2 0 d)) d := by
  have e : k0_pay45 v y x ga bi (ix2 r d) = Row.lnorm (fun l => Row.alpha * x (ix2 r l)
      + ∑ q : Fin 1536, (if v (ix2 r 0) = (FloatOps.sitofp (F := Ideal) .f32 (BitVec.ofNat 32 q.val) : EReal) then (1 : EReal) else 0) * y (ix2 q l)) (ga (ix2 0 d)) (bi (ix2 0 d)) d := by
    unfold k0_pay45
    pointwise []
    try rfl
  rw [e]
  congr 1
  funext l
  rw [one_hot s _ h (fun q => y (ix2 q l))]

variable (m : (ℓ : Loc nD τ sig) → Buf (Elt Ideal) ℓ) (c : Dev nD) (fin : Finite m c)

/-- A token's row before the layer norm. -/
def zrow (i : Fin 32768) (d : Fin 1024) : EReal := Row.alpha * xrow m c i d + ∑ e : Fin 16, shareOf m c i e.val * ffOf m c i e d

theorem share_off (G : Fin 4 → ℝ) (E : Fin 4 → Fin 4 → ℝ) (e : ℕ) (h : e / 4 ≠ (top G).val) : share G E e = 0 := by
  unfold share
  rw [if_neg, if_neg, add_zero]
  · intro h'; apply h; have := (second (E (top G))).isLt; omega
  · intro h'; apply h; have := (top (E (top G))).isLt; omega

theorem pair_sum (i : Fin 32768) (d : Fin 1024) : ∑ e ∈ Finset.range 8, pairOf m c i d e = ∑ e : Fin 16, shareOf m c i e.val * ffOf m c i e d := by
  have h : ∀ e (he : e < 8), pairOf m c i d e = shareOf m c i (2 * e) * ffOf m c i ⟨2 * e, by omega⟩ d + shareOf m c i (2 * e + 1) * ffOf m c i ⟨2 * e + 1, by omega⟩ d := by
    intro e he
    unfold pairOf
    rw [dif_pos he]
    by_cases hk : e / 2 = (top (groups (lg m c i))).val
    · rw [if_pos hk]
    · rw [if_neg hk]
      unfold shareOf
      rw [share_off _ _ (2 * e) (by omega), share_off _ _ (2 * e + 1) (by omega), EReal.coe_zero, zero_mul, zero_mul, add_zero]
  rw [Finset.sum_range_succ, Finset.sum_range_succ, Finset.sum_range_succ, Finset.sum_range_succ, Finset.sum_range_succ, Finset.sum_range_succ, Finset.sum_range_succ, Finset.sum_range_one,
    h 0 (by omega), h 1 (by omega), h 2 (by omega), h 3 (by omega), h 4 (by omega), h 5 (by omega), h 6 (by omega), h 7 (by omega)]
  rw [Fin.sum_univ_castSucc, Fin.sum_univ_castSucc, Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_zero, zero_add]
  simp only [← add_assoc]
  rfl

/-- The result's row. -/
def grow (i : Fin 32768) (d : Fin 1024) : EReal :=
  Row.lnorm (zrow m c i) ((m ((c : Thread nD τ).loc main_arg8) : Vec Ideal S1024 .f32) (ix1 d)) ((m ((c : Thread nD τ).loc main_arg9) : Vec Ideal S1024 .f32) (ix1 d)) d

include fin in
theorem out_at (t : Fin cfg0.N) (ht : t.val % 8 = 7) (r d : Fin 1024) : outAt m c t (ix2 r d) = grow m c (rowOf t r) d := by
  have hs : slotAt m c t (ix2 r 0) = ((((slotT m c fin t r).val : ℕ) : ℝ) : EReal) :=
    slotOf_at (bx m c (base t)) (bwr m c (base t)) (bbr m c (base t)) (fun r l => lg m c (rowOf (base t) r) l) (fun r l => block_logits m c fin (base t) r l) r
  unfold outAt
  rw [norm_at (slotAt m c t) (yAt m c t) (bx m c t) (bga m c t) (bbi m c t) (slotT m c fin t r) r d hs]
  unfold grow
  have hz : (fun l => Row.alpha * bx m c t (ix2 r l) + yAt m c t (ix2 (slotT m c fin t r) l)) = zrow m c (rowOf t r) := by
    funext l
    rw [packed_sum m c fin 7 t ht r l, pair_sum]
    unfold zrow
    have := bx_at m c t r l
    rw [this]; rfl
  rw [hz]
  have h1 := bga_at m c t d
  have h2 := bbi_at m c t d
  rw [h1, h2]

/-- The result array. -/
def gout : Vec Ideal S32768x1024 .f32 := fun idx => grow m c (idx 0) (idx 1)

include fin in
theorem arr_out (n : ℕ) : n ≤ cfg0.N → ∀ G, (rdat m c).ArrAt 8 n G → ∀ t : Fin cfg0.N, t.val < n → t.val % 8 = 7 → ∀ r d : Fin 1024,
    (G : Vec Ideal S32768x1024 .f32) (ix2 (rowOf t r) d) = grow m c (rowOf t r) d := by
  induction n with
  | zero => intro _ G _ t ht; omega
  | succ n ih =>
    intro hn G hG t ht h7 r d
    have hlt : n < cfg0.N := hn
    unfold RDat.ArrAt at hG
    rw [dif_pos hlt] at hG
    by_cases hf : (cfg0.win 8).flush ⟨n, hlt⟩ = true
    · rw [if_pos hf] at hG
      obtain ⟨G₀, X, h0, hX, rfl⟩ := hG
      have hn7 : n % 8 = 7 := (flush0_8 ⟨n, hlt⟩).1 hf
      obtain ⟨Y, -, hY⟩ := hX
      have hXo : X = outAt m c ⟨n, hlt⟩ := hY hn7
      by_cases htn : t.val = n
      · obtain rfl : t = ⟨n, hlt⟩ := Fin.ext htn
        rw [← out_at m c fin ⟨n, hlt⟩ hn7 r d, ← hXo, ← emb8 ⟨n, hlt⟩ r d]
        exact View.write_emb_of_mem _ _ (Finset.mem_univ _)
      · have := ih (by omega) G₀ h0 t (by omega) h7 r d
        rw [← this]
        refine View.write_of_not_mem _ _ _ ?_
        intro hmem
        obtain ⟨y, -, hy⟩ := Finset.mem_map.1 hmem
        obtain ⟨r', d', rfl⟩ : ∃ r' d' : Fin 1024, y = (ix2 r' d' : S1024x1024.Idx) := ⟨y 0, y 1, by funext a; match a with | ⟨0, _⟩ => rfl | ⟨1, _⟩ => rfl⟩
        rw [emb8 ⟨n, hlt⟩ r' d'] at hy
        have h0 := congrArg Fin.val (congrFun hy 0)
        have h1 : n / 8 * 1024 + r'.val = t.val / 8 * 1024 + r.val := h0
        have := r.isLt; have := r'.isLt
        omega
    · rw [if_neg hf] at hG
      have htn : t.val ≠ n := fun e => hf ((flush0_8 ⟨n, hlt⟩).2 (by show n % 8 = 7; omega))
      exact ih (by omega) G hG t (by omega) h7 r d

include fin in
theorem arr_final (G) (hG : (rdat m c).ArrAt 8 cfg0.N G) : (G : Vec Ideal S32768x1024 .f32) = gout m c := by
  funext idx
  have hi : (idx 0).val < 32768 := (idx 0).isLt
  have hN : cfg0.N = 256 := rfl
  let t : Fin cfg0.N := ⟨(idx 0).val / 1024 * 8 + 7, by omega⟩
  have hr : rowOf t ⟨(idx 0).val % 1024, Nat.mod_lt _ (by omega)⟩ = idx 0 := by
    apply Fin.ext; show ((idx 0).val / 1024 * 8 + 7) / 8 * 1024 + (idx 0).val % 1024 = (idx 0).val; omega
  have h := arr_out m c fin cfg0.N (le_refl _) G hG t t.isLt (by show ((idx 0).val / 1024 * 8 + 7) % 8 = 7; omega) ⟨(idx 0).val % 1024, Nat.mod_lt _ (by omega)⟩ (idx 1)
  rw [hr] at h
  have e : idx = (ix2 (idx 0) (idx 1) : S32768x1024.Idx) := by funext a; match a with | ⟨0, _⟩ => rfl | ⟨1, _⟩ => rfl
  rw [e]
  exact h

end Cert.Proof.Moe

end
-- ==== Proof.Moe.Pre.lean ====
/- The precondition: the router's arrays are finite. -/
module

public import proofs.«01_k».proof.Proof.Moe.Step
public import proofs.«01_k».proof.Proof.Moe.PipeData
public import proofs.«01_k».proof.Proof.Row
public import proofs.«01_k».proof.Pre_finite_router
public import proofs.«01_k».proof.Defs
public import proofs.«01_k».proof.Proof.Moe.Out
public import Idealize.ShloMosaic.Lib.Pointwise
public import Idealize.ShloMosaic.Lib.Tactic
@[expose] public section

set_option maxRecDepth 65536

noncomputable section

namespace Cert.Proof.Moe

open Cert.KernelIdeal Cert.KernelIdeal.Gen
open Idealize.ShloMosaic

open Idealize.ShloMosaic.TcCoe

/-- The side conditions of the precondition's operations. -/
theorem pre_facts : Cert.Pre_finite_router.Facts where
  bcast_S_S32768x1024 := by decide
  reducesTo_S32768x1024_S_d0_1 := by decide
  h_S_ := by decide
  bcast_S_S1024x4 := by decide
  reducesTo_S1024x4_S_d0_1 := by decide
  bcast_S_S4 := by decide
  reducesTo_S4_S_d0 := by decide
  bcast_S_S1024x16 := by decide
  reducesTo_S1024x16_S_d0_1 := by decide
  bcast_S_S16 := by decide
  reducesTo_S16_S_d0 := by decide

theorem and_split : ∀ a b : BitVec 1, IntOp.andi a b = 1#1 → a = 1#1 ∧ b = 1#1 := by decide

theorem fold_and_all {ι : Type} (s : Finset ι) (M : ι → BitVec 1) (h : Finset.fold IntOp.andi 1#1 M s = 1#1) : ∀ j ∈ s, M j = 1#1 := by
  classical
  induction s using Finset.induction_on with
  | empty => intro j hj; exact absurd hj (Finset.notMem_empty j)
  | insert a s ha ih =>
    rw [Finset.fold_insert ha] at h
    have h2 := and_split _ _ h
    intro j hj
    rcases Finset.mem_insert.1 hj with rfl | hj
    · exact h2.1
    · exact ih h2.2 j hj

theorem real_of_abs (v : EReal) (h : Ideal.cmp .olt (max v (-v)) ⊤ = 1#1) : ∃ x : ℝ, v = (x : EReal) := by
  unfold Ideal.cmp at h
  have hlt : max v (-v) < ⊤ := by
    by_contra hc
    simp [hc] at h
  induction v using EReal.rec with
  | bot => simp at hlt
  | coe a => exact ⟨a, rfl⟩
  | top => simp at hlt

section Parts
local instance : Cert.Pre_finite_router.Facts := pre_facts
open Cert.Pre_finite_router.Facts

theorem inf_word : Ideal.ofBits .f32 0x7F800000#32 = ⊤ := by
  pointwise []
  try rfl

/-- One array's part of the precondition. -/
theorem all_real {s : Shape} (a : FVec Ideal s .f32) (hb : (⟨0, ![]⟩ : Shape).BroadcastsInDim s (![] : Fin 0 → Fin s.rank)) (axes : List (Fin s.rank)) (hr : s.ReducesTo axes ⟨0, ![]⟩)
    (h : Host.reduce IntOp.andi (cmpf .olt (Host.absf a) (broadcastInDim s ![] hb (constant ⟨0, ![]⟩ .f32 0x7F800000#32))) (constantI ⟨0, ![]⟩ 1 1#1) hr Cert.Pre_finite_router.Facts.h_S_ = fun _ => 1#1) (j : s.Idx) :
    ∃ x : ℝ, a j = (x : EReal) := by
  have h0 := congrFun h (fun a => a.elim0)
  rw [Host.reduce_eq_fold] at h0
  have h1 := fold_and_all _ _ h0 j (Finset.mem_filter.2 ⟨Finset.mem_univ _, funext fun a => a.elim0⟩)
  refine real_of_abs (a j) ?_
  rw [← inf_word]
  exact h1

theorem andi_split (x y : IVec ⟨0, ![]⟩ 1) (h : andi x y = fun _ => 1#1) : x = (fun _ => 1#1) ∧ y = fun _ => 1#1 :=
  ⟨funext fun j => (and_split _ _ (congrFun h j)).1, funext fun j => (and_split _ _ (congrFun h j)).2⟩

variable (m : (ℓ : Loc nD τ sig) → Buf (Elt Ideal) ℓ) (c : Dev nD)

theorem finite_of (h : Cert.Pre_KernelIdeal_finite_router m) : Finite m c := by
  have hc := h c
  unfold Cert.Pre_finite_router.fn Cert.Pre_finite_router.fn_part1 at hc
  obtain ⟨hc, h4⟩ := andi_split _ _ hc
  obtain ⟨hc, h3⟩ := andi_split _ _ hc
  obtain ⟨hc, h2⟩ := andi_split _ _ hc
  obtain ⟨h0, h1⟩ := andi_split _ _ hc
  have r0 := all_real _ _ _ _ h0
  have r1 := all_real _ _ _ _ h1
  have r2 := all_real _ _ _ _ h2
  have r3 := all_real _ _ _ _ h3
  have r4 := all_real _ _ _ _ h4
  have lanes : ∀ l : Fin 128, (∃ g : Fin 4, l = ⟨g.val, by omega⟩) ∨ (∃ e : Fin 16, l = ⟨4 + e.val, by omega⟩) ∨ 20 ≤ l.val := by
    intro l
    by_cases h4 : l.val < 4
    · exact Or.inl ⟨⟨l.val, h4⟩, rfl⟩
    · by_cases h20 : l.val < 20
      · exact Or.inr (Or.inl ⟨⟨l.val - 4, by omega⟩, Fin.ext (by show l.val = 4 + (l.val - 4); omega)⟩)
      · exact Or.inr (Or.inr (by omega))
  refine ⟨fun i k => r0 _, fun k l => ?_, fun l => ?_⟩
  · rcases lanes l with ⟨g, rfl⟩ | ⟨e, rfl⟩ | hl
    · have := wr_group m c k g
      rw [this]; exact r1 _
    · have := wr_expert m c k e
      rw [this]; exact r3 _
    · exact ⟨0, wr_rest m c k l hl⟩
  · rcases lanes l with ⟨g, rfl⟩ | ⟨e, rfl⟩ | hl
    · have := br_group m c g
      rw [this]; exact r2 _
    · have := br_expert m c e
      rw [this]; exact r4 _
    · exact ⟨0, br_rest m c l hl⟩

end Parts

end Cert.Proof.Moe

end
-- ==== Proof.Moe.RefTop.lean ====
/- The host's choice of the greatest entries of a row of four. -/
module

public import proofs.«01_k».proof.Proof.Gen.ReferenceIdeal.Run
public import proofs.«01_k».proof.Proof.Moe.Choice
public import proofs.«01_k».proof.Proof.Moe.Route
public import Idealize.ShloMosaic.Lib.Pointwise
public import Idealize.ShloMosaic.Lib.Tactic

@[expose] public section

set_option maxRecDepth 65536

noncomputable section

namespace Cert.Proof.MoeRef

open Cert.ReferenceIdeal Cert.ReferenceIdeal.Gen Cert.ReferenceIdeal.Value
open Idealize.ShloMosaic
open Cert.Proof.Moe (top second top_first second_next First Next sorted_of weight ratio share bot_word fold_max_of div_coe exp_coe)

/-- The host's order of the entries of a row. -/
def ord (x : Vec Ideal S32768x4 .f32) (i : Fin 32768) (k k' : Fin 4) : Bool := FloatOps.cmpfTotal (F := Ideal) (φ := .f32) .gt (x (ix2 i k)) (x (ix2 i k')) == 1#1

section Chosen
variable (x : Vec Ideal S32768x4 .f32) (i : Fin 32768) (G : Fin 4 → ℝ) (hx : ∀ k, x (ix2 i k) = ((G k : ℝ) : EReal))

include hx in
theorem ord_iff (k k' : Fin 4) : ord x i k k' = true ↔ G k' < G k := by
  unfold ord
  rw [hx k, hx k']
  show ((Ideal.cmp .ogt ((G k : ℝ) : EReal) ((G k' : ℝ) : EReal)) == 1#1) = true ↔ _
  rw [beq_iff_eq]
  unfold Ideal.cmp
  by_cases h : G k' < G k
  · simp [h]
  · simp [h]

include hx in
theorem sorted_top : sortedFrom (ord x i) 0 = top G := (sorted_of G (ord x i) (ord_iff x i G hx)).1.unique (top_first G)

include hx in
theorem sorted_second : sortedFrom (ord x i) 1 = second G := by
  have h := sorted_of G (ord x i) (ord_iff x i G hx)
  rw [h.1.unique (top_first G)] at h
  exact h.2.unique (second_next G)

theorem along_at (j : S32768x4.Idx) (h : j 0 = i) (k : Fin 4) : j.along 1 k = (ix2 i k : S32768x4.Idx) := by
  subst h
  funext a
  match a with
  | ⟨0, _⟩ => rfl
  | ⟨1, _⟩ => rfl

theorem sort_val {α : Type} (y : S32768x4.Idx → α) (j : S32768x4.Idx) (h : j 0 = i) (p q : Fin 4) (hp : p = q) :
    y (j.along 1 (sortedFrom (fun k k' : Fin 4 => FloatOps.cmpfTotal (F := Ideal) (φ := .f32) .gt (x (j.along 1 k)) (x (j.along 1 k')) == 1#1) p)) = y (ix2 i (sortedFrom (ord x i) q)) := by
  subst hp
  have e : (fun k k' : Fin 4 => FloatOps.cmpfTotal (F := Ideal) (φ := .f32) .gt (x (j.along 1 k)) (x (j.along 1 k')) == 1#1) = ord x i := by
    funext k k'
    have h1 := along_at i j h k
    have h2 := along_at i j h k'
    unfold ord
    exact congrArg₂ (fun a b => FloatOps.cmpfTotal (F := Ideal) (φ := .f32) .gt (x a) (x b) == 1#1) h1 h2
  exact (congrArg y (along_at i j h _)).trans (congrArg (fun b : Fin 4 → Fin 4 → Bool => y (ix2 i (sortedFrom b p))) e)

/-- An index of a leading slice, in the whole. -/
def lead (t : Shape) (h : S32768x4.Slices (fun _ => 0) t) (j : t.Idx) : S32768x4.Idx :=
  fun a => ⟨0 + (j (a.cast h.1.symm)).val, Nat.lt_of_lt_of_le (Nat.add_lt_add_left (j _).isLt _) (h.2 a)⟩

theorem top1_val : (Host.topK S32768x1 1 (FloatOps.cmpfTotal (F := Ideal) (φ := .f32) .gt) x sliceFits_S32768x4_S32768x1).1 (ix2 i 0) = x (ix2 i (sortedFrom (ord x i) 0)) :=
  sort_val x i x (lead S32768x1 sliceFits_S32768x4_S32768x1 (ix2 i 0)) (Fin.ext (Nat.zero_add _)) (lead S32768x1 sliceFits_S32768x4_S32768x1 (ix2 i 0) 1) 0 rfl

theorem top1_pos : (Host.topK S32768x1 1 (FloatOps.cmpfTotal (F := Ideal) (φ := .f32) .gt) x sliceFits_S32768x4_S32768x1).2 (ix2 i 0) = BitVec.ofNat 32 (sortedFrom (ord x i) 0).val :=
  sort_val x i (iotaInDim S32768x4 32 1) (lead S32768x1 sliceFits_S32768x4_S32768x1 (ix2 i 0)) (Fin.ext (Nat.zero_add _)) (lead S32768x1 sliceFits_S32768x4_S32768x1 (ix2 i 0) 1) 0 rfl

theorem top2_val (j : Fin 2) : (Host.topK S32768x2 1 (FloatOps.cmpfTotal (F := Ideal) (φ := .f32) .gt) x sliceFits_S32768x4_S32768x2).1 (ix2 i j) = x (ix2 i (sortedFrom (ord x i) ⟨j.val, by omega⟩)) :=
  sort_val x i x (lead S32768x2 sliceFits_S32768x4_S32768x2 (ix2 i j)) (Fin.ext (Nat.zero_add _)) (lead S32768x2 sliceFits_S32768x4_S32768x2 (ix2 i j) 1) ⟨j.val, by omega⟩ (Fin.ext (Nat.zero_add _))

theorem top2_pos (j : Fin 2) : (Host.topK S32768x2 1 (FloatOps.cmpfTotal (F := Ideal) (φ := .f32) .gt) x sliceFits_S32768x4_S32768x2).2 (ix2 i j) = BitVec.ofNat 32 (sortedFrom (ord x i) ⟨j.val, by omega⟩).val :=
  sort_val x i (iotaInDim S32768x4 32 1) (lead S32768x2 sliceFits_S32768x4_S32768x2 (ix2 i j)) (Fin.ext (Nat.zero_add _)) (lead S32768x2 sliceFits_S32768x4_S32768x2 (ix2 i j) 1) ⟨j.val, by omega⟩ (Fin.ext (Nat.zero_add _))

end Chosen

end Cert.Proof.MoeRef

end
-- ==== Proof.Moe.RefSoft.lean ====
/- The reference's choice of a group. -/
module

public import proofs.«01_k».proof.Proof.Moe.RefTop

@[expose] public section

set_option maxRecDepth 65536

noncomputable section

namespace Cert.Proof.MoeRef

open Cert.ReferenceIdeal Cert.ReferenceIdeal.Gen Cert.ReferenceIdeal.Value
open Idealize.ShloMosaic
open Cert.Proof.Moe (top second top_first second_next First Next sorted_of weight ratio share bot_word fold_max_of div_coe exp_coe)

theorem ix2_eta {a b : ℕ} (j : (⟨2, ![a, b]⟩ : Shape).Idx) (p : Fin a) (h : j 0 = p) : j = ix2 p (j 1) := by
  subst h
  funext x
  match x with
  | ⟨0, _⟩ => rfl
  | ⟨1, _⟩ => rfl

theorem fold4 (M : Vec Ideal S32768x4 .f32) (i : Fin 32768) (p : Fin 4) (h : ∀ k, @LE.le EReal _ (M (ix2 i k)) (M (ix2 i p))) :
    Finset.fold (max : EReal → EReal → EReal) ⊥ M {j | reducesTo_S32768x4_S32768_d1.drop j = ix1 i} = M (ix2 i p) := by
  apply le_antisymm
  · refine (Finset.fold_max_le _).2 ⟨bot_le, fun j hj => ?_⟩
    have h0 : j 0 = i := congrFun (Finset.mem_filter.1 hj).2 0
    rw [ix2_eta j i h0]
    exact h _
  · refine (Finset.le_fold_max _).2 (Or.inr ⟨ix2 i p, Finset.mem_filter.2 ⟨Finset.mem_univ _, ?_⟩, le_refl _⟩)
    funext a
    match a with
    | ⟨0, _⟩ => rfl

theorem fold2 (M : Vec Ideal S32768x2 .f32) (i : Fin 32768) (p : Fin 2) (h : ∀ k, @LE.le EReal _ (M (ix2 i k)) (M (ix2 i p))) :
    Finset.fold (max : EReal → EReal → EReal) ⊥ M {j | reducesTo_S32768x2_S32768_d1.drop j = ix1 i} = M (ix2 i p) := by
  apply le_antisymm
  · refine (Finset.fold_max_le _).2 ⟨bot_le, fun j hj => ?_⟩
    have h0 : j 0 = i := congrFun (Finset.mem_filter.1 hj).2 0
    rw [ix2_eta j i h0]
    exact h _
  · refine (Finset.le_fold_max _).2 (Or.inr ⟨ix2 i p, Finset.mem_filter.2 ⟨Finset.mem_univ _, ?_⟩, le_refl _⟩)
    funext a
    match a with
    | ⟨0, _⟩ => rfl

variable (V0 : Valuation τ sig (Elt Ideal)) (i : Fin 32768)

theorem v3_at (k : Fin 4) : res_main_v3 V0 (ix2 i k) = @HAdd.hAdd EReal EReal EReal _ (∑ l : Fin 1024, @HMul.hMul EReal EReal EReal _ ((V0 (Proc.devRef .tc main_arg0) : Vec Ideal S32768x1024 .f32) (ix2 i l)) ((V0 (Proc.devRef .tc main_arg1) : Vec Ideal S1024x4 .f32) (ix2 l k)))
    ((V0 (Proc.devRef .tc main_arg2) : Vec Ideal S4 .f32) (ix1 k)) := by
  unfold res_main_v3
  pointwise []
  try rfl

section Soft
variable (G : Fin 4 → ℝ) (hG : ∀ k, (res_main_v3 V0 : Vec Ideal S32768x4 .f32) (ix2 i k) = ((G k : ℝ) : EReal))

include hG in
theorem v10_at (k : Fin 4) : res_main_v10 V0 (ix2 i k) = ((Real.exp (G k - G (top G)) : ℝ) : EReal) := by
  unfold res_main_v10
  generalize res_main_v3 V0 = M at hG ⊢
  pointwise []
  simp only [hG]
  rw [bot_word]
  have ht := top_first G
  have hf := fold4 M i (top G) (fun k => by rw [hG, hG]; exact EReal.coe_le_coe_iff.2 (ht.1 k))
  rw [hG] at hf
  refine Eq.trans (congrArg (fun z : EReal => Ideal.exp (((G k : ℝ) : EReal) - max ⊥ z)) (Eq.trans ?_ hf)) ?_
  · first | rfl | congr
  show Ideal.exp (((G k : ℝ) : EReal) - max ⊥ ((G (top G) : ℝ) : EReal)) = _
  rw [max_eq_right bot_le, ← EReal.coe_sub]
  rfl

include hG in
theorem v14_at (k : Fin 4) : res_main_v14 V0 (ix2 i k) = ((Real.exp (G k - G (top G)) / ∑ k, Real.exp (G k - G (top G)) : ℝ) : EReal) := by
  have h := v10_at V0 i G hG
  unfold res_main_v14
  generalize res_main_v10 V0 = M at h ⊢
  pointwise []
  simp only [h]
  rw [← Cert.Proof.Moe.sum_coe]
  exact div_coe _ _ (ne_of_gt (Cert.Proof.Moe.weight_den G))

theorem top_soft : top (fun k => Real.exp (G k - G (top G)) / ∑ k, Real.exp (G k - G (top G))) = top G := by
  have hd := Cert.Proof.Moe.weight_den G
  have ht := top_first G
  refine First.unique (top_first _) ⟨fun k => ?_, fun k hk => ?_⟩
  · exact div_le_div_of_nonneg_right (Real.exp_le_exp.2 (sub_le_sub_right (ht.1 k) _)) hd.le
  · exact div_lt_div_of_pos_right (Real.exp_lt_exp.2 (sub_lt_sub_right (ht.2 k hk) _)) hd

include hG in
theorem group_at : res_main_indices V0 (ix2 i 0) = BitVec.ofNat 32 (top G).val := by
  have h := v14_at V0 i G hG
  unfold res_main_indices
  generalize res_main_v14 V0 = M at h ⊢
  refine (top1_pos M i).trans ?_
  rw [sorted_top M i _ h, top_soft]

include hG in
theorem weight_at : (Host.topK S32768x1 1 (FloatOps.cmpfTotal (F := Ideal) (φ := .f32) .gt) (res_main_v14 V0) sliceFits_S32768x4_S32768x1).1 (ix2 i 0) = ((weight G : ℝ) : EReal) := by
  have h := v14_at V0 i G hG
  generalize res_main_v14 V0 = M at h ⊢
  refine (top1_val M i).trans ?_
  rw [sorted_top M i _ h, top_soft, h, sub_self, Real.exp_zero]
  rfl

end Soft

end Cert.Proof.MoeRef

end
-- ==== Proof.Moe.RefGather.lean ====
/- The reference's gathering of a group's logits. -/
module

public import proofs.«01_k».proof.Proof.Moe.RefTop
public import Idealize.ShloMosaic.Lib.Pointwise
public import Idealize.ShloMosaic.Lib.Tactic

@[expose] public section

set_option maxRecDepth 65536

noncomputable section

namespace Cert.Proof.MoeRef

open Cert.ReferenceIdeal Cert.ReferenceIdeal.Gen Cert.ReferenceIdeal.Value
open Idealize.ShloMosaic
open Cert.Proof.Moe (top second top_first second_next First Next sorted_of weight ratio share bot_word fold_max_of div_coe exp_coe)

variable (i : Fin 32768)

theorem gather_at (y : Vec Ideal S32768x4x4 .f32) (idx : IVec S32768x1x1 32) (g : Fin 4) (h : idx (ix3 i 0 0) = BitVec.ofNat 32 g.val) (j : Fin 4) :
    Host.gather gather_S32768x4x4_S32768x1x1_S32768x1x4_2_1_0_0_1_2_114 y idx (ix3 i 0 j) = y (ix3 i g j) := by
  show y (GatherDims.operandIdx _ (ix3 i 0 j) idx) = _
  refine congrArg y (funext fun a => Fin.ext ?_)
  match a with
  | ⟨0, _⟩ => show 0 + i.val + 0 = i.val; omega
  | ⟨1, _⟩ =>
    have hs : (gather_S32768x4x4_S32768x1x1_S32768x1x4_2_1_0_0_1_2_114).siIdx (ix3 i 0 j) ⟨0, by decide⟩ = (ix3 i 0 0 : S32768x1x1.Idx) := by
      funext b
      match b with
      | ⟨0, _⟩ => rfl
      | ⟨1, _⟩ => rfl
      | ⟨2, _⟩ => rfl
    show min (idx ((gather_S32768x4x4_S32768x1x1_S32768x1x4_2_1_0_0_1_2_114).siIdx (ix3 i 0 j) ⟨0, by decide⟩)).toInt.toNat 3 + 0 + 0 = g.val
    rw [hs, h]
    have : ∀ g : Fin 4, min (BitVec.ofNat 32 g.val).toInt.toNat 3 + 0 + 0 = g.val := by decide
    exact this g
  | ⟨2, _⟩ => show 0 + 0 + j.val = j.val; omega

theorem fold_and {ι : Type} (s : Finset ι) (M : ι → BitVec 1) (h : ∀ j ∈ s, M j = 1#1) : Finset.fold IntOp.andi 1#1 M s = 1#1 := by
  classical
  induction s using Finset.induction_on with
  | empty => rfl
  | insert a s ha ih =>
    rw [Finset.fold_insert ha, ih (fun j hj => h j (Finset.mem_insert_of_mem hj)), h a (Finset.mem_insert_self a s)]
    rfl

theorem in_range : ∀ g : Fin 4, IntOp.andi (IntOp.cmpi CmpIPredicate.sge (BitVec.ofNat 32 g.val) 0#32) (IntOp.cmpi CmpIPredicate.sle (BitVec.ofNat 32 g.val) 3#32) = 1#1 := by decide

theorem kept_at (M : IVec S32768x1x1 1) (h : M (ix3 i 0 0) = 1#1) :
    Host.reduce IntOp.andi M (constantI S_ 1 1#1) reducesTo_S32768x1x1_S32768x1_d2 h_S_ (ix2 i 0) = 1#1 := by
  pointwise []
  refine fold_and _ _ fun x _ => ?_
  obtain rfl : x = 0 := Subsingleton.elim _ _
  exact h

theorem cast16 (L : Vec Ideal S32768x16 .f32) (a b : Fin 4) : shapeCast S32768x4x4 L shapeCasts_S32768x16_S32768x4x4 (ix3 i a b) = L (ix2 i ⟨4 * a.val + b.val, by omega⟩) := by
  refine shapeCast_apply L _ _ _ ?_
  rw [Shape.rowMajor_val_two, Shape.rowMajor_val_three]
  show i.val * 16 + (4 * a.val + b.val) = (i.val * 4 + a.val) * 4 + b.val
  omega

theorem cast4 (L : Vec Ideal S32768x1x4 .f32) (b : Fin 4) : shapeCast S32768x4 L shapeCasts_S32768x1x4_S32768x4 (ix2 i b) = L (ix3 i 0 b) := by
  refine shapeCast_apply L _ _ _ ?_
  rw [Shape.rowMajor_val_two, Shape.rowMajor_val_three]
  show (i.val * 1 + 0) * 4 + b.val = i.val * 4 + b.val
  omega

theorem gathered (L : Vec Ideal S32768x16 .f32) (idx : IVec S32768x1x1 32) (N : Vec Ideal S32768x1x4 .f32) (g : Fin 4) (h : idx (ix3 i 0 0) = BitVec.ofNat 32 g.val) (j : Fin 4) :
    shapeCast S32768x4 (select (broadcastInDim S32768x1x4 ![0, 1] bcast_S32768x1_S32768x1x4_0_1 (Host.reduce IntOp.andi (andi (cmpi .sge idx (broadcastInDim S32768x1x1 ![] bcast_S_S32768x1x1 (constantI S_ 32 0#32))) (cmpi .sle idx (broadcastInDim S32768x1x1 ![0, 1, 2] bcast_S1x1x1_S32768x1x1_0_1_2 (broadcastInDim S1x1x1 ![2] bcast_S1_S1x1x1_2 (constantI S1 32 3#32))))) (constantI S_ 1 1#1) reducesTo_S32768x1x1_S32768x1_d2 h_S_))
      (Host.gather gather_S32768x4x4_S32768x1x1_S32768x1x4_2_1_0_0_1_2_114 (shapeCast S32768x4x4 L shapeCasts_S32768x16_S32768x4x4) idx) N) shapeCasts_S32768x1x4_S32768x4 (ix2 i j)
      = L (ix2 i ⟨4 * g.val + j.val, by omega⟩) := by
  rw [cast4]
  have hk := kept_at i (andi (cmpi .sge idx (broadcastInDim S32768x1x1 ![] bcast_S_S32768x1x1 (constantI S_ 32 0#32))) (cmpi .sle idx (broadcastInDim S32768x1x1 ![0, 1, 2] bcast_S1x1x1_S32768x1x1_0_1_2 (broadcastInDim S1x1x1 ![2] bcast_S1_S1x1x1_2 (constantI S1 32 3#32))))) (by
    pointwise []
    rw [h]
    exact in_range g)
  have hg := gather_at i (shapeCast S32768x4x4 L shapeCasts_S32768x16_S32768x4x4) idx g h j
  rw [cast16] at hg
  generalize Host.gather gather_S32768x4x4_S32768x1x1_S32768x1x4_2_1_0_0_1_2_114 (shapeCast S32768x4x4 L shapeCasts_S32768x16_S32768x4x4) idx = Q at hg ⊢
  generalize Host.reduce IntOp.andi _ _ reducesTo_S32768x1x1_S32768x1_d2 h_S_ = R at hk ⊢
  rw [← hg]
  pointwise []
  rw [hk]
  rfl

variable (V0 : Valuation τ sig (Elt Ideal))

/-- A token's logit for an expert. -/
def elog (e : Fin 16) : EReal :=
  @HAdd.hAdd EReal EReal EReal _ (∑ l : Fin 1024, @HMul.hMul EReal EReal EReal _ ((V0 (Proc.devRef .tc main_arg0) : Vec Ideal S32768x1024 .f32) (ix2 i l)) ((V0 (Proc.devRef .tc main_arg3) : Vec Ideal S1024x16 .f32) (ix2 l e)))
    ((V0 (Proc.devRef .tc main_arg4) : Vec Ideal S16 .f32) (ix1 e))

theorem stays : ∀ g : Fin 4, Scalar.select (IntOp.cmpi CmpIPredicate.slt (BitVec.ofNat 32 g.val) 0#32) (IntOp.addi (BitVec.ofNat 32 g.val) 4#32) (BitVec.ofNat 32 g.val) = BitVec.ofNat 32 g.val := by decide

theorem start_at (g : Fin 4) (hg : res_main_indices V0 (ix2 i 0) = BitVec.ofNat 32 g.val) : res_main_call0_v4 V0 (ix3 i 0 0) = BitVec.ofNat 32 g.val := by
  unfold res_main_call0_v4 res_main_v20
  generalize res_main_indices V0 = M at hg ⊢
  pointwise []
  rw [hg]
  exact stays g

theorem v22_at (g : Fin 4) (hg : res_main_indices V0 (ix2 i 0) = BitVec.ofNat 32 g.val) (j : Fin 4) : res_main_v22 V0 (ix2 i j) = elog i V0 ⟨4 * g.val + j.val, by omega⟩ := by
  have hs := start_at i V0 g hg
  unfold res_main_v22
  generalize res_main_call0_v4 V0 = idx at hs ⊢
  refine (gathered i _ idx _ g hs j).trans ?_
  unfold elog
  pointwise []
  try rfl

end Cert.Proof.MoeRef

end
-- ==== Proof.Moe.RefShare.lean ====
/- The reference's weights of the experts. -/
module

public import proofs.«01_k».proof.Proof.Moe.RefTop
public import proofs.«01_k».proof.Proof.Moe.RefSoft
public import proofs.«01_k».proof.Proof.Moe.RefGather
public import Idealize.ShloMosaic.Lib.Pointwise
public import Idealize.ShloMosaic.Lib.Tactic

@[expose] public section

set_option maxRecDepth 65536

noncomputable section

namespace Cert.Proof.MoeRef

open Cert.ReferenceIdeal Cert.ReferenceIdeal.Gen Cert.ReferenceIdeal.Value
open Idealize.ShloMosaic
open Cert.Proof.Moe (top second top_first second_next First Next sorted_of weight ratio share bot_word fold_max_of div_coe exp_coe)

theorem word_pick : ∀ (g p : Fin 4) (e : Fin 16), IntOp.cmpi CmpIPredicate.eq (IntOp.addi (IntOp.muli (BitVec.ofNat 32 g.val) 4#32) (BitVec.ofNat 32 p.val)) (BitVec.ofNat 32 e.val) = 1#1 ↔ e.val = 4 * g.val + p.val := by decide +kernel

theorem unit_word (c : BitVec 1) (p : Prop) [Decidable p] (h : c = 1#1 ↔ p) : (FloatOps.uitofp (F := Ideal) .f32 c : EReal) = if p then 1 else 0 := by
  by_cases hp : p
  · rw [if_pos hp, h.2 hp]; show (((1#1 : BitVec 1).toNat : ℝ) : EReal) = 1; norm_num
  · have : c = 0#1 := by
      have := c.isLt
      by_contra hc
      exact hp (h.1 (by
        revert hc
        have : ∀ c : BitVec 1, ¬ c = 0#1 → c = 1#1 := by decide
        exact this c))
    rw [if_neg hp, this]; show (((0#1 : BitVec 1).toNat : ℝ) : EReal) = 0; norm_num

theorem lane_lt (g j : Fin 4) : 4 * g.val + j.val < 16 := by omega

variable (V0 : Valuation τ sig (Elt Ideal)) (i : Fin 32768) (G : Fin 4 → ℝ) (hG : ∀ k, (res_main_v3 V0 : Vec Ideal S32768x4 .f32) (ix2 i k) = ((G k : ℝ) : EReal))
  (E : Fin 4 → Fin 4 → ℝ) (hE : ∀ g j : Fin 4, elog i V0 ⟨4 * g.val + j.val, lane_lt g j⟩ = ((E g j : ℝ) : EReal))

include hG hE in
theorem v22_row (j : Fin 4) : res_main_v22 V0 (ix2 i j) = ((E (top G) j : ℝ) : EReal) :=
  (v22_at i V0 (top G) (group_at V0 i G hG) j).trans (hE _ _)

include hG hE in
theorem val0_at : res_main_values_2 V0 (ix2 i 0) = ((E (top G) (top (E (top G))) : ℝ) : EReal) := by
  have h := v22_row V0 i G hG E hE
  unfold res_main_values_2
  generalize res_main_v22 V0 = M at h ⊢
  refine (top2_val M i 0).trans ?_
  show M (ix2 i (sortedFrom (ord M i) 0)) = _
  rw [sorted_top M i _ h]
  exact h _

include hG hE in
theorem val1_at : res_main_values_2 V0 (ix2 i 1) = ((E (top G) (second (E (top G))) : ℝ) : EReal) := by
  have h := v22_row V0 i G hG E hE
  unfold res_main_values_2
  generalize res_main_v22 V0 = M at h ⊢
  refine (top2_val M i 1).trans ?_
  show M (ix2 i (sortedFrom (ord M i) 1)) = _
  rw [sorted_second M i _ h]
  exact h _

theorem ratio_at (x0 x1 : ℝ) (hx : x1 ≤ x0) (k : Fin 2) (M : Vec Ideal S32768x2 .f32) (h0 : M (ix2 i 0) = ((x0 : ℝ) : EReal)) (h1 : M (ix2 i 1) = ((x1 : ℝ) : EReal)) :
    Host.exp (F := Ideal) (subf M (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf M (constant S_ .f32 0xFF800000#32) reducesTo_S32768x2_S32768_d1 h_S_))))) (ix2 i k)
      = (((if k = 0 then 1 else Real.exp (x1 - x0)) : ℝ) : EReal) := by
  have hf : Finset.fold (max : EReal → EReal → EReal) ⊥ (fun x : Fin 2 => M (ix2 i x)) Finset.univ = ((x0 : ℝ) : EReal) := (fold_max_of (fun x : Fin 2 => M (ix2 i x)) 0 (fun k => by
    match k with
    | ⟨0, _⟩ => exact le_refl _
    | ⟨1, _⟩ => exact (le_of_eq h1).trans ((EReal.coe_le_coe_iff.2 hx).trans (le_of_eq h0.symm)))).trans h0
  pointwise []
  rw [bot_word]
  refine Eq.trans (congrArg (fun z : EReal => Ideal.exp (M (ix2 i k) - max ⊥ z)) (Eq.trans ?_ hf)) ?_
  · first | rfl | congr
  show Ideal.exp (M (ix2 i k) - max ⊥ ((x0 : ℝ) : EReal)) = _
  rw [max_eq_right bot_le]
  match k with
  | ⟨0, _⟩ =>
    refine (congrArg (fun z : EReal => Ideal.exp (z - ((x0 : ℝ) : EReal))) h0).trans ?_
    show Ideal.exp (((x0 : ℝ) : EReal) - ((x0 : ℝ) : EReal)) = _
    rw [← EReal.coe_sub, sub_self, exp_coe, Real.exp_zero]; rfl
  | ⟨1, _⟩ =>
    refine (congrArg (fun z : EReal => Ideal.exp (z - ((x0 : ℝ) : EReal))) h1).trans ?_
    show Ideal.exp (((x1 : ℝ) : EReal) - ((x0 : ℝ) : EReal)) = _
    rw [← EReal.coe_sub]; rfl

include hG hE in
theorem v29_at (k : Fin 2) : res_main_v29 V0 (ix2 i k) = (((if k = 0 then 1 else ratio (E (top G))) : ℝ) : EReal) := by
  have h0 := val0_at V0 i G hG E hE
  have h1 := val1_at V0 i G hG E hE
  unfold res_main_v29
  generalize res_main_values_2 V0 = M at h0 h1 ⊢
  exact ratio_at i _ _ ((top_first _).1 _) k M h0 h1

include hG hE in
theorem pos_at : (Host.topK S32768x2 1 (FloatOps.cmpfTotal (F := Ideal) (φ := .f32) .gt) (res_main_v22 V0) sliceFits_S32768x4_S32768x2).2 (ix2 i 0) = BitVec.ofNat 32 (top (E (top G))).val
    ∧ (Host.topK S32768x2 1 (FloatOps.cmpfTotal (F := Ideal) (φ := .f32) .gt) (res_main_v22 V0) sliceFits_S32768x4_S32768x2).2 (ix2 i 1) = BitVec.ofNat 32 (second (E (top G))).val := by
  have h := v22_row V0 i G hG E hE
  generalize res_main_v22 V0 = M at h ⊢
  refine ⟨(top2_pos M i 0).trans ?_, (top2_pos M i 1).trans ?_⟩
  · show BitVec.ofNat 32 (sortedFrom (ord M i) 0).val = _
    rw [sorted_top M i _ h]
  · show BitVec.ofNat 32 (sortedFrom (ord M i) 1).val = _
    rw [sorted_second M i _ h]

include hG hE in
theorem v41_at (e : Fin 16) : res_main_v41 V0 (ix2 i e) = ((share G E e.val : ℝ) : EReal) := by
  have hv := v29_at V0 i G hG E hE
  have hp := pos_at V0 i G hG E hE
  have hw := weight_at V0 i G hG
  have hg := group_at V0 i G hG
  unfold res_main_v41
  generalize (Host.topK S32768x2 1 (FloatOps.cmpfTotal (F := Ideal) (φ := .f32) .gt) (res_main_v22 V0) sliceFits_S32768x4_S32768x2).2 = P at hp ⊢
  generalize (Host.topK S32768x1 1 (FloatOps.cmpfTotal (F := Ideal) (φ := .f32) .gt) (res_main_v14 V0) sliceFits_S32768x4_S32768x1).1 = W at hw ⊢
  generalize res_main_indices V0 = D at hg ⊢
  generalize res_main_v29 V0 = R at hv ⊢
  have hv0 : R (ix2 i 0) = ((1 : ℝ) : EReal) := (hv 0).trans (by rw [if_pos rfl])
  have hv1 : R (ix2 i 1) = ((ratio (E (top G)) : ℝ) : EReal) := (hv 1).trans (by rw [if_neg (by decide)])
  have hr : (1 : ℝ) + ratio (E (top G)) ≠ 0 := ne_of_gt (add_pos one_pos (Real.exp_pos _))
  pointwise []
  simp only [Fin.sum_univ_two, hv0, hv1, hp.1, hp.2, hw, hg]
  rw [← EReal.coe_add, div_coe _ _ hr, div_coe _ _ hr, unit_word _ _ (word_pick (top G) (top (E (top G))) e), unit_word _ _ (word_pick (top G) (second (E (top G))) e)]
  unfold share
  split_ifs <;> simp only [mul_one, mul_zero, add_zero, zero_add, ← EReal.coe_mul, ← EReal.coe_add, EReal.coe_zero] <;> congr 1 <;> ring

end Cert.Proof.MoeRef

end
-- ==== Proof.Moe.RefTerm.lean ====
/- The experts' terms in the reference. -/
module

public import proofs.«01_k».proof.Proof.Gen.ReferenceIdeal.Run
public import proofs.«01_k».proof.Proof.Moe.Terms
public import proofs.«01_k».proof.Proof.Row
public import proofs.«01_k».proof.Proof.Moe.Choice
public import proofs.«01_k».proof.Proof.Moe.Route
public import Idealize.ShloMosaic.Lib.IdealHost
public import Idealize.ShloMosaic.Lib.Pointwise
public import Idealize.ShloMosaic.Lib.Tactic

@[expose] public section

set_option maxRecDepth 65536

noncomputable section

namespace Cert.Proof.MoeRef

open Cert.ReferenceIdeal Cert.ReferenceIdeal.Gen Cert.ReferenceIdeal.Value
open Idealize.ShloMosaic
open Cert.Proof.Moe (top second top_first second_next First Next sorted_of weight ratio share bot_word fold_max_of div_coe exp_coe)

open Cert.Proof

/-- One expert's term in the sum. -/
def term (V0 : Valuation τ sig (Elt Ideal)) (i : Fin 32768) (e : Fin 16) (d : Fin 1024) : EReal :=
  @HMul.hMul EReal EReal EReal _ ((res_main_v41 V0 : Vec Ideal S32768x16 .f32) (ix2 i e)) (Moe.ff (fun k => (V0 (Proc.devRef .tc main_arg0) : Vec Ideal S32768x1024 .f32) (ix2 i k))
    (fun k j => (V0 (Proc.devRef .tc main_arg5) : Vec Ideal S16x1024x512 .f32) (ix3 e k j))
    (fun k j => (V0 (Proc.devRef .tc main_arg6) : Vec Ideal S16x1024x512 .f32) (ix3 e k j))
    (fun j d => (V0 (Proc.devRef .tc main_arg7) : Vec Ideal S16x512x1024 .f32) (ix3 e j d)) d)

theorem silu (y : EReal) : y * Ideal.div 1 (1 + Ideal.exp (-y)) = Ideal.div y (1 + Ideal.exp (0 - y)) := by
  rw [zero_sub]
  have h : ∀ z : EReal, (0 : EReal) ≤ Ideal.exp z := by
    intro z
    induction z using EReal.rec with
    | bot => exact le_refl _
    | coe a => exact EReal.coe_nonneg.2 (Real.exp_pos a).le
    | top => exact le_top
  have h0 : (0 : EReal) < 1 + Ideal.exp (-y) := lt_of_lt_of_le zero_lt_one (le_add_of_nonneg_right (h _))
  exact Ideal.mul_one_div h0.ne'

theorem one_word : Ideal.ofBits .f32 0x3F800000#32 = 1 := by
  pointwise []
  try rfl

variable (V0 : Valuation τ sig (Elt Ideal)) (i : Fin 32768) (d : Fin 1024)

theorem v117_at : res_main_v117 V0 (ix2 i d) = term V0 i 0 d + term V0 i 1 d + term V0 i 2 d + term V0 i 3 d + term V0 i 4 d := by
  unfold term Moe.ff
  simp only [← silu]
  unfold res_main_v117 res_main_v45 res_main_v60 res_main_v75 res_main_v90 res_main_v105
  generalize res_main_v41 V0 = M
  pointwise []
  try rfl

theorem v192_at : res_main_v192 V0 (ix2 i d) = @id EReal ((res_main_v117 V0 : Vec Ideal S32768x1024 .f32) (ix2 i d)) + term V0 i 5 d + term V0 i 6 d + term V0 i 7 d + term V0 i 8 d + term V0 i 9 d := by
  unfold term Moe.ff
  simp only [← silu]
  unfold res_main_v192 res_main_v120 res_main_v135 res_main_v150 res_main_v165 res_main_v180
  generalize res_main_v41 V0 = M
  generalize res_main_v117 V0 = N
  pointwise []
  try rfl

theorem v267_at : res_main_v267 V0 (ix2 i d) = @id EReal ((res_main_v192 V0 : Vec Ideal S32768x1024 .f32) (ix2 i d)) + term V0 i 10 d + term V0 i 11 d + term V0 i 12 d + term V0 i 13 d + term V0 i 14 d := by
  unfold term Moe.ff
  simp only [← silu]
  unfold res_main_v267 res_main_v195 res_main_v210 res_main_v225 res_main_v240 res_main_v255
  generalize res_main_v41 V0 = M
  generalize res_main_v192 V0 = N
  pointwise []
  try rfl

/-- The row before the layer norm. -/
def zref (V0 : Valuation τ sig (Elt Ideal)) (i : Fin 32768) (d : Fin 1024) : EReal :=
  @HMul.hMul EReal EReal EReal _ Row.alpha ((V0 (Proc.devRef .tc main_arg0) : Vec Ideal S32768x1024 .f32) (ix2 i d)) + ∑ e : Fin 16, term V0 i e d

theorem v285_at : res_main_v285 V0 (ix2 i d) = zref V0 i d := by
  have h : res_main_v285 V0 (ix2 i d) = @HMul.hMul EReal EReal EReal _ Row.alpha ((V0 (Proc.devRef .tc main_arg0) : Vec Ideal S32768x1024 .f32) (ix2 i d))
      + (@id EReal ((res_main_v267 V0 : Vec Ideal S32768x1024 .f32) (ix2 i d)) + term V0 i 15 d) := by
    unfold term Moe.ff
    simp only [← silu]
    unfold res_main_v285 res_main_v270
    generalize res_main_v41 V0 = M
    generalize res_main_v267 V0 = N
    pointwise []
    try rfl
  rw [h, v267_at, v192_at, v117_at]
  unfold zref
  congr 1
  rw [Fin.sum_univ_castSucc, Fin.sum_univ_castSucc, Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc, Fin.sum_univ_castSucc, Fin.sum_univ_castSucc, Fin.sum_univ_castSucc, Fin.sum_univ_zero, zero_add]
  rfl

end Cert.Proof.MoeRef

end
-- ==== Proof.Moe.RefNorm.lean ====
/- The reference's layer norm. -/
module

public import proofs.«01_k».proof.Proof.Moe.RefTerm
public import Idealize.ShloMosaic.Lib.Pointwise
public import Idealize.ShloMosaic.Lib.Tactic

@[expose] public section

set_option maxRecDepth 65536

noncomputable section

namespace Cert.Proof.MoeRef

open Cert.ReferenceIdeal Cert.ReferenceIdeal.Gen Cert.ReferenceIdeal.Value
open Idealize.ShloMosaic
open Cert.Proof.Moe (top second top_first second_next First Next sorted_of weight ratio share bot_word fold_max_of div_coe exp_coe)

variable (V0 : Valuation τ sig (Elt Ideal))

/-- The result of the reference, as an array. -/
def res : Vec Ideal S32768x1024 .f32 :=
  addf (mulf (mulf (subf (res_main_v285 V0) (broadcastInDim S32768x1024 ![0, 1] bcast_S32768x1_S32768x1024_0_1 (res_main_v289 V0))) (broadcastInDim S32768x1024 ![0, 1] bcast_S32768x1_S32768x1024_0_1 (Host.rsqrt (addf (Host.divf (broadcastInDim S32768x1 ![0] bcast_S32768_S32768x1_0 (Host.reduceAdd (mulf (res_main_v291 V0) (res_main_v291 V0)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 (V0 (Proc.devRef .tc main_arg8))))) (broadcastInDim S32768x1024 ![0, 1] bcast_S1x1024_S32768x1024_0_1 (broadcastInDim S1x1024 ![1] bcast_S1024_S1x1024_1 (V0 (Proc.devRef .tc main_arg9))))

theorem res_at (i : Fin 32768) (d : Fin 1024) : res V0 (ix2 i d) = Cert.Proof.Row.lnorm (zref V0 i) ((V0 (Proc.devRef .tc main_arg8) : Vec Ideal S1024 .f32) (ix1 d)) ((V0 (Proc.devRef .tc main_arg9) : Vec Ideal S1024 .f32) (ix1 d)) d := by
  have h := fun l => v285_at V0 i l
  have e : zref V0 i = fun l => (res_main_v285 V0 : Vec Ideal S32768x1024 .f32) (ix2 i l) := funext fun l => (h l).symm
  rw [e]
  unfold res Cert.Proof.Row.lnorm Cert.Proof.Row.var Cert.Proof.Row.mean
  unfold res_main_v291 res_main_v289
  generalize res_main_v285 V0 = M
  pointwise []
  try rfl

end Cert.Proof.MoeRef

end
-- ==== Proof.Moe.Algebraic.lean ====
/- The routed layer's claim: the kernel's result is the reference's. -/
module

public import proofs.«01_k».proof.Defs
public import proofs.«01_k».proof.Proof.Gen.ReferenceIdeal.Run
public import proofs.«01_k».proof.Proof.Moe.Frame
public import proofs.«01_k».proof.Proof.Moe.Out
public import proofs.«01_k».proof.Proof.Moe.Pre
public import proofs.«01_k».proof.Proof.Moe.RefShare
public import proofs.«01_k».proof.Proof.Moe.RefNorm

@[expose] public section

set_option maxRecDepth 65536

noncomputable section

namespace Cert.Proof.Moe

open Idealize.ShloMosaic Idealize.ShloMosaic.TcCoe Idealize.SL.Sem
open Cert.Proof.MoeRef (elog term zref res)

section Agree
open Cert.KernelIdeal Cert.KernelIdeal.Gen

variable (m : (ℓ : Loc nD τ sig) → Buf (Elt Ideal) ℓ) (c : Dev nD) (fin : Finite m c) (V0 : Valuation Cert.ReferenceIdeal.τ Cert.ReferenceIdeal.sig (Elt Ideal))

/-- The reference starts from the kernel's arguments. -/
structure Agrees : Prop where
  h0 : (V0 (Proc.devRef .tc Cert.ReferenceIdeal.main_arg0) : Vec Ideal S32768x1024 .f32) = m ((c : Thread nD τ).loc main_arg0)
  h1 : (V0 (Proc.devRef .tc Cert.ReferenceIdeal.main_arg1) : Vec Ideal S1024x4 .f32) = m ((c : Thread nD τ).loc main_arg1)
  h2 : (V0 (Proc.devRef .tc Cert.ReferenceIdeal.main_arg2) : Vec Ideal S4 .f32) = m ((c : Thread nD τ).loc main_arg2)
  h3 : (V0 (Proc.devRef .tc Cert.ReferenceIdeal.main_arg3) : Vec Ideal S1024x16 .f32) = m ((c : Thread nD τ).loc main_arg3)
  h4 : (V0 (Proc.devRef .tc Cert.ReferenceIdeal.main_arg4) : Vec Ideal S16 .f32) = m ((c : Thread nD τ).loc main_arg4)
  h5 : (V0 (Proc.devRef .tc Cert.ReferenceIdeal.main_arg5) : Vec Ideal S16x1024x512 .f32) = m ((c : Thread nD τ).loc main_arg5)
  h6 : (V0 (Proc.devRef .tc Cert.ReferenceIdeal.main_arg6) : Vec Ideal S16x1024x512 .f32) = m ((c : Thread nD τ).loc main_arg6)
  h7 : (V0 (Proc.devRef .tc Cert.ReferenceIdeal.main_arg7) : Vec Ideal S16x512x1024 .f32) = m ((c : Thread nD τ).loc main_arg7)
  h8 : (V0 (Proc.devRef .tc Cert.ReferenceIdeal.main_arg8) : Vec Ideal S1024 .f32) = m ((c : Thread nD τ).loc main_arg8)
  h9 : (V0 (Proc.devRef .tc Cert.ReferenceIdeal.main_arg9) : Vec Ideal S1024 .f32) = m ((c : Thread nD τ).loc main_arg9)

variable (ag : Agrees m c V0)

include fin in
/-- A lane's logit, as the sum it is. -/
theorem lane_logit (i : Fin 32768) (l : Fin 128) (w : Fin 1024 → EReal) (b : EReal) (hw : ∀ k, (V m c main_v1 : Vec Ideal S1024x128 .f32) (ix2 k l) = w k)
    (hb : (V m c main_v4 : Vec Ideal S1x128 .f32) (ix2 0 l) = b) : (∑ k : Fin 1024, xrow m c i k * w k) + b = ((lg m c i l : ℝ) : EReal) := by
  obtain rfl : (fun k => ((V m c main_v1 : Vec Ideal S1024x128 .f32) (ix2 k l) : EReal)) = w := funext hw
  subst hb
  exact logit_real (xrow m c i) _ _ (fin.hx i) (fun k => fin.hw k l) (fin.hb l)

include fin ag in
theorem group_logit (i : Fin 32768) (k : Fin 4) : (Cert.ReferenceIdeal.Value.res_main_v3 V0 : Vec Ideal Cert.ReferenceIdeal.S32768x4 .f32) (ix2 i k) = ((groups (lg m c i) k : ℝ) : EReal) := by
  refine (Cert.Proof.MoeRef.v3_at V0 i k).trans ?_
  rw [ag.h0, ag.h1, ag.h2]
  refine (lane_logit m c fin i ⟨k.val, by omega⟩ _ _ (fun l => wr_group m c l k) (br_group m c k)).trans ?_
  refine congrArg (fun l : Fin 128 => ((lg m c i l : ℝ) : EReal)) (Fin.ext ?_)
  show k.val = 0 + k.val
  omega

include fin ag in
theorem expert_logit (i : Fin 32768) (g j : Fin 4) : elog i V0 ⟨4 * g.val + j.val, by omega⟩ = ((experts (lg m c i) g j : ℝ) : EReal) := by
  unfold elog
  rw [ag.h0, ag.h3, ag.h4]
  refine (lane_logit m c fin i ⟨4 + (4 * g.val + j.val), by omega⟩ _ _ (fun l => wr_expert m c l ⟨4 * g.val + j.val, by omega⟩) (br_expert m c ⟨4 * g.val + j.val, by omega⟩)).trans ?_
  refine congrArg (fun l : Fin 128 => ((lg m c i l : ℝ) : EReal)) (Fin.ext ?_)
  show 4 + (4 * g.val + j.val) = 4 + 4 * g.val + j.val
  omega

include fin ag in
theorem row_eq (i : Fin 32768) : zref V0 i = zrow m c i := by
  funext d
  unfold zref zrow
  have ht : ∀ e : Fin 16, term V0 i e d = shareOf m c i e.val * ffOf m c i e d := by
    intro e
    unfold term ffOf
    rw [Cert.Proof.MoeRef.v41_at V0 i _ (group_logit m c fin V0 ag i) _ (expert_logit m c fin V0 ag i) e, ag.h0, ag.h5, ag.h6, ag.h7]
    rfl
  rw [ag.h0, Finset.sum_congr rfl fun e _ => ht e]
  rfl

include fin ag in
theorem res_eq : res V0 = gout m c := by
  funext idx
  obtain ⟨i, d, rfl⟩ : ∃ (i : Fin 32768) (d : Fin 1024), idx = (ix2 i d : S32768x1024.Idx) := ⟨idx 0, idx 1, by funext a; match a with | ⟨0, _⟩ => rfl | ⟨1, _⟩ => rfl⟩
  refine (Cert.Proof.MoeRef.res_at V0 i d).trans ?_
  rw [row_eq m c fin V0 ag, ag.h8, ag.h9]
  rfl

end Agree

section Run
open Cert.KernelIdeal Cert.KernelIdeal.Gen

variable (m : (ℓ : Loc nD τ sig) → Buf (Elt Ideal) ℓ) (ρ : Dev nD → PrngReg)

/-- The kernel's run ends with the result array at `gout` and its arguments unchanged. -/
theorem run_result (fin : ∀ c, Finite m c) : θ_run defs (onTc (τ := τ) (main (F := Ideal))) ⟨m, fun _ => 0, ρ⟩ (fun r => ∀ c : Dev nD,
      r.2.mem ((c.tc : Thread nD τ).loc main_v10) = gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_main (F := Ideal) m ρ (fun g => fits_of (counted_ideal g)))
  have hc := h.1 c
  refine ⟨arr_final m c (fin c) _ (hc.1 8), ?_, (hc.2 main_arg1 (Pipeline.mem_restRefs_of main_arg1 (by decide) (by decide))).trans (V_main_arg1 m c),
    (hc.2 main_arg2 (Pipeline.mem_restRefs_of main_arg2 (by decide) (by decide))).trans (V_main_arg2 m c),
    (hc.2 main_arg3 (Pipeline.mem_restRefs_of main_arg3 (by decide) (by decide))).trans (V_main_arg3 m c),
    (hc.2 main_arg4 (Pipeline.mem_restRefs_of main_arg4 (by decide) (by decide))).trans (V_main_arg4 m c),
    (hc.2 main_arg5 (Pipeline.mem_restRefs_of main_arg5 (by decide) (by decide))).trans (V_main_arg5 m c),
    (hc.2 main_arg6 (Pipeline.mem_restRefs_of main_arg6 (by decide) (by decide))).trans (V_main_arg6 m c),
    (hc.2 main_arg7 (Pipeline.mem_restRefs_of main_arg7 (by decide) (by decide))).trans (V_main_arg7 m c),
    (hc.2 main_arg8 (Pipeline.mem_restRefs_of main_arg8 (by decide) (by decide))).trans (V_main_arg8 m c),
    (hc.2 main_arg9 (Pipeline.mem_restRefs_of main_arg9 (by decide) (by decide))).trans (V_main_arg9 m c)⟩
  have h0 := hc.1 0
  rw [Pipeline.RDat.ArrAt_in (rd := rdat m c) 0 rfl] at h0
  exact h0.trans (V_main_arg0 m c)

end Run

section Claims
local instance : Cert.Pre_finite_router.Facts := pre_facts

theorem frame_pi_pre : Cert.quiescent_KernelIdeal_pre_finite_router := fun m ρ _ => frame_pi m ρ trivial

theorem frame_ri_pre : Cert.quiescent_ReferenceIdeal_pre_finite_router := fun m ρ _ => frame_ri m ρ trivial

/-- Both runs end with the result array at `gout` of the kernel's arguments. -/
theorem algebraic : Cert.algebraic_KernelIdeal_ReferenceIdeal_pre_finite_router := by
  intro m ρ m' ρ' hpre hagree
  have fin : ∀ c, Finite m c := fun c => finite_of m c hpre
  refine ⟨fun c => gout m c, ?_, ?_⟩
  · exact run_result m ρ fin
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    exact res_eq m c (fin c) (Idealize.ShloMosaic.StableHlo.launchContents m' c) ⟨h0, h1, h2, h3, h4, h5, h6, h7, h8, h9⟩

end Claims

end Cert.Proof.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.MergeClaims
public import proofs.«01_k».proof.Proof.Moe.Frame
public import proofs.«01_k».proof.Proof.Moe.Pre
public import proofs.«01_k».proof.Proof.Moe.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Moe.pre_facts,
    Moe.frame_p, Moe.frame_pi, Moe.frame_pi_pre, Moe.frame_ri, Moe.frame_ri_pre, Merge.frame_p, Merge.frame_pi, Merge.frame_ri,
    trivial, Moe.algebraic, trivial, Merge.algebraic⟩

end Cert.Proof

end
